-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S512x2048 : Shape := ⟨2, ![512, 2048]⟩
abbrev S2048x100000 : Shape := ⟨2, ![2048, 100000]⟩
abbrev S100000 : Shape := ⟨1, ![100000]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel
  bcast_S_S2048x100000 : S_.BroadcastsInDim S2048x100000 (![] : Fin 0 → Fin S2048x100000.rank)
  reducesTo_S2048x100000_S_d0_1 : S2048x100000.ReducesTo [0, 1] S_
  bcast_S_S100000 : S_.BroadcastsInDim S100000 (![] : Fin 0 → Fin S100000.rank)
  reducesTo_S100000_S_d0 : S100000.ReducesTo [0] S_

variable [Facts]

def fn_part1 {F : FTy → Type} [FloatOps F] (main_arg2 : FVec F S100000 .f32) (main_v12 : IVec S_ 1) (main_v14 : IVec S100000 1) (main_v15 : FVec F S100000 .f32) : IVec S_ 1 :=
  let main_v16 : IVec S100000 1 := cmpf .olt main_arg2 main_v15
  let main_v17 : IVec S100000 1 := andi main_v14 main_v16
  let main_c_6 : IVec S_ 1 := constantI S_ 1 1#1
  let main_v18 : IVec S_ 1 := (fun x v => Host.reduce IntOp.andi x v reducesTo_S100000_S_d0 h_S_) main_v17 main_c_6
  let main_v19 : IVec S_ 1 := andi main_v12 main_v18
  main_v19

def fn {F : FTy → Type} [FloatOps F] (main_arg0 : FVec F S512x2048 .f32) (main_arg1 : FVec F S2048x100000 .f32) (main_arg2 : FVec F S100000 .f32) : IVec S_ 1 :=
  let main_cst : FVec F S_ .f32 := constant S_ .f32 0xFF800000#32
  let main_v0 : FVec F S512x2048 .f32 := broadcastInDim S512x2048 ![] bcast_S_S512x2048 main_cst
  let main_v1 : IVec S512x2048 1 := cmpf .ogt main_arg0 main_v0
  let main_cst_0 : FVec F S_ .f32 := constant S_ .f32 0x7F800000#32
  let main_v2 : FVec F S512x2048 .f32 := broadcastInDim S512x2048 ![] bcast_S_S512x2048 main_cst_0
  let main_v3 : IVec S512x2048 1 := cmpf .olt main_arg0 main_v2
  let main_v4 : IVec S512x2048 1 := andi main_v1 main_v3
  let main_c : IVec S_ 1 := constantI S_ 1 1#1
  let main_v5 : IVec S_ 1 := (fun x v => Host.reduce IntOp.andi x v reducesTo_S512x2048_S_d0_1 h_S_) main_v4 main_c
  let main_cst_1 : FVec F S_ .f32 := constant S_ .f32 0xFF800000#32
  let main_v6 : FVec F S2048x100000 .f32 := broadcastInDim S2048x100000 ![] bcast_S_S2048x100000 main_cst_1
  let main_v7 : IVec S2048x100000 1 := cmpf .ogt main_arg1 main_v6
  let main_cst_2 : FVec F S_ .f32 := constant S_ .f32 0x7F800000#32
  let main_v8 : FVec F S2048x100000 .f32 := broadcastInDim S2048x100000 ![] bcast_S_S2048x100000 main_cst_2
  let main_v9 : IVec S2048x100000 1 := cmpf .olt main_arg1 main_v8
  let main_v10 : IVec S2048x100000 1 := andi main_v7 main_v9
  let main_c_3 : IVec S_ 1 := constantI S_ 1 1#1
  let main_v11 : IVec S_ 1 := (fun x v => Host.reduce IntOp.andi x v reducesTo_S2048x100000_S_d0_1 h_S_) main_v10 main_c_3
  let main_v12 : IVec S_ 1 := andi main_v5 main_v11
  let main_cst_4 : FVec F S_ .f32 := constant S_ .f32 0xFF800000#32
  let main_v13 : FVec F S100000 .f32 := broadcastInDim S100000 ![] bcast_S_S100000 main_cst_4
  let main_v14 : IVec S100000 1 := cmpf .ogt main_arg2 main_v13
  let main_cst_5 : FVec F S_ .f32 := constant S_ .f32 0x7F800000#32
  let main_v15 : FVec F S100000 .f32 := broadcastInDim S100000 ![] bcast_S_S100000 main_cst_5
  fn_part1 (F := F) main_arg2 main_v12 main_v14 main_v15
-- ==== Kernel.lean ====
abbrev S512x2048 : Shape := ⟨2, ![512, 2048]⟩
abbrev S2048x100000 : Shape := ⟨2, ![2048, 100000]⟩
abbrev S100000 : Shape := ⟨1, ![100000]⟩
abbrev S1x100000 : Shape := ⟨2, ![1, 100000]⟩
abbrev S98x512x1 : Shape := ⟨3, ![98, 512, 1]⟩
abbrev S2048x1024 : Shape := ⟨2, ![2048, 1024]⟩
abbrev S1x1024 : Shape := ⟨2, ![1, 1024]⟩
abbrev S1x512x1 : Shape := ⟨3, ![1, 512, 1]⟩
abbrev S512x1024 : Shape := ⟨2, ![512, 1024]⟩
abbrev S512 : Shape := ⟨1, ![512]⟩
abbrev S512x1 : Shape := ⟨2, ![512, 1]⟩
abbrev S512x100000 : Shape := ⟨2, ![512, 100000]⟩
abbrev S512x4096 : Shape := ⟨2, ![512, 4096]⟩

abbrev nBuf : Space → Nat
  | .hbm => 8
  | .vmem => 15
  | .smem => 0
  | _ => 0

abbrev bufTy : (tb : Table) → Fin (tcTables nBuf tb) → BufTy
  | .hbm, ⟨0, _⟩ => ⟨S512x2048, .f32⟩
  | .hbm, ⟨1, _⟩ => ⟨S2048x100000, .f32⟩
  | .hbm, ⟨2, _⟩ => ⟨S100000, .f32⟩
  | .hbm, ⟨3, _⟩ => ⟨S1x100000, .f32⟩
  | .hbm, ⟨4, _⟩ => ⟨S98x512x1, .f32⟩
  | .hbm, ⟨5, _⟩ => ⟨S98x512x1, .i32⟩
  | .hbm, ⟨6, _⟩ => ⟨S512x1, .i32⟩
  | .hbm, ⟨7, _⟩ => ⟨S512x100000, .f32⟩
  | .local _ .vmem, ⟨0, _⟩ => ⟨S512x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S1x512x1, .f32⟩
  | .local _ .vmem, ⟨6, _⟩ => ⟨S1x512x1, .f32⟩
  | .local _ .vmem, ⟨7, _⟩ => ⟨S1x512x1, .i32⟩
  | .local _ .vmem, ⟨8, _⟩ => ⟨S1x512x1, .i32⟩
  | .local _ .vmem, ⟨9, _⟩ => ⟨S98x512x1, .f32⟩
  | .local _ .vmem, ⟨10, _⟩ => ⟨S98x512x1, .i32⟩
  | .local _ .vmem, ⟨11, _⟩ => ⟨S512x1, .i32⟩
  | .local _ .vmem, ⟨12, _⟩ => ⟨S512x1, .i32⟩
  | .local _ .vmem, ⟨13, _⟩ => ⟨S512x4096, .f32⟩
  | .local _ .vmem, ⟨14, _⟩ => ⟨S512x4096, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg1_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem2_0 : DmaSem sig := 11
abbrev cc2_sem0_0 : DmaSem sig := 12
abbrev cc2_sem1_0 : DmaSem sig := 13
abbrev cc2_sem1_1 : DmaSem sig := 14

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S98x512x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S98x512x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x1 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S512x1 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S512x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]
-- ==== ReferenceIdeal.lean ====
abbrev S512x2048 : Shape := ⟨2, ![512, 2048]⟩
abbrev S2048x100000 : Shape := ⟨2, ![2048, 100000]⟩
abbrev S100000 : Shape := ⟨1, ![100000]⟩
abbrev S512x100000 : Shape := ⟨2, ![512, 100000]⟩
abbrev S1x100000 : Shape := ⟨2, ![1, 100000]⟩
abbrev S_ : Shape := ⟨0, ![]⟩
abbrev S1 : Shape := ⟨1, ![1]⟩
abbrev S2 : Shape := ⟨1, ![2]⟩
abbrev S1x1 : Shape := ⟨2, ![1, 1]⟩
abbrev S512 : Shape := ⟨1, ![512]⟩
abbrev S512x1 : Shape := ⟨2, ![512, 1]⟩

abbrev nBuf : Space → Nat
  | .hbm => 337
  | .vmem => 0
  | .smem => 0
  | _ => 0

abbrev hbmTy0_0 (i : Nat) : BufTy := match i % 128 with
  | 0 => ⟨S512x2048, .f32⟩
  | 1 => ⟨S2048x100000, .f32⟩
  | 2 => ⟨S100000, .f32⟩
  | 3 => ⟨S512x100000, .f32⟩
  | 4 => ⟨S1x100000, .f32⟩
  | 5 => ⟨S512x100000, .f32⟩
  | 6 => ⟨S512x100000, .f32⟩
  | 7 => ⟨S_, .i32⟩
  | 8 => ⟨S_, .i32⟩
  | 9 => ⟨S_, .i32⟩
  | 10 => ⟨S_, .i32⟩
  | 11 => ⟨S1, .i32⟩
  | 12 => ⟨S_, .i32⟩
  | 13 => ⟨S_, .i32⟩
  | 14 => ⟨S_, .i32⟩
  | 15 => ⟨S1, .i32⟩
  | 16 => ⟨S2, .i32⟩
  | 17 => ⟨S_, .f32⟩
  | 18 => ⟨S_, .f32⟩
  | 19 => ⟨S_, .f32⟩
  | 20 => ⟨S_, .f32⟩
  | 21 => ⟨S1x1, .f32⟩
  | 22 => ⟨S1x1, .f32⟩
  | 23 => ⟨S1, .i32⟩
  | 24 => ⟨S_, .i32⟩
  | 25 => ⟨S1, .i32⟩
  | 26 => ⟨S_, .i32⟩
  | 27 => ⟨S512x100000, .i64⟩
  | 28 => ⟨S512x100000, .i64⟩
  | 29 => ⟨S_, .i64⟩
  | 30 => ⟨S512x100000, .i64⟩
  | 31 => ⟨S512x100000, .i64⟩
  | 32 => ⟨S_, .i64⟩
  | 33 => ⟨S512x100000, .i64⟩
  | 34 => ⟨S512x100000, .i64⟩
  | 35 => ⟨S512x100000, .i64⟩
  | 36 => ⟨S_, .i64⟩
  | 37 => ⟨S512x100000, .i64⟩
  | 38 => ⟨S512x100000, .i64⟩
  | 39 => ⟨S512x100000, .i32⟩
  | 40 => ⟨S512x100000, .i32⟩
  | 41 => ⟨S_, .i32⟩
  | 42 => ⟨S_, .i32⟩
  | 43 => ⟨S_, .i32⟩
  | 44 => ⟨S512x100000, .i32⟩
  | 45 => ⟨S512x100000, .i32⟩
  | 46 => ⟨S512x100000, .i32⟩
  | 47 => ⟨S512x100000, .i32⟩
  | 48 => ⟨S512x100000, .i32⟩
  | 49 => ⟨S_, .i32⟩
  | 50 => ⟨S512x100000, .i32⟩
  | 51 => ⟨S512x100000, .i32⟩
  | 52 => ⟨S_, .i32⟩
  | 53 => ⟨S512x100000, .i32⟩
  | 54 => ⟨S512x100000, .i32⟩
  | 55 => ⟨S512x100000, .i32⟩
  | 56 => ⟨S512x100000, .i32⟩
  | 57 => ⟨S512x100000, .i32⟩
  | 58 => ⟨S_, .i32⟩
  | 59 => ⟨S512x100000, .i32⟩
  | 60 => ⟨S512x100000, .i32⟩
  | 61 => ⟨S_, .i32⟩
  | 62 => ⟨S512x100000, .i32⟩
  | 63 => ⟨S512x100000, .i32⟩
  | 64 => ⟨S512x100000, .i32⟩
  | 65 => ⟨S512x100000, .i32⟩
  | 66 => ⟨S512x100000, .i32⟩
  | 67 => ⟨S_, .i32⟩
  | 68 => ⟨S512x100000, .i32⟩
  | 69 => ⟨S512x100000, .i32⟩
  | 70 => ⟨S_, .i32⟩
  | 71 => ⟨S512x100000, .i32⟩
  | 72 => ⟨S512x100000, .i32⟩
  | 73 => ⟨S512x100000, .i32⟩
  | 74 => ⟨S512x100000, .i32⟩
  | 75 => ⟨S512x100000, .i32⟩
  | 76 => ⟨S_, .i32⟩
  | 77 => ⟨S512x100000, .i32⟩
  | 78 => ⟨S512x100000, .i32⟩
  | 79 => ⟨S_, .i32⟩
  | 80 => ⟨S512x100000, .i32⟩
  | 81 => ⟨S512x100000, .i32⟩
  | 82 => ⟨S512x100000, .i32⟩
  | 83 => ⟨S512x100000, .i32⟩
  | 84 => ⟨S512x100000, .i32⟩
  | 85 => ⟨S512x100000, .i32⟩
  | 86 => ⟨S512x100000, .i32⟩
  | 87 => ⟨S512x100000, .i32⟩
  | 88 => ⟨S_, .i32⟩
  | 89 => ⟨S512x100000, .i32⟩
  | 90 => ⟨S512x100000, .i32⟩
  | 91 => ⟨S512x100000, .i32⟩
  | 92 => ⟨S_, .i32⟩
  | 93 => ⟨S512x100000, .i32⟩
  | 94 => ⟨S512x100000, .i32⟩
  | 95 => ⟨S_, .i32⟩
  | 96 => ⟨S512x100000, .i32⟩
  | 97 => ⟨S512x100000, .i32⟩
  | 98 => ⟨S512x100000, .i32⟩
  | 99 => ⟨S512x100000, .i32⟩
  | 100 => ⟨S512x100000, .i32⟩
  | 101 => ⟨S_, .i32⟩
  | 102 => ⟨S512x100000, .i32⟩
  | 103 => ⟨S512x100000, .i32⟩
  | 104 => ⟨S_, .i32⟩
  | 105 => ⟨S512x100000, .i32⟩
  | 106 => ⟨S512x100000, .i32⟩
  | 107 => ⟨S512x100000, .i32⟩
  | 108 => ⟨S512x100000, .i32⟩
  | 109 => ⟨S512x100000, .i32⟩
  | 110 => ⟨S_, .i32⟩
  | 111 => ⟨S512x100000, .i32⟩
  | 112 => ⟨S512x100000, .i32⟩
  | 113 => ⟨S_, .i32⟩
  | 114 => ⟨S512x100000, .i32⟩
  | 115 => ⟨S512x100000, .i32⟩
  | 116 => ⟨S512x100000, .i32⟩
  | 117 => ⟨S512x100000, .i32⟩
  | 118 => ⟨S512x100000, .i32⟩
  | 119 => ⟨S_, .i32⟩
  | 120 => ⟨S512x100000, .i32⟩
  | 121 => ⟨S512x100000, .i32⟩
  | 122 => ⟨S_, .i32⟩
  | 123 => ⟨S512x100000, .i32⟩
  | 124 => ⟨S512x100000, .i32⟩
  | 125 => ⟨S512x100000, .i32⟩
  | 126 => ⟨S512x100000, .i32⟩
  | 127 => ⟨S512x100000, .i32⟩
  | _ => ⟨S512x2048, .f32⟩

abbrev hbmTy0_1 (i : Nat) : BufTy := match i % 128 with
  | 0 => ⟨S512x100000, .i32⟩
  | 1 => ⟨S512x100000, .i32⟩
  | 2 => ⟨S512x100000, .i32⟩
  | 3 => ⟨S_, .i32⟩
  | 4 => ⟨S512x100000, .i32⟩
  | 5 => ⟨S512x100000, .i32⟩
  | 6 => ⟨S512x100000, .i32⟩
  | 7 => ⟨S_, .i32⟩
  | 8 => ⟨S512x100000, .i32⟩
  | 9 => ⟨S512x100000, .i32⟩
  | 10 => ⟨S_, .i32⟩
  | 11 => ⟨S512x100000, .i32⟩
  | 12 => ⟨S512x100000, .i32⟩
  | 13 => ⟨S512x100000, .i32⟩
  | 14 => ⟨S512x100000, .i32⟩
  | 15 => ⟨S512x100000, .i32⟩
  | 16 => ⟨S_, .i32⟩
  | 17 => ⟨S512x100000, .i32⟩
  | 18 => ⟨S512x100000, .i32⟩
  | 19 => ⟨S_, .i32⟩
  | 20 => ⟨S512x100000, .i32⟩
  | 21 => ⟨S512x100000, .i32⟩
  | 22 => ⟨S512x100000, .i32⟩
  | 23 => ⟨S512x100000, .i32⟩
  | 24 => ⟨S512x100000, .i32⟩
  | 25 => ⟨S_, .i32⟩
  | 26 => ⟨S512x100000, .i32⟩
  | 27 => ⟨S512x100000, .i32⟩
  | 28 => ⟨S_, .i32⟩
  | 29 => ⟨S512x100000, .i32⟩
  | 30 => ⟨S512x100000, .i32⟩
  | 31 => ⟨S512x100000, .i32⟩
  | 32 => ⟨S512x100000, .i32⟩
  | 33 => ⟨S512x100000, .i32⟩
  | 34 => ⟨S_, .i32⟩
  | 35 => ⟨S512x100000, .i32⟩
  | 36 => ⟨S512x100000, .i32⟩
  | 37 => ⟨S_, .i32⟩
  | 38 => ⟨S512x100000, .i32⟩
  | 39 => ⟨S512x100000, .i32⟩
  | 40 => ⟨S512x100000, .i32⟩
  | 41 => ⟨S512x100000, .i32⟩
  | 42 => ⟨S512x100000, .i32⟩
  | 43 => ⟨S512x100000, .i32⟩
  | 44 => ⟨S512x100000, .i32⟩
  | 45 => ⟨S512x100000, .i32⟩
  | 46 => ⟨S_, .i32⟩
  | 47 => ⟨S512x100000, .i32⟩
  | 48 => ⟨S512x100000, .i32⟩
  | 49 => ⟨S512x100000, .i32⟩
  | 50 => ⟨S_, .i32⟩
  | 51 => ⟨S512x100000, .i32⟩
  | 52 => ⟨S512x100000, .i32⟩
  | 53 => ⟨S_, .i32⟩
  | 54 => ⟨S512x100000, .i32⟩
  | 55 => ⟨S512x100000, .i32⟩
  | 56 => ⟨S512x100000, .i32⟩
  | 57 => ⟨S512x100000, .i32⟩
  | 58 => ⟨S512x100000, .i32⟩
  | 59 => ⟨S_, .i32⟩
  | 60 => ⟨S512x100000, .i32⟩
  | 61 => ⟨S512x100000, .i32⟩
  | 62 => ⟨S_, .i32⟩
  | 63 => ⟨S512x100000, .i32⟩
  | 64 => ⟨S512x100000, .i32⟩
  | 65 => ⟨S512x100000, .i32⟩
  | 66 => ⟨S512x100000, .i32⟩
  | 67 => ⟨S512x100000, .i32⟩
  | 68 => ⟨S_, .i32⟩
  | 69 => ⟨S512x100000, .i32⟩
  | 70 => ⟨S512x100000, .i32⟩
  | 71 => ⟨S_, .i32⟩
  | 72 => ⟨S512x100000, .i32⟩
  | 73 => ⟨S512x100000, .i32⟩
  | 74 => ⟨S512x100000, .i32⟩
  | 75 => ⟨S512x100000, .i32⟩
  | 76 => ⟨S512x100000, .i32⟩
  | 77 => ⟨S_, .i32⟩
  | 78 => ⟨S512x100000, .i32⟩
  | 79 => ⟨S512x100000, .i32⟩
  | 80 => ⟨S_, .i32⟩
  | 81 => ⟨S512x100000, .i32⟩
  | 82 => ⟨S512x100000, .i32⟩
  | 83 => ⟨S512x100000, .i32⟩
  | 84 => ⟨S512x100000, .i32⟩
  | 85 => ⟨S512x100000, .i32⟩
  | 86 => ⟨S512x100000, .i32⟩
  | 87 => ⟨S512x100000, .i32⟩
  | 88 => ⟨S512x100000, .i32⟩
  | 89 => ⟨S_, .i32⟩
  | 90 => ⟨S512x100000, .i32⟩
  | 91 => ⟨S512x100000, .i32⟩
  | 92 => ⟨S512x100000, .i32⟩
  | 93 => ⟨S_, .i32⟩
  | 94 => ⟨S512x100000, .i32⟩
  | 95 => ⟨S512x100000, .i32⟩
  | 96 => ⟨S_, .i32⟩
  | 97 => ⟨S512x100000, .i32⟩
  | 98 => ⟨S512x100000, .i32⟩
  | 99 => ⟨S512x100000, .i32⟩
  | 100 => ⟨S512x100000, .i32⟩
  | 101 => ⟨S512x100000, .i32⟩
  | 102 => ⟨S_, .i32⟩
  | 103 => ⟨S512x100000, .i32⟩
  | 104 => ⟨S512x100000, .i32⟩
  | 105 => ⟨S_, .i32⟩
  | 106 => ⟨S512x100000, .i32⟩
  | 107 => ⟨S512x100000, .i32⟩
  | 108 => ⟨S512x100000, .i32⟩
  | 109 => ⟨S512x100000, .i32⟩
  | 110 => ⟨S512x100000, .i32⟩
  | 111 => ⟨S_, .i32⟩
  | 112 => ⟨S512x100000, .i32⟩
  | 113 => ⟨S512x100000, .i32⟩
  | 114 => ⟨S_, .i32⟩
  | 115 => ⟨S512x100000, .i32⟩
  | 116 => ⟨S512x100000, .i32⟩
  | 117 => ⟨S512x100000, .i32⟩
  | 118 => ⟨S512x100000, .i32⟩
  | 119 => ⟨S512x100000, .i32⟩
  | 120 => ⟨S_, .i32⟩
  | 121 => ⟨S512x100000, .i32⟩
  | 122 => ⟨S512x100000, .i32⟩
  | 123 => ⟨S_, .i32⟩
  | 124 => ⟨S512x100000, .i32⟩
  | 125 => ⟨S512x100000, .i32⟩
  | 126 => ⟨S512x100000, .i32⟩
  | 127 => ⟨S512x100000, .i32⟩
  | _ => ⟨S512x2048, .f32⟩

abbrev hbmTy0_2 (i : Nat) : BufTy := match i % 128 with
  | 0 => ⟨S512x100000, .i32⟩
  | 1 => ⟨S512x100000, .i32⟩
  | 2 => ⟨S512x100000, .i32⟩
  | 3 => ⟨S512x100000, .i32⟩
  | 4 => ⟨S_, .i32⟩
  | 5 => ⟨S512x100000, .i32⟩
  | 6 => ⟨S512x100000, .i32⟩
  | 7 => ⟨S512x100000, .i32⟩
  | 8 => ⟨S_, .i32⟩
  | 9 => ⟨S512x100000, .i32⟩
  | 10 => ⟨S512x100000, .i32⟩
  | 11 => ⟨S_, .i32⟩
  | 12 => ⟨S512x100000, .i32⟩
  | 13 => ⟨S512x100000, .i32⟩
  | 14 => ⟨S512x100000, .f32⟩
  | 15 => ⟨S_, .f32⟩
  | 16 => ⟨S512x100000, .f32⟩
  | 17 => ⟨S512x100000, .f32⟩
  | 18 => ⟨S1x1, .f32⟩
  | 19 => ⟨S512x100000, .f32⟩
  | 20 => ⟨S512x100000, .f32⟩
  | 21 => ⟨S512x100000, .f32⟩
  | 22 => ⟨S512x100000, .f32⟩
  | 23 => ⟨S512x100000, .f32⟩
  | 24 => ⟨S512x100000, .f32⟩
  | 25 => ⟨S_, .f32⟩
  | 26 => ⟨S512x100000, .f32⟩
  | 27 => ⟨S512x100000, .f32⟩
  | 28 => ⟨S_, .f32⟩
  | 29 => ⟨S512x100000, .f32⟩
  | 30 => ⟨S512x100000, .f32⟩
  | 31 => ⟨S512x100000, .f32⟩
  | 32 => ⟨S512x100000, .f32⟩
  | 33 => ⟨S512x100000, .f32⟩
  | 34 => ⟨S512x100000, .f32⟩
  | 35 => ⟨S_, .f32⟩
  | 36 => ⟨S512, .f32⟩
  | 37 => ⟨S_, .f32⟩
  | 38 => ⟨S512, .f32⟩
  | 39 => ⟨S512, .f32⟩
  | 40 => ⟨S512x1, .f32⟩
  | 41 => ⟨S512x100000, .f32⟩
  | 42 => ⟨S512x100000, .f32⟩
  | 43 => ⟨S512x100000, .f32⟩
  | 44 => ⟨S_, .f32⟩
  | 45 => ⟨S512, .f32⟩
  | 46 => ⟨S512x1, .f32⟩
  | 47 => ⟨S512x1, .f32⟩
  | 48 => ⟨S512x100000, .f32⟩
  | 49 => ⟨S512x100000, .f32⟩
  | 50 => ⟨S512x100000, .f32⟩
  | 51 => ⟨S_, .f32⟩
  | 52 => ⟨S512x100000, .f32⟩
  | 53 => ⟨S512x100000, .f32⟩
  | 54 => ⟨S_, .f32⟩
  | 55 => ⟨S512, .f32⟩
  | 56 => ⟨S_, .f32⟩
  | 57 => ⟨S512, .f32⟩
  | 58 => ⟨S512, .f32⟩
  | 59 => ⟨S512x1, .f32⟩
  | 60 => ⟨S512x100000, .f32⟩
  | 61 => ⟨S512x100000, .f32⟩
  | 62 => ⟨S512x100000, .f32⟩
  | 63 => ⟨S_, .f32⟩
  | 64 => ⟨S512, .f32⟩
  | 65 => ⟨S512x1, .f32⟩
  | 66 => ⟨S512x100000, .f32⟩
  | 67 => ⟨S512x100000, .f32⟩
  | 68 => ⟨S512x100000, .i32⟩
  | 69 => ⟨S_, .f32⟩
  | 70 => ⟨S_, .i32⟩
  | 71 => ⟨S512, .f32⟩
  | 72 => ⟨S512, .i32⟩
  | 73 => ⟨S512x1, .i32⟩
  | 74 => ⟨S1x100000, .i32⟩
  | 75 => ⟨S512x100000, .i32⟩
  | 76 => ⟨S512x100000, .i32⟩
  | 77 => ⟨S512x100000, .i1⟩
  | 78 => ⟨S512x100000, .f32⟩
  | 79 => ⟨S512x100000, .f32⟩
  | 80 => ⟨S512x100000, .f32⟩
  | _ => ⟨S512x2048, .f32⟩

abbrev hbmTy (i : Nat) : BufTy := match i / 128 with
  | 0 => hbmTy0_0 i
  | 1 => hbmTy0_1 i
  | 2 => hbmTy0_2 i
  | _ => ⟨S512x2048, .f32⟩

abbrev bufTy : (tb : Table) → Fin (tcTables nBuf tb) → BufTy
  | .hbm, ⟨i, _⟩ => hbmTy i
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_c : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_c_1 : Ref sig .tc := ⟨.hbm, 36, rfl⟩
abbrev main_call0_v15 : Ref sig .tc := ⟨.hbm, 37, rfl⟩
abbrev main_call0_v16 : Ref sig .tc := ⟨.hbm, 38, rfl⟩
abbrev main_call0_v17 : Ref sig .tc := ⟨.hbm, 39, rfl⟩
abbrev main_call0_v18 : Ref sig .tc := ⟨.hbm, 40, rfl⟩
abbrev main_call0_call0_v0 : Ref sig .tc := ⟨.hbm, 41, rfl⟩
abbrev main_call0_call0_c : Ref sig .tc := ⟨.hbm, 42, rfl⟩
abbrev main_call0_call0_v1 : Ref sig .tc := ⟨.hbm, 43, rfl⟩
abbrev main_call0_call0_v2 : Ref sig .tc := ⟨.hbm, 44, rfl⟩
abbrev main_call0_call0_v3 : Ref sig .tc := ⟨.hbm, 45, rfl⟩
abbrev main_call0_call0_v4 : Ref sig .tc := ⟨.hbm, 46, rfl⟩
abbrev main_call0_call0_v5 : Ref sig .tc := ⟨.hbm, 47, rfl⟩
abbrev main_call0_call0_v6 : Ref sig .tc := ⟨.hbm, 48, rfl⟩
abbrev main_call0_call0_c_0 : Ref sig .tc := ⟨.hbm, 49, rfl⟩
abbrev main_call0_call0_v7 : Ref sig .tc := ⟨.hbm, 50, rfl⟩
abbrev main_call0_call0_v8 : Ref sig .tc := ⟨.hbm, 51, rfl⟩
abbrev main_call0_call0_c_1 : Ref sig .tc := ⟨.hbm, 52, rfl⟩
abbrev main_call0_call0_v9 : Ref sig .tc := ⟨.hbm, 53, rfl⟩
abbrev main_call0_call0_v10 : Ref sig .tc := ⟨.hbm, 54, rfl⟩
abbrev main_call0_call0_v11 : Ref sig .tc := ⟨.hbm, 55, rfl⟩
abbrev main_call0_call0_v12 : Ref sig .tc := ⟨.hbm, 56, rfl⟩
abbrev main_call0_call0_v13 : Ref sig .tc := ⟨.hbm, 57, rfl⟩
abbrev main_call0_call0_c_2 : Ref sig .tc := ⟨.hbm, 58, rfl⟩
abbrev main_call0_call0_v14 : Ref sig .tc := ⟨.hbm, 59, rfl⟩
abbrev main_call0_call0_v15 : Ref sig .tc := ⟨.hbm, 60, rfl⟩
abbrev main_call0_call0_c_3 : Ref sig .tc := ⟨.hbm, 61, rfl⟩
abbrev main_call0_call0_v16 : Ref sig .tc := ⟨.hbm, 62, rfl⟩
abbrev main_call0_call0_v17 : Ref sig .tc := ⟨.hbm, 63, rfl⟩
abbrev main_call0_call0_v18 : Ref sig .tc := ⟨.hbm, 64, rfl⟩
abbrev main_call0_call0_v19 : Ref sig .tc := ⟨.hbm, 65, rfl⟩
abbrev main_call0_call0_v20 : Ref sig .tc := ⟨.hbm, 66, rfl⟩
abbrev main_call0_call0_c_4 : Ref sig .tc := ⟨.hbm, 67, rfl⟩
abbrev main_call0_call0_v21 : Ref sig .tc := ⟨.hbm, 68, rfl⟩
abbrev main_call0_call0_v22 : Ref sig .tc := ⟨.hbm, 69, rfl⟩
abbrev main_call0_call0_c_5 : Ref sig .tc := ⟨.hbm, 70, rfl⟩
abbrev main_call0_call0_v23 : Ref sig .tc := ⟨.hbm, 71, rfl⟩
abbrev main_call0_call0_v24 : Ref sig .tc := ⟨.hbm, 72, rfl⟩
abbrev main_call0_call0_v25 : Ref sig .tc := ⟨.hbm, 73, rfl⟩
abbrev main_call0_call0_v26 : Ref sig .tc := ⟨.hbm, 74, rfl⟩
abbrev main_call0_call0_v27 : Ref sig .tc := ⟨.hbm, 75, rfl⟩
abbrev main_call0_call0_c_6 : Ref sig .tc := ⟨.hbm, 76, rfl⟩
abbrev main_call0_call0_v28 : Ref sig .tc := ⟨.hbm, 77, rfl⟩
abbrev main_call0_call0_v29 : Ref sig .tc := ⟨.hbm, 78, rfl⟩
abbrev main_call0_call0_c_7 : Ref sig .tc := ⟨.hbm, 79, rfl⟩
abbrev main_call0_call0_v30 : Ref sig .tc := ⟨.hbm, 80, rfl⟩
abbrev main_call0_call0_v31 : Ref sig .tc := ⟨.hbm, 81, rfl⟩
abbrev main_call0_call0_v32 : Ref sig .tc := ⟨.hbm, 82, rfl⟩
abbrev main_call0_call0_v33 : Ref sig .tc := ⟨.hbm, 83, rfl⟩
abbrev main_call0_call0_v34 : Ref sig .tc := ⟨.hbm, 84, rfl⟩
abbrev main_call0_call0_v35 : Ref sig .tc := ⟨.hbm, 85, rfl⟩
abbrev main_call0_call0_v36 : Ref sig .tc := ⟨.hbm, 86, rfl⟩
abbrev main_call0_call0_v37 : Ref sig .tc := ⟨.hbm, 87, rfl⟩
abbrev main_call0_call0_c_8 : Ref sig .tc := ⟨.hbm, 88, rfl⟩
abbrev main_call0_call0_v38 : Ref sig .tc := ⟨.hbm, 89, rfl⟩
abbrev main_call0_call0_v39 : Ref sig .tc := ⟨.hbm, 90, rfl⟩
abbrev main_call0_call0_v40 : Ref sig .tc := ⟨.hbm, 91, rfl⟩
abbrev main_call0_call0_c_9 : Ref sig .tc := ⟨.hbm, 92, rfl⟩
abbrev main_call0_call0_v41 : Ref sig .tc := ⟨.hbm, 93, rfl⟩
abbrev main_call0_call0_v42 : Ref sig .tc := ⟨.hbm, 94, rfl⟩
abbrev main_call0_call0_c_10 : Ref sig .tc := ⟨.hbm, 95, rfl⟩
abbrev main_call0_call0_v43 : Ref sig .tc := ⟨.hbm, 96, rfl⟩
abbrev main_call0_call0_v44 : Ref sig .tc := ⟨.hbm, 97, rfl⟩
abbrev main_call0_call0_v45 : Ref sig .tc := ⟨.hbm, 98, rfl⟩
abbrev main_call0_call0_v46 : Ref sig .tc := ⟨.hbm, 99, rfl⟩
abbrev main_call0_call0_v47 : Ref sig .tc := ⟨.hbm, 100, rfl⟩
abbrev main_call0_call0_c_11 : Ref sig .tc := ⟨.hbm, 101, rfl⟩
abbrev main_call0_call0_v48 : Ref sig .tc := ⟨.hbm, 102, rfl⟩
abbrev main_call0_call0_v49 : Ref sig .tc := ⟨.hbm, 103, rfl⟩
abbrev main_call0_call0_c_12 : Ref sig .tc := ⟨.hbm, 104, rfl⟩
abbrev main_call0_call0_v50 : Ref sig .tc := ⟨.hbm, 105, rfl⟩
abbrev main_call0_call0_v51 : Ref sig .tc := ⟨.hbm, 106, rfl⟩
abbrev main_call0_call0_v52 : Ref sig .tc := ⟨.hbm, 107, rfl⟩
abbrev main_call0_call0_v53 : Ref sig .tc := ⟨.hbm, 108, rfl⟩
abbrev main_call0_call0_v54 : Ref sig .tc := ⟨.hbm, 109, rfl⟩
abbrev main_call0_call0_c_13 : Ref sig .tc := ⟨.hbm, 110, rfl⟩
abbrev main_call0_call0_v55 : Ref sig .tc := ⟨.hbm, 111, rfl⟩
abbrev main_call0_call0_v56 : Ref sig .tc := ⟨.hbm, 112, rfl⟩
abbrev main_call0_call0_c_14 : Ref sig .tc := ⟨.hbm, 113, rfl⟩
abbrev main_call0_call0_v57 : Ref sig .tc := ⟨.hbm, 114, rfl⟩
abbrev main_call0_call0_v58 : Ref sig .tc := ⟨.hbm, 115, rfl⟩
abbrev main_call0_call0_v59 : Ref sig .tc := ⟨.hbm, 116, rfl⟩
abbrev main_call0_call0_v60 : Ref sig .tc := ⟨.hbm, 117, rfl⟩
abbrev main_call0_call0_v61 : Ref sig .tc := ⟨.hbm, 118, rfl⟩
abbrev main_call0_call0_c_15 : Ref sig .tc := ⟨.hbm, 119, rfl⟩
abbrev main_call0_call0_v62 : Ref sig .tc := ⟨.hbm, 120, rfl⟩
abbrev main_call0_call0_v63 : Ref sig .tc := ⟨.hbm, 121, rfl⟩
abbrev main_call0_call0_c_16 : Ref sig .tc := ⟨.hbm, 122, rfl⟩
abbrev main_call0_call0_v64 : Ref sig .tc := ⟨.hbm, 123, rfl⟩
abbrev main_call0_call0_v65 : Ref sig .tc := ⟨.hbm, 124, rfl⟩
abbrev main_call0_call0_v66 : Ref sig .tc := ⟨.hbm, 125, rfl⟩
abbrev main_call0_call0_v67 : Ref sig .tc := ⟨.hbm, 126, rfl⟩
abbrev main_call0_call0_v68 : Ref sig .tc := ⟨.hbm, 127, rfl⟩
abbrev main_call0_call0_v69 : Ref sig .tc := ⟨.hbm, 128, rfl⟩
abbrev main_call0_call0_v70 : Ref sig .tc := ⟨.hbm, 129, rfl⟩
abbrev main_call0_call0_v71 : Ref sig .tc := ⟨.hbm, 130, rfl⟩
abbrev main_call0_call0_c_17 : Ref sig .tc := ⟨.hbm, 131, rfl⟩
abbrev main_call0_call0_v72 : Ref sig .tc := ⟨.hbm, 132, rfl⟩
abbrev main_call0_call0_v73 : Ref sig .tc := ⟨.hbm, 133, rfl⟩
abbrev main_call0_call0_v74 : Ref sig .tc := ⟨.hbm, 134, rfl⟩
abbrev main_call0_call0_c_18 : Ref sig .tc := ⟨.hbm, 135, rfl⟩
abbrev main_call0_call0_v75 : Ref sig .tc := ⟨.hbm, 136, rfl⟩
abbrev main_call0_call0_v76 : Ref sig .tc := ⟨.hbm, 137, rfl⟩
abbrev main_call0_call0_c_19 : Ref sig .tc := ⟨.hbm, 138, rfl⟩
abbrev main_call0_call0_v77 : Ref sig .tc := ⟨.hbm, 139, rfl⟩
abbrev main_call0_call0_v78 : Ref sig .tc := ⟨.hbm, 140, rfl⟩
abbrev main_call0_call0_v79 : Ref sig .tc := ⟨.hbm, 141, rfl⟩
abbrev main_call0_call0_v80 : Ref sig .tc := ⟨.hbm, 142, rfl⟩
abbrev main_call0_call0_v81 : Ref sig .tc := ⟨.hbm, 143, rfl⟩
abbrev main_call0_call0_c_20 : Ref sig .tc := ⟨.hbm, 144, rfl⟩
abbrev main_call0_call0_v82 : Ref sig .tc := ⟨.hbm, 145, rfl⟩
abbrev main_call0_call0_v83 : Ref sig .tc := ⟨.hbm, 146, rfl⟩
abbrev main_call0_call0_c_21 : Ref sig .tc := ⟨.hbm, 147, rfl⟩
abbrev main_call0_call0_v84 : Ref sig .tc := ⟨.hbm, 148, rfl⟩
abbrev main_call0_call0_v85 : Ref sig .tc := ⟨.hbm, 149, rfl⟩
abbrev main_call0_call0_v86 : Ref sig .tc := ⟨.hbm, 150, rfl⟩
abbrev main_call0_call0_v87 : Ref sig .tc := ⟨.hbm, 151, rfl⟩
abbrev main_call0_call0_v88 : Ref sig .tc := ⟨.hbm, 152, rfl⟩
abbrev main_call0_call0_c_22 : Ref sig .tc := ⟨.hbm, 153, rfl⟩
abbrev main_call0_call0_v89 : Ref sig .tc := ⟨.hbm, 154, rfl⟩
abbrev main_call0_call0_v90 : Ref sig .tc := ⟨.hbm, 155, rfl⟩
abbrev main_call0_call0_c_23 : Ref sig .tc := ⟨.hbm, 156, rfl⟩
abbrev main_call0_call0_v91 : Ref sig .tc := ⟨.hbm, 157, rfl⟩
abbrev main_call0_call0_v92 : Ref sig .tc := ⟨.hbm, 158, rfl⟩
abbrev main_call0_call0_v93 : Ref sig .tc := ⟨.hbm, 159, rfl⟩
abbrev main_call0_call0_v94 : Ref sig .tc := ⟨.hbm, 160, rfl⟩
abbrev main_call0_call0_v95 : Ref sig .tc := ⟨.hbm, 161, rfl⟩
abbrev main_call0_call0_c_24 : Ref sig .tc := ⟨.hbm, 162, rfl⟩
abbrev main_call0_call0_v96 : Ref sig .tc := ⟨.hbm, 163, rfl⟩
abbrev main_call0_call0_v97 : Ref sig .tc := ⟨.hbm, 164, rfl⟩
abbrev main_call0_call0_c_25 : Ref sig .tc := ⟨.hbm, 165, rfl⟩
abbrev main_call0_call0_v98 : Ref sig .tc := ⟨.hbm, 166, rfl⟩
abbrev main_call0_call0_v99 : Ref sig .tc := ⟨.hbm, 167, rfl⟩
abbrev main_call0_call0_v100 : Ref sig .tc := ⟨.hbm, 168, rfl⟩
abbrev main_call0_call0_v101 : Ref sig .tc := ⟨.hbm, 169, rfl⟩
abbrev main_call0_call0_v102 : Ref sig .tc := ⟨.hbm, 170, rfl⟩
abbrev main_call0_call0_v103 : Ref sig .tc := ⟨.hbm, 171, rfl⟩
abbrev main_call0_call0_v104 : Ref sig .tc := ⟨.hbm, 172, rfl⟩
abbrev main_call0_call0_v105 : Ref sig .tc := ⟨.hbm, 173, rfl⟩
abbrev main_call0_call0_c_26 : Ref sig .tc := ⟨.hbm, 174, rfl⟩
abbrev main_call0_call0_v106 : Ref sig .tc := ⟨.hbm, 175, rfl⟩
abbrev main_call0_call0_v107 : Ref sig .tc := ⟨.hbm, 176, rfl⟩
abbrev main_call0_call0_v108 : Ref sig .tc := ⟨.hbm, 177, rfl⟩
abbrev main_call0_call0_c_27 : Ref sig .tc := ⟨.hbm, 178, rfl⟩
abbrev main_call0_call0_v109 : Ref sig .tc := ⟨.hbm, 179, rfl⟩
abbrev main_call0_call0_v110 : Ref sig .tc := ⟨.hbm, 180, rfl⟩
abbrev main_call0_call0_c_28 : Ref sig .tc := ⟨.hbm, 181, rfl⟩
abbrev main_call0_call0_v111 : Ref sig .tc := ⟨.hbm, 182, rfl⟩
abbrev main_call0_call0_v112 : Ref sig .tc := ⟨.hbm, 183, rfl⟩
abbrev main_call0_call0_v113 : Ref sig .tc := ⟨.hbm, 184, rfl⟩
abbrev main_call0_call0_v114 : Ref sig .tc := ⟨.hbm, 185, rfl⟩
abbrev main_call0_call0_v115 : Ref sig .tc := ⟨.hbm, 186, rfl⟩
abbrev main_call0_call0_c_29 : Ref sig .tc := ⟨.hbm, 187, rfl⟩
abbrev main_call0_call0_v116 : Ref sig .tc := ⟨.hbm, 188, rfl⟩
abbrev main_call0_call0_v117 : Ref sig .tc := ⟨.hbm, 189, rfl⟩
abbrev main_call0_call0_c_30 : Ref sig .tc := ⟨.hbm, 190, rfl⟩
abbrev main_call0_call0_v118 : Ref sig .tc := ⟨.hbm, 191, rfl⟩
abbrev main_call0_call0_v119 : Ref sig .tc := ⟨.hbm, 192, rfl⟩
abbrev main_call0_call0_v120 : Ref sig .tc := ⟨.hbm, 193, rfl⟩
abbrev main_call0_call0_v121 : Ref sig .tc := ⟨.hbm, 194, rfl⟩
abbrev main_call0_call0_v122 : Ref sig .tc := ⟨.hbm, 195, rfl⟩
abbrev main_call0_call0_c_31 : Ref sig .tc := ⟨.hbm, 196, rfl⟩
abbrev main_call0_call0_v123 : Ref sig .tc := ⟨.hbm, 197, rfl⟩
abbrev main_call0_call0_v124 : Ref sig .tc := ⟨.hbm, 198, rfl⟩
abbrev main_call0_call0_c_32 : Ref sig .tc := ⟨.hbm, 199, rfl⟩
abbrev main_call0_call0_v125 : Ref sig .tc := ⟨.hbm, 200, rfl⟩
abbrev main_call0_call0_v126 : Ref sig .tc := ⟨.hbm, 201, rfl⟩
abbrev main_call0_call0_v127 : Ref sig .tc := ⟨.hbm, 202, rfl⟩
abbrev main_call0_call0_v128 : Ref sig .tc := ⟨.hbm, 203, rfl⟩
abbrev main_call0_call0_v129 : Ref sig .tc := ⟨.hbm, 204, rfl⟩
abbrev main_call0_call0_c_33 : Ref sig .tc := ⟨.hbm, 205, rfl⟩
abbrev main_call0_call0_v130 : Ref sig .tc := ⟨.hbm, 206, rfl⟩
abbrev main_call0_call0_v131 : Ref sig .tc := ⟨.hbm, 207, rfl⟩
abbrev main_call0_call0_c_34 : Ref sig .tc := ⟨.hbm, 208, rfl⟩
abbrev main_call0_call0_v132 : Ref sig .tc := ⟨.hbm, 209, rfl⟩
abbrev main_call0_call0_v133 : Ref sig .tc := ⟨.hbm, 210, rfl⟩
abbrev main_call0_call0_v134 : Ref sig .tc := ⟨.hbm, 211, rfl⟩
abbrev main_call0_call0_v135 : Ref sig .tc := ⟨.hbm, 212, rfl⟩
abbrev main_call0_call0_v136 : Ref sig .tc := ⟨.hbm, 213, rfl⟩
abbrev main_call0_call0_v137 : Ref sig .tc := ⟨.hbm, 214, rfl⟩
abbrev main_call0_call0_v138 : Ref sig .tc := ⟨.hbm, 215, rfl⟩
abbrev main_call0_call0_v139 : Ref sig .tc := ⟨.hbm, 216, rfl⟩
abbrev main_call0_call0_c_35 : Ref sig .tc := ⟨.hbm, 217, rfl⟩
abbrev main_call0_call0_v140 : Ref sig .tc := ⟨.hbm, 218, rfl⟩
abbrev main_call0_call0_v141 : Ref sig .tc := ⟨.hbm, 219, rfl⟩
abbrev main_call0_call0_v142 : Ref sig .tc := ⟨.hbm, 220, rfl⟩
abbrev main_call0_call0_c_36 : Ref sig .tc := ⟨.hbm, 221, rfl⟩
abbrev main_call0_call0_v143 : Ref sig .tc := ⟨.hbm, 222, rfl⟩
abbrev main_call0_call0_v144 : Ref sig .tc := ⟨.hbm, 223, rfl⟩
abbrev main_call0_call0_c_37 : Ref sig .tc := ⟨.hbm, 224, rfl⟩
abbrev main_call0_call0_v145 : Ref sig .tc := ⟨.hbm, 225, rfl⟩
abbrev main_call0_call0_v146 : Ref sig .tc := ⟨.hbm, 226, rfl⟩
abbrev main_call0_call0_v147 : Ref sig .tc := ⟨.hbm, 227, rfl⟩
abbrev main_call0_call0_v148 : Ref sig .tc := ⟨.hbm, 228, rfl⟩
abbrev main_call0_call0_v149 : Ref sig .tc := ⟨.hbm, 229, rfl⟩
abbrev main_call0_call0_c_38 : Ref sig .tc := ⟨.hbm, 230, rfl⟩
abbrev main_call0_call0_v150 : Ref sig .tc := ⟨.hbm, 231, rfl⟩
abbrev main_call0_call0_v151 : Ref sig .tc := ⟨.hbm, 232, rfl⟩
abbrev main_call0_call0_c_39 : Ref sig .tc := ⟨.hbm, 233, rfl⟩
abbrev main_call0_call0_v152 : Ref sig .tc := ⟨.hbm, 234, rfl⟩
abbrev main_call0_call0_v153 : Ref sig .tc := ⟨.hbm, 235, rfl⟩
abbrev main_call0_call0_v154 : Ref sig .tc := ⟨.hbm, 236, rfl⟩
abbrev main_call0_call0_v155 : Ref sig .tc := ⟨.hbm, 237, rfl⟩
abbrev main_call0_call0_v156 : Ref sig .tc := ⟨.hbm, 238, rfl⟩
abbrev main_call0_call0_c_40 : Ref sig .tc := ⟨.hbm, 239, rfl⟩
abbrev main_call0_call0_v157 : Ref sig .tc := ⟨.hbm, 240, rfl⟩
abbrev main_call0_call0_v158 : Ref sig .tc := ⟨.hbm, 241, rfl⟩
abbrev main_call0_call0_c_41 : Ref sig .tc := ⟨.hbm, 242, rfl⟩
abbrev main_call0_call0_v159 : Ref sig .tc := ⟨.hbm, 243, rfl⟩
abbrev main_call0_call0_v160 : Ref sig .tc := ⟨.hbm, 244, rfl⟩
abbrev main_call0_call0_v161 : Ref sig .tc := ⟨.hbm, 245, rfl⟩
abbrev main_call0_call0_v162 : Ref sig .tc := ⟨.hbm, 246, rfl⟩
abbrev main_call0_call0_v163 : Ref sig .tc := ⟨.hbm, 247, rfl⟩
abbrev main_call0_call0_c_42 : Ref sig .tc := ⟨.hbm, 248, rfl⟩
abbrev main_call0_call0_v164 : Ref sig .tc := ⟨.hbm, 249, rfl⟩
abbrev main_call0_call0_v165 : Ref sig .tc := ⟨.hbm, 250, rfl⟩
abbrev main_call0_call0_c_43 : Ref sig .tc := ⟨.hbm, 251, rfl⟩
abbrev main_call0_call0_v166 : Ref sig .tc := ⟨.hbm, 252, rfl⟩
abbrev main_call0_call0_v167 : Ref sig .tc := ⟨.hbm, 253, rfl⟩
abbrev main_call0_call0_v168 : Ref sig .tc := ⟨.hbm, 254, rfl⟩
abbrev main_call0_call0_v169 : Ref sig .tc := ⟨.hbm, 255, rfl⟩
abbrev main_call0_call0_v170 : Ref sig .tc := ⟨.hbm, 256, rfl⟩
abbrev main_call0_v19_0 : Ref sig .tc := ⟨.hbm, 257, rfl⟩
abbrev main_call0_call0_v172 : Ref sig .tc := ⟨.hbm, 258, rfl⟩
abbrev main_call0_call0_v173 : Ref sig .tc := ⟨.hbm, 259, rfl⟩
abbrev main_call0_call0_c_44 : Ref sig .tc := ⟨.hbm, 260, rfl⟩
abbrev main_call0_call0_v174 : Ref sig .tc := ⟨.hbm, 261, rfl⟩
abbrev main_call0_v19_1 : Ref sig .tc := ⟨.hbm, 262, rfl⟩
abbrev main_call0_v20 : Ref sig .tc := ⟨.hbm, 263, rfl⟩
abbrev main_call0_c_2 : Ref sig .tc := ⟨.hbm, 264, rfl⟩
abbrev main_call0_v21 : Ref sig .tc := ⟨.hbm, 265, rfl⟩
abbrev main_call0_v22 : Ref sig .tc := ⟨.hbm, 266, rfl⟩
abbrev main_call0_c_3 : Ref sig .tc := ⟨.hbm, 267, rfl⟩
abbrev main_call0_v23 : Ref sig .tc := ⟨.hbm, 268, rfl⟩
abbrev main_call0_v24 : Ref sig .tc := ⟨.hbm, 269, rfl⟩
abbrev main_call0_v25 : Ref sig .tc := ⟨.hbm, 270, rfl⟩
abbrev main_call0_cst : Ref sig .tc := ⟨.hbm, 271, rfl⟩
abbrev main_call0_v26 : Ref sig .tc := ⟨.hbm, 272, rfl⟩
abbrev main_call0_v27 : Ref sig .tc := ⟨.hbm, 273, rfl⟩
abbrev main_call0_v28 : Ref sig .tc := ⟨.hbm, 274, rfl⟩
abbrev main_call0_v29 : Ref sig .tc := ⟨.hbm, 275, rfl⟩
abbrev main_call0_v30 : Ref sig .tc := ⟨.hbm, 276, rfl⟩
abbrev main_call0_v31 : Ref sig .tc := ⟨.hbm, 277, rfl⟩
abbrev main_call0_v32 : Ref sig .tc := ⟨.hbm, 278, rfl⟩
abbrev main_call0_v33 : Ref sig .tc := ⟨.hbm, 279, rfl⟩
abbrev main_v11 : Ref sig .tc := ⟨.hbm, 280, rfl⟩
abbrev main_cst_3 : Ref sig .tc := ⟨.hbm, 281, rfl⟩
abbrev main_v12 : Ref sig .tc := ⟨.hbm, 282, rfl⟩
abbrev main_v13 : Ref sig .tc := ⟨.hbm, 283, rfl⟩
abbrev main_cst_4 : Ref sig .tc := ⟨.hbm, 284, rfl⟩
abbrev main_v14 : Ref sig .tc := ⟨.hbm, 285, rfl⟩
abbrev main_v15 : Ref sig .tc := ⟨.hbm, 286, rfl⟩
abbrev main_v16 : Ref sig .tc := ⟨.hbm, 287, rfl⟩
abbrev main_v17 : Ref sig .tc := ⟨.hbm, 288, rfl⟩
abbrev main_v18 : Ref sig .tc := ⟨.hbm, 289, rfl⟩
abbrev main_v19 : Ref sig .tc := ⟨.hbm, 290, rfl⟩
abbrev main_call1_cst : Ref sig .tc := ⟨.hbm, 291, rfl⟩
abbrev main_call1_v0 : Ref sig .tc := ⟨.hbm, 292, rfl⟩
abbrev main_call1_cst_0 : Ref sig .tc := ⟨.hbm, 293, rfl⟩
abbrev main_call1_v1 : Ref sig .tc := ⟨.hbm, 294, rfl⟩
abbrev main_call1_v2 : Ref sig .tc := ⟨.hbm, 295, rfl⟩
abbrev main_call1_v3 : Ref sig .tc := ⟨.hbm, 296, rfl⟩
abbrev main_call1_v4 : Ref sig .tc := ⟨.hbm, 297, rfl⟩
abbrev main_call1_v5 : Ref sig .tc := ⟨.hbm, 298, rfl⟩
abbrev main_call1_v6 : Ref sig .tc := ⟨.hbm, 299, rfl⟩
abbrev main_call1_cst_1 : Ref sig .tc := ⟨.hbm, 300, rfl⟩
abbrev main_call1_v7 : Ref sig .tc := ⟨.hbm, 301, rfl⟩
abbrev main_call1_v8 : Ref sig .tc := ⟨.hbm, 302, rfl⟩
abbrev main_call1_v9 : Ref sig .tc := ⟨.hbm, 303, rfl⟩
abbrev main_call1_v10 : Ref sig .tc := ⟨.hbm, 304, rfl⟩
abbrev main_v20 : Ref sig .tc := ⟨.hbm, 305, rfl⟩
abbrev main_v21 : Ref sig .tc := ⟨.hbm, 306, rfl⟩
abbrev main_cst_5 : Ref sig .tc := ⟨.hbm, 307, rfl⟩
abbrev main_v22 : Ref sig .tc := ⟨.hbm, 308, rfl⟩
abbrev main_v23 : Ref sig .tc := ⟨.hbm, 309, rfl⟩
abbrev main_cst_6 : Ref sig .tc := ⟨.hbm, 310, rfl⟩
abbrev main_v24 : Ref sig .tc := ⟨.hbm, 311, rfl⟩
abbrev main_cst_7 : Ref sig .tc := ⟨.hbm, 312, rfl⟩
abbrev main_v25 : Ref sig .tc := ⟨.hbm, 313, rfl⟩
abbrev main_v26 : Ref sig .tc := ⟨.hbm, 314, rfl⟩
abbrev main_v27 : Ref sig .tc := ⟨.hbm, 315, rfl⟩
abbrev main_v28 : Ref sig .tc := ⟨.hbm, 316, rfl⟩
abbrev main_v29 : Ref sig .tc := ⟨.hbm, 317, rfl⟩
abbrev main_v30 : Ref sig .tc := ⟨.hbm, 318, rfl⟩
abbrev main_cst_8 : Ref sig .tc := ⟨.hbm, 319, rfl⟩
abbrev main_v31 : Ref sig .tc := ⟨.hbm, 320, rfl⟩
abbrev main_v32 : Ref sig .tc := ⟨.hbm, 321, rfl⟩
abbrev main_v33 : Ref sig .tc := ⟨.hbm, 322, rfl⟩
abbrev main_v34 : Ref sig .tc := ⟨.hbm, 323, rfl⟩
abbrev main_call2_v0 : Ref sig .tc := ⟨.hbm, 324, rfl⟩
abbrev main_call2_cst : Ref sig .tc := ⟨.hbm, 325, rfl⟩
abbrev main_call2_c : Ref sig .tc := ⟨.hbm, 326, rfl⟩
abbrev main_call2_v1_0 : Ref sig .tc := ⟨.hbm, 327, rfl⟩
abbrev main_v35 : Ref sig .tc := ⟨.hbm, 328, rfl⟩
abbrev main_call3_v0 : Ref sig .tc := ⟨.hbm, 329, rfl⟩
abbrev main_call3_v1 : Ref sig .tc := ⟨.hbm, 330, rfl⟩
abbrev main_call3_v2 : Ref sig .tc := ⟨.hbm, 331, rfl⟩
abbrev main_call3_v3 : Ref sig .tc := ⟨.hbm, 332, rfl⟩
abbrev main_call3_v4 : Ref sig .tc := ⟨.hbm, 333, rfl⟩
abbrev main_v36 : Ref sig .tc := ⟨.hbm, 334, rfl⟩
abbrev main_v37 : Ref sig .tc := ⟨.hbm, 335, rfl⟩
abbrev main_v38 : Ref sig .tc := ⟨.hbm, 336, rfl⟩

abbrev nD : Nat := 1
abbrev τ : Topo := Topo.v7x

variable {F : FTy → Type} [FloatOps F]
-- ==== Proof.Tile.lean ====
/-
  The three kernels of `KernelIdeal`, each run on whole staging buffers: what it leaves in its results' buffers, as functions of what
  it found in its operands' buffers.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Frame
public import Idealize.ShloMosaic.Lib.Pipeline.DatRel
public import Idealize.ShloMosaic.Lib.Ring
public import Idealize.ShloMosaic.Lib.VecWindow
public import Idealize.ShloMosaic.Lib.Tactic
public import Idealize.ShloMosaic.Lib.Exec
public import Idealize.ShloMosaic.Lib.Pipeline.Kit

@[expose] public section

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-- The words that the tile kernel's third round group leaves, at grid point `i`: the pair it carries into the fourth. -/
def w83 (i : grid0.Coords) : IVec S512x1024 32 := k0_pay23 (k0_pay11 i) (k0_pay12 i) (k0_pay13 i) k0_pay14
/-- The other word of that pair. -/
def w84 (i : grid0.Coords) : IVec S512x1024 32 := k0_pay24 (k0_pay11 i) (k0_pay12 i) (k0_pay13 i) k0_pay14
/-- The pair after the next group of rounds: the first word, -/
def w125 (i : grid0.Coords) : IVec S512x1024 32 := k0_pay35 (w83 i) (w84 i) k0_pay25
/-- and the second. -/
def w131 (i : grid0.Coords) : IVec S512x1024 32 := k0_pay36 (w83 i) (w84 i) k0_pay25

/-- The tile's scores at grid point `i`: product plus bias plus noise, minus infinity past the last column. -/
def score (i : grid0.Coords) (x : Vec F S512x2048 .f32) (w : Vec F S2048x1024 .f32) (b : Vec F S1x1024 .f32) : FVec F S512x1024 .f32 :=
  k0_pay50 (k0_pay3 x w) (k0_pay4 i) (k0_pay46 (w125 i) (w131 i)) (k0_pay47 (w125 i) (w131 i)) (k0_pay48 (w125 i) (w131 i)) k0_pay49 b

/-- What the tile kernel stores as the tile's maximum, -/
def tmaxP (i : grid0.Coords) (x : Vec F S512x2048 .f32) (w : Vec F S2048x1024 .f32) (b : Vec F S1x1024 .f32) : Vec F S1x512x1 .f32 :=
  k0_pay1 (k0_pay51 (k0_pay3 x w) (k0_pay4 i) (k0_pay46 (w125 i) (w131 i)) (k0_pay47 (w125 i) (w131 i)) (k0_pay48 (w125 i) (w131 i)) k0_pay49 b)
/-- and as the first column that attains it. -/
def targP (i : grid0.Coords) (x : Vec F S512x2048 .f32) (w : Vec F S2048x1024 .f32) (b : Vec F S1x1024 .f32) : Vec F S1x512x1 .i32 :=
  k0_pay2 (k0_pay4 i) (k0_pay52 (k0_pay3 x w) (k0_pay4 i) (k0_pay46 (w125 i) (w131 i)) (k0_pay47 (w125 i) (w131 i)) (k0_pay48 (w125 i) (w131 i)) k0_pay49 b) k0_pay53

variable (𝒱₀ : Variants)

set_option maxHeartbeats 1000000 in
/-- The tile kernel on whole staging buffers: the operands' at `x`, `w` and `b`, the results' at anything. It runs to its return with
    the operands' buffers as they were and the results' at `tmaxP` and `targP`. -/
theorem tile_run (c : Dev nD) (i : grid0.Coords) (arg1 : Memref sig .tc .vmem S512x2048 .f32) (harg1 : arg1.IsWhole)
    (arg2 : Memref sig .tc .vmem S2048x1024 .f32) (harg2 : arg2.IsWhole) (arg3 : Memref sig .tc .vmem S1x1024 .f32) (harg3 : arg3.IsWhole)
    (arg4 : Memref sig .tc .vmem S1x512x1 .f32) (harg4 : arg4.IsWhole) (arg5 : Memref sig .tc .vmem S1x512x1 .i32) (harg5 : arg5.IsWhole)
    (x : Vec F S512x2048 .f32) (w : Vec F S2048x1024 .f32) (b : Vec F S1x1024 .f32) (E : Set ℕ) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare w ∗ owns (c : Thread nD τ) arg3 fullShare b
            ∗ owns (c : Thread nD τ) arg4 fullShare (tmaxP i x w b) ∗ owns (c : Thread nD τ) arg5 fullShare (targP i x w b)) -∗ K ⟨⟩))
      ⊢ wp frame (wpE (defs₀ (F := F)) 𝒱₀ c none) E (cc0__tile_kernel i arg1 harg1 arg2 harg2 arg3 harg3 arg4 harg4 arg5 harg5) K := by
  simp only [cc0__tile_kernel_eq_skeleton, k0_part1_eq_skeleton, k0_part2_eq_skeleton, k0_part3_eq_skeleton, k0_part4_eq_skeleton, k0_part5_eq_skeleton]
  unfold cc0__tile_kernel_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg1.eq_unread hf0
  obtain rfl := harg2.eq_unread hf1
  obtain rfl := harg3.eq_unread hf2
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    refine (View.read_writes_full _ _ _ _ _).trans ?_
    dsimp only
    rw [View.readAt_full, View.readAt_full, View.readAt_full, harg1.read_unread, harg2.read_unread, harg3.read_unread]
    rfl
  iexists _; isplitr
  swap; · iexact H4
  ipureintro
  refine (View.read_writes_full _ _ _ _ _).trans ?_
  dsimp only
  rw [View.readAt_full, View.readAt_full, View.readAt_full, harg1.read_unread, harg2.read_unread, harg3.read_unread]
  rfl

/-- The reduce kernel on whole staging buffers: the operands' at `x` and `y`, the result's at anything. It runs to its return with the
    operands' buffers as they were and the result's at `k1_pay1 x y`. -/
theorem reduce_run (c : Dev nD) (i : grid1.Coords) (arg1 : Memref sig .tc .vmem S98x512x1 .f32) (harg1 : arg1.IsWhole)
    (arg2 : Memref sig .tc .vmem S98x512x1 .i32) (harg2 : arg2.IsWhole) (arg3 : Memref sig .tc .vmem S512x1 .i32) (harg3 : arg3.IsWhole)
    (x : Vec F S98x512x1 .f32) (y : Vec F S98x512x1 .i32) (E : Set ℕ) (K : PUnit → sProp 𝕄) :
    iprop(owns (c : Thread nD τ) arg1 fullShare x ∗ owns (c : Thread nD τ) arg2 fullShare y ∗ (∃ d, owns (c : Thread nD τ) arg3 fullShare d)
        ∗ (iprop(owns (c : Thread nD τ) arg1 fullShare x ∗ owns (c : Thread nD τ) arg2 fullShare y
            ∗ owns (c : Thread nD τ) arg3 fullShare (k1_pay1 x y)) -∗ K ⟨⟩))
      ⊢ wp frame (wpE (defs₀ (F := F)) 𝒱₀ c none) E (cc1__reduce_kernel i arg1 harg1 arg2 harg2 arg3 harg3) K := by
  simp only [cc1__reduce_kernel_eq_skeleton]; unfold cc1__reduce_kernel_skel
  unfold owns
  iintro ⟨⟨%f0, %hf0, H0⟩, ⟨%f1, %hf1, H1⟩, ⟨%d2, %f2, -, H2⟩, Hk⟩
  obtain rfl := harg1.eq_unread hf0
  obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  refine (View.read_writes_full _ _ _ _ _).trans ?_
  dsimp only
  rw [View.readAt_full, View.readAt_full, harg1.read_unread, harg2.read_unread]

/-- The one-hot kernel on whole staging buffers: the operand's at `x`, the result's at anything. It runs to its return with the
    operand's buffer as it was and the result's at `k2_pay1 i x`. -/
theorem onehot_run (c : Dev nD) (i : grid2.Coords) (arg1 : Memref sig .tc .vmem S512x1 .i32) (harg1 : arg1.IsWhole)
    (arg2 : Memref sig .tc .vmem S512x4096 .f32) (harg2 : arg2.IsWhole) (x : Vec F S512x1 .i32) (E : Set ℕ) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (k2_pay1 (F := F) i x)) -∗ K ⟨⟩))
      ⊢ wp frame (wpE (defs₀ (F := F)) 𝒱₀ c none) E (cc2__onehot_kernel i arg1 harg1 arg2 harg2) K := by
  simp only [cc2__onehot_kernel_eq_skeleton]; unfold cc2__onehot_kernel_skel
  unfold owns
  iintro ⟨⟨%f0, %hf0, H0⟩, ⟨%d1, %f1, -, H1⟩, Hk⟩
  obtain rfl := harg1.eq_unread hf0
  sl_exec
  sl_step
  iapply Hk
  isplitl [H0]
  · iexists _; isplitr; · ipureintro; exact harg1.read_unread _
    iexact H0
  iexists _; isplitr
  swap; · iexact H1
  ipureintro
  refine (View.read_writes_full _ _ _ _ _).trans ?_
  dsimp only
  rw [View.readAt_full, harg1.read_unread]

end Cert.KernelIdeal.Tile

end
-- ==== Proof.Calls.lean ====
/-
  The proof data of the three pallas_calls of `KernelIdeal`, each at any entry contents of its arrays, and the body obligation of each.
  The first call's two results are held to a relation only: the part of a staging buffer past the edge of a cut block holds words
  that nothing names, and at general floats the results may depend on them.
-/
module

public import proofs.«01_k».proof.Proof.Tile

@[expose] public section

set_option maxRecDepth 16384

noncomputable section

namespace Cert.KernelIdeal.Calls

open Cert.KernelIdeal Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (ι : Ix)

/-! ## The tile call -/

/-- Window `w`'s block of the tile call at point `t`, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of `x` at point `t`: `x` whole. -/
abbrev xb (c : Dev nD) (t : Fin cfg0.N) : Vec F S512x2048 .f32 := blk0 V c 0 t
/-- The block of `W` at point `t`, filled past the edge with `d`. -/
abbrev wb (c : Dev nD) (t : Fin cfg0.N) (d : Vec F S2048x1024 .f32) : Vec F S2048x1024 .f32 := (cfg0.win 1).fill (cfg0.grid.coords t) d (blk0 V c 1 t)
/-- The block of `b` at point `t`, filled past the edge with `d`. -/
abbrev bb (c : Dev nD) (t : Fin cfg0.N) (d : Vec F S1x1024 .f32) : Vec F S1x1024 .f32 := (cfg0.win 2).fill (cfg0.grid.coords t) d (blk0 V c 2 t)

/-- The proof data of the tile call on core `c`: the arrays as the call finds them; after the body each operand's buffer at its block;
    nothing named of the results'. -/
def dat0 (c : Dev nD) : Dat τ (Elt F) Ix ℕ U Lvl cfg0 c where
  A w := V c (Pipeline.arrRef spec0 w)
  after w t := match w with
    | ⟨0, _⟩ => xb V c t
    | ⟨1, _⟩ => wb V c t (fun _ => Scalar.ofBits .f32 0#32)
    | ⟨2, _⟩ => bb V c t (fun _ => Scalar.ofBits .f32 0#32)
    | ⟨3, _⟩ => fun _ => (Scalar.ofBits .f32 0#32 : F .f32)
    | ⟨4, _⟩ => fun _ => (0#32 : BitVec 32)
  Φ _ := iprop(Pipeline.scopedRest (Ix := Ix) (Name := ℕ) (U := U) (Lvl := Lvl) (Val := Elt F) spec0 c ∗ ∃ r, prngReg c r)
  q _ := fullShare
  owed _ := 0

/-- The windows held to a relation: the two results'. -/
def fgt0 : Fin cfg0.W → Bool := fun | 0 => false | 1 => false | 2 => false | 3 => true | 4 => true | ⟨_ + 5, h⟩ => absurd h (Nat.not_lt.2 (Nat.le_add_left _ _))

/-- The relation: what the body leaves of the tile maximum and of the first column is what the kernel computes from the blocks, for some
    words past their edges. -/
def rel0 (c : Dev nD) : (w : Fin cfg0.W) → Fin cfg0.N → ((cfg0.win w).block.Idx → Elt F (cfg0.win w).elt) → Prop
  | ⟨0, _⟩ => fun _ _ => True
  | ⟨1, _⟩ => fun _ _ => True
  | ⟨2, _⟩ => fun _ _ => True
  | ⟨3, _⟩ => fun t X => ∃ d1 d2, X = tmaxP (F := F) (grid0.coords t) (xb V c t) (wb V c t d1) (bb V c t d2)
  | ⟨4, _⟩ => fun t X => ∃ d1 d2, X = targP (F := F) (grid0.coords t) (xb V c t) (wb V c t d1) (bb V c t d2)

local notation "𝕕₀" => dat0 (Ix := Ix) (U := U) (Lvl := Lvl) V

/-- The buffer of `x` holds its block at every point, fetched there or not. -/
theorem before0_0 (c : Dev nD) (t : Fin cfg0.N) (d) : (𝕕₀ c).before 0 t d = xb V c t :=
  ((𝕕₀ c).before_in_eq_fetched 0 rfl (fun _ => rfl) (fun _ _ _ => rfl) (fun _ => rfl) t d).trans rfl
/-- The buffer of `W` holds its block, and anything past the edge. -/
theorem before0_1 (c : Dev nD) (t : Fin cfg0.N) (d) : (𝕕₀ c).before 1 t d = wb V c t d := by
  unfold Dat.before; rw [if_pos (fetch0_1 t)]; rfl
/-- So does the buffer of `b`. -/
theorem before0_2 (c : Dev nD) (t : Fin cfg0.N) (d) : (𝕕₀ c).before 2 t d = bb V c t d := by
  unfold Dat.before; rw [if_pos (fetch0_2 t)]; rfl

/-- What the tile kernel is called with at point `t`, the windows one by one, -/
def pre0 (c : Dev nD) (t : Fin cfg0.N) : sProp 𝕄 :=
  iprop((𝕕₀ c).Φ t.castSucc ∗ (𝕕₀ c).owesAt ι t.castSucc
    ∗ (∃ d, owns (c : Thread nD τ) (st0_0 t) fullShare ((𝕕₀ c).before 0 t d))
    ∗ (∃ d, owns (c : Thread nD τ) (st0_1 t) fullShare ((𝕕₀ c).before 1 t d))
    ∗ (∃ d, owns (c : Thread nD τ) (st0_2 t) fullShare ((𝕕₀ c).before 2 t d))
    ∗ (∃ Y, ⌜((𝕕₀ c).toRRel fgt0 (rel0 V c)).Finds 3 t Y⌝ ∗ owns (c : Thread nD τ) (st0_3 t) fullShare Y)
    ∗ (∃ Y, ⌜((𝕕₀ c).toRRel fgt0 (rel0 V c)).Finds 4 t Y⌝ ∗ owns (c : Thread nD τ) (st0_4 t) fullShare Y))

/-- and what it returns. -/
def post0 (c : Dev nD) (t : Fin cfg0.N) : sProp 𝕄 :=
  iprop((𝕕₀ c).Φ t.succ ∗ (𝕕₀ c).owesAt ι t.succ
    ∗ owns (c : Thread nD τ) (st0_0 t) fullShare ((𝕕₀ c).after 0 t)
    ∗ (∃ d, owns (c : Thread nD τ) (st0_1 t) fullShare ((cfg0.win 1).fill (cfg0.grid.coords t) d ((cfg0.win 1).cut (cfg0.grid.coords t) ((𝕕₀ c).after 1 t))))
    ∗ (∃ d, owns (c : Thread nD τ) (st0_2 t) fullShare ((cfg0.win 2).fill (cfg0.grid.coords t) d ((cfg0.win 2).cut (cfg0.grid.coords t) ((𝕕₀ c).after 2 t))))
    ∗ (∃ X, ⌜rel0 V c 3 t X⌝ ∗ owns (c : Thread nD τ) (st0_3 t) fullShare X)
    ∗ (∃ X, ⌜rel0 V c 4 t X⌝ ∗ owns (c : Thread nD τ) (st0_4 t) fullShare X))

/-- The tile kernel at any point, from what it is called with to what it returns. -/
theorem sound0 (c : Dev nD) (t : Fin cfg0.N) :
    pre0 (U := U) (Lvl := Lvl) V ι c t ⊢ wp frame (wpE (defs₀ (F := F)) 𝒱₀ c none) Set.univ (bodyAt0 t) (fun _ => post0 (U := U) (Lvl := Lvl) V ι c t) := by
  unfold pre0 post0 bodyAt0
  simp only [before0_0, before0_1, before0_2]
  rw [show (𝕕₀ c).Φ t.succ = (𝕕₀ c).Φ t.castSucc from rfl, show (𝕕₀ c).owesAt ι t.succ = (𝕕₀ c).owesAt ι t.castSucc from rfl,
    show (𝕕₀ c).after 0 t = xb V c t from rfl, show (𝕕₀ c).after 1 t = wb V c t (fun _ => Scalar.ofBits .f32 0#32) from rfl,
    show (𝕕₀ c).after 2 t = bb V c t (fun _ => Scalar.ofBits .f32 0#32) from rfl, Window.cut_fill, Window.cut_fill]
  iintro ⟨HΦ, Ho, ⟨%d0, H0⟩, ⟨%d1, H1⟩, ⟨%d2, H2⟩, ⟨%Y3, -, H3⟩, ⟨%Y4, -, H4⟩⟩
  iapply (tile_run (Ix := Ix) (U := U) (Lvl := Lvl) 𝒱₀ c (grid0.coords t) _ _ _ _ _ _ _ _ _ _ (xb V c t) (wb V c t d1) (bb V c t d2) Set.univ _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexists d1; iexact H1
  isplitl [H2]; · iexists d2; iexact H2
  isplitl [H3]
  · iexists _; isplitr
    swap; · iexact H3
    ipureintro; exact ⟨d1, d2, rfl⟩
  iexists _; isplitr
  swap; · iexact H4
  ipureintro; exact ⟨d1, d2, rfl⟩

/-- The tile call's body obligation, its results held to the relation. -/
theorem body0 (c : Dev nD) : BodyObligationRel (𝕕₀ c) (defs₀ (F := F)) 𝒱₀ ι Set.univ fgt0 (rel0 V c) := fun t => by
  rw [bigSep_W0, bigSep_W0, show defs₀ (F := F) .tc cfg0.body (cfg0.bodyArgs t (cfg0.slots t)) = bodyAt0 t from by unfold defs₀; rw [Defs.onTc_tc]]
  exact triple_restated (sound0 (U := U) (Lvl := Lvl) 𝒱₀ V ι c t) rfl .rfl fun _ => .rfl

/-! ## The reduce call -/

/-- Window `w`'s block of the reduce call, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of the reduce call on core `c`: the arrays as the call finds them; after the body the operands' buffers at their
    blocks and the result's at what the kernel computes from them. -/
def dat1 (c : Dev nD) : Dat τ (Elt F) Ix ℕ U Lvl cfg1 c where
  A w := V c (Pipeline.arrRef spec1 w)
  after w t := match w with
    | ⟨0, _⟩ => blk1 V c 0 t
    | ⟨1, _⟩ => blk1 V c 1 t
    | ⟨2, _⟩ => k1_pay1 (F := F) (blk1 V c 0 t) (blk1 V c 1 t)
  Φ _ := iprop(Pipeline.scopedRest (Ix := Ix) (Name := ℕ) (U := U) (Lvl := Lvl) (Val := Elt F) spec1 c ∗ ∃ r, prngReg c r)
  q _ := fullShare
  owed _ := 0

local notation "𝕕₁" => dat1 (Ix := Ix) (U := U) (Lvl := Lvl) V

/-- The first operand's buffer holds its block. -/
theorem before1_0 (c : Dev nD) (t : Fin cfg1.N) (d) : (𝕕₁ c).before 0 t d = blk1 V c 0 t :=
  ((𝕕₁ c).before_in_eq_fetched 0 rfl (fun _ => rfl) (fun _ _ _ => rfl) (fun _ => rfl) t d).trans rfl
/-- The second operand's buffer holds its block. -/
theorem before1_1 (c : Dev nD) (t : Fin cfg1.N) (d) : (𝕕₁ c).before 1 t d = blk1 V c 1 t :=
  ((𝕕₁ c).before_in_eq_fetched 1 rfl (fun _ => rfl) (fun _ _ _ => rfl) (fun _ => rfl) t d).trans rfl

/-- What the reduce kernel leaves in the result's buffer. -/
theorem after1_2 (c : Dev nD) (t : Fin cfg1.N) : (𝕕₁ c).after 2 t = k1_pay1 (F := F) (blk1 V c 0 t) (blk1 V c 1 t) := by dsimp only [dat1]

/-- What the reduce kernel is called with, the windows one by one, -/
def pre1 (c : Dev nD) (t : Fin cfg1.N) : sProp 𝕄 :=
  iprop((𝕕₁ c).Φ t.castSucc ∗ (𝕕₁ c).owesAt ι t.castSucc
    ∗ (∃ d, owns (c : Thread nD τ) (st1_0 t) fullShare ((𝕕₁ c).before 0 t d))
    ∗ (∃ d, owns (c : Thread nD τ) (st1_1 t) fullShare ((𝕕₁ c).before 1 t d))
    ∗ (∃ d, owns (c : Thread nD τ) (st1_2 t) fullShare ((𝕕₁ c).before 2 t d)))
/-- and what it returns. -/
def post1 (c : Dev nD) (t : Fin cfg1.N) : sProp 𝕄 :=
  iprop((𝕕₁ c).Φ t.succ ∗ (𝕕₁ c).owesAt ι t.succ
    ∗ owns (c : Thread nD τ) (st1_0 t) fullShare ((𝕕₁ c).after 0 t)
    ∗ owns (c : Thread nD τ) (st1_1 t) fullShare ((𝕕₁ c).after 1 t)
    ∗ owns (c : Thread nD τ) (st1_2 t) fullShare ((𝕕₁ c).after 2 t))

/-- The reduce kernel, from what it is called with to what it returns. -/
theorem sound1 (c : Dev nD) (t : Fin cfg1.N) :
    pre1 (U := U) (Lvl := Lvl) V ι c t ⊢ wp frame (wpE (defs₀ (F := F)) 𝒱₀ c none) Set.univ (bodyAt1 t) (fun _ => post1 (U := U) (Lvl := Lvl) V ι c t) := by
  unfold pre1 post1 bodyAt1
  simp only [before1_0, before1_1]
  rw [show (𝕕₁ c).Φ t.succ = (𝕕₁ c).Φ t.castSucc from rfl, show (𝕕₁ c).owesAt ι t.succ = (𝕕₁ c).owesAt ι t.castSucc from rfl,
    show (𝕕₁ c).after 0 t = blk1 V c 0 t from rfl, show (𝕕₁ c).after 1 t = blk1 V c 1 t from rfl,
    after1_2]
  iintro ⟨HΦ, Ho, ⟨%d0, H0⟩, ⟨%d1, H1⟩, ⟨%d2, H2⟩⟩
  iapply (reduce_run (Ix := Ix) (U := U) (Lvl := Lvl) 𝒱₀ c (grid1.coords t) _ _ _ _ _ _ (blk1 V c 0 t) (blk1 V c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The reduce call's body obligation. -/
theorem body1 (c : Dev nD) : BodyObligation (𝕕₁ c) (defs₀ (F := F)) 𝒱₀ ι Set.univ := fun t => by
  rw [bigSep_W1, bigSep_W1, show defs₀ (F := F) .tc cfg1.body (cfg1.bodyArgs t (cfg1.slots t)) = bodyAt1 t from by unfold defs₀; rw [Defs.onTc_tc]]
  exact triple_restated (sound1 (U := U) (Lvl := Lvl) 𝒱₀ V ι c t) rfl .rfl fun _ => .rfl

/-! ## The one-hot call -/

/-- Window `w`'s block of the one-hot call at point `t`, read off its array as the call finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The proof data of the one-hot call on core `c`: the arrays as the call finds them; after the body the operand's buffer at its block
    and the result's at what the kernel computes from it. -/
def dat2 (c : Dev nD) : Dat τ (Elt F) Ix ℕ U Lvl cfg2 c where
  A w := V c (Pipeline.arrRef spec2 w)
  after w t := match w with
    | ⟨0, _⟩ => blk2 V c 0 t
    | ⟨1, _⟩ => k2_pay1 (F := F) (grid2.coords t) (blk2 V c 0 t)
  Φ _ := iprop(Pipeline.scopedRest (Ix := Ix) (Name := ℕ) (U := U) (Lvl := Lvl) (Val := Elt F) spec2 c ∗ ∃ r, prngReg c r)
  q _ := fullShare
  owed _ := 0

local notation "𝕕₂" => dat2 (Ix := Ix) (U := U) (Lvl := Lvl) V

/-- The operand's buffer holds its block at every point, fetched there or not. -/
theorem before2_0 (c : Dev nD) (t : Fin cfg2.N) (d) : (𝕕₂ c).before 0 t d = blk2 V c 0 t :=
  ((𝕕₂ c).before_in_eq_fetched 0 rfl (fun _ => rfl) (fun _ _ _ => rfl) (fun _ => rfl) t d).trans rfl

/-- What the one-hot kernel is called with at point `t`, the windows one by one, -/
def pre2 (c : Dev nD) (t : Fin cfg2.N) : sProp 𝕄 :=
  iprop((𝕕₂ c).Φ t.castSucc ∗ (𝕕₂ c).owesAt ι t.castSucc
    ∗ (∃ d, owns (c : Thread nD τ) (st2_0 t) fullShare ((𝕕₂ c).before 0 t d))
    ∗ (∃ d, owns (c : Thread nD τ) (st2_1 t) fullShare ((𝕕₂ c).before 1 t d)))
/-- and what it returns. -/
def post2 (c : Dev nD) (t : Fin cfg2.N) : sProp 𝕄 :=
  iprop((𝕕₂ c).Φ t.succ ∗ (𝕕₂ c).owesAt ι t.succ
    ∗ owns (c : Thread nD τ) (st2_0 t) fullShare ((𝕕₂ c).after 0 t)
    ∗ owns (c : Thread nD τ) (st2_1 t) fullShare ((𝕕₂ c).after 1 t))

/-- The one-hot kernel at any point, from what it is called with to what it returns. -/
theorem sound2 (c : Dev nD) (t : Fin cfg2.N) :
    pre2 (U := U) (Lvl := Lvl) V ι c t ⊢ wp frame (wpE (defs₀ (F := F)) 𝒱₀ c none) Set.univ (bodyAt2 t) (fun _ => post2 (U := U) (Lvl := Lvl) V ι c t) := by
  unfold pre2 post2 bodyAt2
  simp only [before2_0]
  rw [show (𝕕₂ c).Φ t.succ = (𝕕₂ c).Φ t.castSucc from rfl, show (𝕕₂ c).owesAt ι t.succ = (𝕕₂ c).owesAt ι t.castSucc from rfl,
    show (𝕕₂ c).after 0 t = blk2 V c 0 t from rfl, show (𝕕₂ c).after 1 t = k2_pay1 (F := F) (grid2.coords t) (blk2 V c 0 t) from rfl]
  iintro ⟨HΦ, Ho, ⟨%d0, H0⟩, ⟨%d1, H1⟩⟩
  iapply (onehot_run (Ix := Ix) (U := U) (Lvl := Lvl) 𝒱₀ c (grid2.coords t) _ _ _ _ (blk2 V c 0 t) Set.univ _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The one-hot call's body obligation. -/
theorem body2 (c : Dev nD) : BodyObligation (𝕕₂ c) (defs₀ (F := F)) 𝒱₀ ι Set.univ := fun t => by
  rw [bigSep_W2, bigSep_W2, show defs₀ (F := F) .tc cfg2.body (cfg2.bodyArgs t (cfg2.slots t)) = bodyAt2 t from by unfold defs₀; rw [Defs.onTc_tc]]
  exact triple_restated (sound2 (U := U) (Lvl := Lvl) 𝒱₀ V ι c t) rfl .rfl fun _ => .rfl

end Cert.KernelIdeal.Calls

end
-- ==== Proof.Records.lean ====
/-
  The three pallas_calls of `KernelIdeal` as steps of @main between thread states that hold every unscoped buffer at SOME contents: what a
  call leaves is constrained, not named, so the next call starts from contents the run has not fixed beforehand.
-/
module

public import proofs.«01_k».proof.Proof.Calls
public import proofs.«01_k».proof.Proof.Gen.KernelIdeal.Regions
public import Idealize.ShloMosaic.Lib.Pipeline.ArrRel
public import Idealize.ShloMosaic.Lib.Pipeline.RegionArraysF

@[expose] public section

set_option maxRecDepth 16384

noncomputable section

namespace Cert.KernelIdeal.Calls

open Cert.KernelIdeal Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel HostSeg cellsGhost toksInit pin prefHeld_of_none)

variable {F : FTy → Type} [FloatOps F]
variable {Ix : Type} [DecidableEq Ix] {U : Type} [URA U] {Lvl : Type} [Preorder Lvl]

local notation "𝕄" => MT nD τ sig Ix (Elt F) ℕ U Lvl

/-- Every scalar type of a buffer has a value. -/
instance elt_nonempty (e : EltTy) : Nonempty (Elt F e) := by
  cases e <;> first | exact ⟨(0 : BitVec _)⟩ | exact ⟨(Scalar.ofBits _ 0 : F _)⟩

/-! ## The three calls' data as one family -/

/-- A core's buffers as a call finds them, named by reference. -/
abbrev byRef (V : Dev nD → Valuation τ sig (Elt F)) : (c : Dev nD) → (b : Ref sig .tc) → Buf (Elt F) ((c : Thread nD τ).loc b) :=
  fun c b => V c (Proc.devRef .tc b)

/-- The calls' proof data, each entered at `V`. -/
def pdats (V : Dev nD → Valuation τ sig (Elt F)) : (p : Fin 3) → (c : Dev nD) → Dat τ (Elt F) Ix ℕ U Lvl (cfgs p) c
  | 0 => fun c => dat0 (byRef V) c
  | 1 => fun c => dat1 (byRef V) c
  | 2 => fun c => dat2 (byRef V) c

/-- The windows held to a relation. -/
def fgts : (p : Fin 3) → Fin (cfgs p).W → Bool
  | 0 => fgt0
  | 1 => fun _ => false
  | 2 => fun _ => false

/-- The relations. -/
def rels (V : Dev nD → Valuation τ sig (Elt F)) : (p : Fin 3) → (c : Dev nD) → (w : Fin (cfgs p).W) → Fin (cfgs p).N
    → (((cfgs p).win w).block.Idx → Elt F ((cfgs p).win w).elt) → Prop
  | 0 => fun c => rel0 (byRef V) c
  | 1 => fun _ _ _ _ => True
  | 2 => fun _ _ _ _ => True

/-- The calls' data read relationally. -/
abbrev rdats (V : Dev nD → Valuation τ sig (Elt F)) : (p : Fin 3) → (c : Dev nD) → RDat τ (Elt F) Ix ℕ U Lvl (cfgs p) c :=
  fun p c => (pdats V p c).toRRel (fgts p) (rels V p c)

/-- No call owes anything at any step. -/
theorem pdats_owed (V : Dev nD → Valuation τ sig (Elt F)) : ∀ (p : Fin 3) (c : Dev nD) (t), (pdats (Ix := Ix) (U := U) (Lvl := Lvl) V p c).owed t = 0
  | 0, _, _ => rfl
  | 1, _, _ => rfl
  | 2, _, _ => rfl

/-- Every call holds each of its windows' arrays whole. -/
theorem pdats_share (V : Dev nD → Valuation τ sig (Elt F)) : ∀ (p : Fin 3) (c : Dev nD) (w), (pdats (Ix := Ix) (U := U) (Lvl := Lvl) V p c).share w = fullShare
  | 0, _, w => by unfold Dat.share; split <;> rfl
  | 1, _, w => by unfold Dat.share; split <;> rfl
  | 2, _, w => by unfold Dat.share; split <;> rfl

/-- Every call finds its windows' arrays as the valuation has them. -/
theorem pdats_A (V : Dev nD → Valuation τ sig (Elt F)) : ∀ (p : Fin 3) (c : Dev nD) (w),
    (pdats (Ix := Ix) (U := U) (Lvl := Lvl) V p c).A w = V c (Proc.devRef .tc (Pipeline.arrRef (cfgs p).spec w))
  | 0, _, _ => rfl
  | 1, _, _ => rfl
  | 2, _, _ => rfl

/-- What every call has recorded is everything, at every step. -/
theorem pdats_recorded (V : Dev nD → Valuation τ sig (Elt F)) : ∀ (p : Fin 3) (c : Dev nD) (t), (pdats (Ix := Ix) (U := U) (Lvl := Lvl) V p c).recorded t = Set.univ
  | 0, _, _ => rfl
  | 1, _, _ => rfl
  | 2, _, _ => rfl

/-- What every call carries from step to step: its scoped buffers and the device's random register. -/
theorem pdats_inv (V : Dev nD → Valuation τ sig (Elt F)) : ∀ (p : Fin 3) (c : Dev nD) (t), (pdats (Ix := Ix) (U := U) (Lvl := Lvl) V p c).Φ t
      = iprop(Pipeline.scopedRest (Ix := Ix) (Name := ℕ) (U := U) (Lvl := Lvl) (Val := Elt F) (cfgs p).spec c ∗ ∃ r, prngReg c r)
  | 0, _, _ => rfl
  | 1, _, _ => rfl
  | 2, _, _ => rfl

variable (𝒱₀ : Variants) (ι : Ix)

/-- Every call's body obligation. -/
theorem rdats_body (V : Dev nD → Valuation τ sig (Elt F)) : ∀ (p : Fin 3) (c : Dev nD),
    (rdats (Ix := Ix) (U := U) (Lvl := Lvl) V p c).BodyObligation (defs₀ (F := F)) 𝒱₀ ι Set.univ
  | 0, c => (body0 𝒱₀ (byRef V) ι c).toRRel
  | 1, c => (body1 𝒱₀ (byRef V) ι c).loose.toR
  | 2, c => (body2 𝒱₀ (byRef V) ι c).loose.toR

/-- The arrays after a call: at some contents the relation allows. -/
theorem arrays_some (V : Dev nD → Valuation τ sig (Elt F)) (p : Fin 3) (c : Dev nD) (n : ℕ) :
    ((rdats (Ix := Ix) (U := U) (Lvl := Lvl) V p c).arraysAt n : sProp 𝕄)
      ⊢ iprop(∃ A : (w : Fin (cfgs p).W) → Buf (Elt F) (((cfgs p).win w).arr.view.loc (c.tc : Thread nD τ)),
        ⌜∀ w, (rdats (Ix := Ix) (U := U) (Lvl := Lvl) V p c).ArrAt w n (A w)⌝ ∗ (pdats (Ix := Ix) (U := U) (Lvl := Lvl) V p c).arrays A) := by
  unfold RDat.arraysAt Dat.arrays
  refine (BI.bigSep_exists_pi Finset.univ _).trans ?_
  iintro ⟨%A, H⟩
  ihave H' := (BI.bigSep_pure_sep Finset.univ (fun w => (rdats (Ix := Ix) (U := U) (Lvl := Lvl) V p c).ArrAt w n (A w)) _) $$ H
  icases H' with ⟨%hA, H⟩
  iexists A
  isplitr
  · ipureintro; exact fun w => hA w (Finset.mem_univ w)
  iexact H

/-- Contents that have given arrays at given values and every other buffer as before. -/
theorem exists_val {J : Type} (ref : J → DevRef τ sig) (hinj : Function.Injective ref) (A : (w : J) → (ref w).ty.shape.Idx → Elt F (ref w).ty.elt)
    (V : Valuation τ sig (Elt F)) : ∃ V' : Valuation τ sig (Elt F), (∀ w, A w = V' (ref w)) ∧ ∀ d, (∀ w, ref w ≠ d) → V' d = V d := by
  classical
  refine ⟨fun d => if h : ∃ w, ref w = d then h.choose_spec ▸ A h.choose else V d, fun w => ?_, fun d hd => ?_⟩
  · have h : ∃ w', ref w' = ref w := ⟨w, rfl⟩
    dsimp only
    rw [dif_pos h]
    have e : h.choose = w := hinj h.choose_spec
    have : ∀ (w' : J) (e' : ref w' = ref w), w' = w → A w = e' ▸ A w' := by
      intro w' e' hw; subst hw; rfl
    exact this _ _ e
  · exact dif_neg fun ⟨w, hw⟩ => hd w hw

/-- What a call may do to a core's buffers: its arrays end as the relation allows, every other buffer as before. -/
def Step (p : Fin 3) (c : Dev nD) (V V' : Valuation τ sig (Elt F)) : Prop :=
  (∀ w, (rdats (Ix := Ix) (U := U) (Lvl := Lvl) (fun _ => V) p c).ArrAt w (cfgs p).N (V' (Proc.devRef .tc (Pipeline.arrRef (cfgs p).spec w))))
    ∧ ∀ d, (∀ w, Proc.devRef .tc (Pipeline.arrRef (cfgs p).spec w) ≠ d) → V' d = V d

/-- The launch facts of the three calls. -/
theorem kits : ∀ p : Fin 3, Pipeline.PLaunchFacts (nD := nD) (τ := τ) (pcfgs (F := F)) p
  | 0 => launch0.toP
  | 1 => launch1.toP
  | 2 => launch2.toP

/-- No call prefetches a table. -/
theorem noTables : ∀ p : Fin 3, (pcfgs (F := F) p).pre.K = 0
  | 0 => rfl
  | 1 => rfl
  | 2 => rfl

variable (L : GSem nD τ sig → Finset Ix) (lv : GSem nD τ sig → Ix → Lvl)

set_option backward.isDefEq.respectTransparency.types false in
/-- A call's record: entered with every unscoped buffer at `V`, left with them at some contents the call may leave. -/
def record (p : Fin 3) (V : Valuation τ sig (Elt F)) (Er : Dev nD → sProp 𝕄) :
    RDat.RegionSeg (pcfgs (F := F)) adm (rdats (Ix := Ix) (U := U) (Lvl := Lvl) (fun _ => V)) ι defs₀ 𝒱₀ L lv p where
  win := (kits p).win.to₀
  block_pos := (kits (F := F) p).block_pos
  stage_whole := (kits (F := F) p).stage_whole
  K := PEmpty
  osem := fun k => k.elim
  ho := Pipeline.OwnSemFacts.none _
  hbody c := rdats_body 𝒱₀ ι (fun _ => V) p c
  hwaits := RDat.hwaits_of_owed_zero (pcfgs (F := F)) adm (rdats (Ix := Ix) (U := U) (Lvl := Lvl) (fun _ => V)) ι L lv p (fun c t => pdats_owed (fun _ => V) p c t)
  pre c := iprop(StableHlo.held (c.tc : Thread nD τ) (Pipeline.ucRefs τ sig) V ∗ (∃ r, prngReg c r) ∗ Er c ∗ ∃ Wd, owes (c : Thread nD τ) (0 : CellTallies nD τ sig Ix) Wd)
  post c := iprop(∃ V', ⌜Step (Ix := Ix) (U := U) (Lvl := Lvl) p c V V'⌝ ∗ StableHlo.held (c.tc : Thread nD τ) (Pipeline.ucRefs τ sig) V' ∗ (∃ r, prngReg c r) ∗ Er c
    ∗ ∃ Wd, owes (c : Thread nD τ) (0 : CellTallies nD τ sig Ix) Wd)
  X c := iprop(∃ r, prngReg c r)
  Y c := iprop(∃ r, prngReg c r)
  Z c := iprop(StableHlo.held (c.tc : Thread nD τ) (Pipeline.ucRefs τ sig \ Pipeline.arrRefs (pcfgs (F := F) p).spec) V ∗ Er c)
  hentry c := by
    show _ ⊢ |={Set.univ}=> iprop((pdats (Ix := Ix) (U := U) (Lvl := Lvl) (fun _ => V) p c).arrays (pdats (Ix := Ix) (U := U) (Lvl := Lvl) (fun _ => V) p c).A ∗ Pipeline.prefHeld (pcfgs (F := F) p).pre c (fun _ => fullShare) (adm p).1
        ∗ (pdats (Ix := Ix) (U := U) (Lvl := Lvl) (fun _ => V) p c).owesAt ι 0 ∗ _ ∗ _)
    rw [prefHeld_of_none _ (noTables p), Pipeline.ownSems0_none,
      Pipeline.arrays_held (pcfgs (F := F)) adm (pdats (Ix := Ix) (U := U) (Lvl := Lvl) (fun _ => V)) p (kits p) c (pdats_share (fun _ => V) p c) _ V (pdats_A (fun _ => V) p c),
      StableHlo.held_sub_split (c.tc : Thread nD τ) (Pipeline.arrRefs_sub_ucRefs _ (kits (F := F) p).win.arr_unscoped) V]
    iintro ⟨⟨⟨Ha, Hr⟩, Hp, HE, HO⟩, -, -⟩
    imodintro
    isplitl [Ha]; · iexact Ha
    isplitr; · iempintro
    isplitl [HO]
    · unfold Dat.owesAt Pipeline.owesWithin Dat.bound
      rw [pdats_owed (fun _ => V) p c 0, pdats_recorded (fun _ => V) p c 0]
      icases HO with ⟨%Wd, HO⟩; iexists Wd; isplitr; · ipureintro; exact fun _ _ => Or.inl trivial
      iexact HO
    isplitl [Hp]; · iexact Hp
    isplitl [Hr]; · iexact Hr
    iexact HE
  hin c := by
    show _ ⊢ (pdats (Ix := Ix) (U := U) (Lvl := Lvl) (fun _ => V) p c).Φ 0
    rw [pdats_inv]
    iintro ⟨Hp, -, Hr⟩
    isplitl [Hr]; · iexact Hr
    iexact Hp
  hout c := by
    show (pdats (Ix := Ix) (U := U) (Lvl := Lvl) (fun _ => V) p c).Φ _ ⊢ _
    rw [pdats_inv, Pipeline.ownSems0_none]
    iintro ⟨Hr, Hp⟩
    isplitl [Hp]; · iexact Hp
    isplitr; · iempintro
    iexact Hr
  hexit c := by
    show iprop((rdats (Ix := Ix) (U := U) (Lvl := Lvl) (fun _ => V) p c).arraysAt (cfgs p).N ∗ (pdats (Ix := Ix) (U := U) (Lvl := Lvl) (fun _ => V) p c).owesAt ι (Fin.last (cfgs p).N) ∗ _ ∗ _) ⊢ _
    iintro ⟨Ha, HO, Hp, ⟨Hr, HE⟩⟩
    ihave Ha := (arrays_some (fun _ => V) p c (cfgs p).N) $$ Ha
    icases Ha with ⟨%A, %hA, Ha⟩
    obtain ⟨V', hV, hoff⟩ := exists_val (fun w => Proc.devRef (τ := τ) .tc (Pipeline.arrRef (cfgs p).spec w))
      (fun w w' h => (kits (F := F) p).win.arr_inj (Proc.devRef_injective _ h)) A V
    imodintro
    iexists V'
    isplitr
    · ipureintro
      exact ⟨fun w => by rw [← hV w]; exact hA w, hoff⟩
    rw [StableHlo.held_sub_split (c.tc : Thread nD τ) (Pipeline.arrRefs_sub_ucRefs (pcfgs (F := F) p).spec (kits (F := F) p).win.arr_unscoped) V',
      ← Pipeline.arrays_held (pcfgs (F := F)) adm (pdats (Ix := Ix) (U := U) (Lvl := Lvl) (fun _ => V)) p (kits p) c (pdats_share (fun _ => V) p c) A V' hV,
      StableHlo.held_congr (c.tc : Thread nD τ) (S := Pipeline.ucRefs τ sig \ Pipeline.arrRefs (pcfgs (F := F) p).spec) (V := V') (V' := V)
        (fun d hd => hoff d fun w e => (Finset.mem_sdiff.mp hd).2 (e ▸ Finset.mem_map.mpr ⟨_, Finset.mem_image.mpr ⟨w, Finset.mem_univ _, rfl⟩, rfl⟩))]
    isplitl [Ha Hr]
    · isplitl [Ha]; · iexact Ha
      iexact Hr
    isplitl [Hp]; · iexact Hp
    isplitl [HE]; · iexact HE
    unfold Dat.owesAt Pipeline.owesWithin
    rw [pdats_owed (fun _ => V) p c (Fin.last _)]
    icases HO with ⟨%Wd, -, HO⟩; iexists Wd; iexact HO

/-- What a call is entered from, spelt out, -/
theorem record_pre (p : Fin 3) (V : Valuation τ sig (Elt F)) (Er : Dev nD → sProp 𝕄) (c : Dev nD) :
    iprop(StableHlo.held (c.tc : Thread nD τ) (Pipeline.ucRefs τ sig) V ∗ (∃ r, prngReg c r) ∗ Er c ∗ ∃ Wd, owes (c : Thread nD τ) (0 : CellTallies nD τ sig Ix) Wd)
      ⊢ (record 𝒱₀ ι L lv p V Er).pre c := .rfl
/-- and what it is left at. -/
theorem record_post (p : Fin 3) (V : Valuation τ sig (Elt F)) (Er : Dev nD → sProp 𝕄) (c : Dev nD) : (record 𝒱₀ ι L lv p V Er).post c
      ⊢ iprop(∃ V', ⌜Step (Ix := Ix) (U := U) (Lvl := Lvl) p c V V'⌝ ∗ StableHlo.held (c.tc : Thread nD τ) (Pipeline.ucRefs τ sig) V' ∗ (∃ r, prngReg c r) ∗ Er c
        ∗ ∃ Wd, owes (c : Thread nD τ) (0 : CellTallies nD τ sig Ix) Wd) := .rfl

variable (EP : Emb (URounds (GSem nD τ sig) Unit) (MT nD τ sig Ix (Elt F) ℕ U Lvl)) [EP.LandsIn (upEmb : UEmb _ (MT nD τ sig Ix (Elt F) ℕ U Lvl))]

set_option backward.isDefEq.respectTransparency.types false in
/-- A call as a step of @main that carries its staging cells' ghost state itself: entered with the buffers at some contents
    `I` allows, left with them at some contents the call makes of such. -/
def callSeg (p : Fin 3) (I : Dev nD → Valuation τ sig (Elt F) → Prop) (Er : Dev nD → sProp 𝕄) :
    HostSeg (Ix := Ix) (Name := ℕ) (U := U) (Lvl := Lvl) (pcfgs (F := F)) defs₀ 𝒱₀ L lv where
  prog := Prog.lift (.customCall (Pipeline.entry p) ())
  pre c := iprop((∃ V, ⌜I c V⌝ ∗ StableHlo.held (c.tc : Thread nD τ) (Pipeline.ucRefs τ sig) V) ∗ (∃ r, prngReg c r)
    ∗ ((cellsGhost (pin (pcfgs (F := F)) adm) EP p c ∗ toksInit (pin (pcfgs (F := F)) adm) EP p c) ∗ Er c) ∗ ∃ Wd, owes (c : Thread nD τ) (0 : CellTallies nD τ sig Ix) Wd)
  post c := iprop((∃ V, ⌜∃ V₀, I c V₀ ∧ Step (Ix := Ix) (U := U) (Lvl := Lvl) p c V₀ V⌝ ∗ StableHlo.held (c.tc : Thread nD τ) (Pipeline.ucRefs τ sig) V) ∗ (∃ r, prngReg c r)
    ∗ Er c ∗ ∃ Wd, owes (c : Thread nD τ) (0 : CellTallies nD τ sig Ix) Wd)
  run := by
    intro c β k K
    iintro ⟨Hk, Hb, ⟨⟨%V, %hV, HV⟩, Hp, ⟨⟨Hg, Ht⟩, HE⟩, HO⟩, HL⟩
    iapply (RDat.RegionSeg.wp (pcfgs (F := F)) adm (rdats (Ix := Ix) (U := U) (Lvl := Lvl) (fun _ => V)) ι cellOf_inj EP defs₀ 𝒱₀ L lv
      (record 𝒱₀ ι L lv p V Er) c none (fun u h => nomatch h) k K)
    isplitl [Hk]
    · iintro ⟨Hb, HP⟩
      ihave HP := (record_post 𝒱₀ ι L lv p V Er c) $$ HP
      icases HP with ⟨%V', %hV', HV', Hp, HE, HO⟩
      iapply Hk
      isplitl [Hb]; · iexact Hb
      isplitl [HV']
      · iexists V'; isplitr
        · ipureintro; exact ⟨V, hV, hV'⟩
        iexact HV'
      isplitl [Hp]; · iexact Hp
      isplitl [HE]; · iexact HE
      iexact HO
    isplitl [Hb]; · iexact Hb
    isplitl [HV Hp HE HO]
    · iapply (record_pre 𝒱₀ ι L lv p V Er c)
      isplitl [HV]; · iexact HV
      isplitl [Hp]; · iexact Hp
      isplitl [HE]; · iexact HE
      iexact HO
    isplitl [HL]; · iexact HL
    isplitl [Hg]; · iexact Hg
    iexact Ht

end Cert.KernelIdeal.Calls

end
-- ==== Proof.Run.lean ====
/-
  The run of `KernelIdeal`'s @main: it terminates, every counter at zero, and the buffers end at contents that the reshape and the three calls
  make of the launch's, step by step.
-/
module

public import proofs.«01_k».proof.Proof.Records

@[expose] public section

set_option maxRecDepth 16384

noncomputable section

namespace Cert.KernelIdeal.Calls

open Cert.KernelIdeal Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat HostSeg Seg cellsGhost toksInit pin ghostOn)

variable {F : FTy → Type} [FloatOps F]

/-- The ghost state's algebra: two copies of the staging cells' rounds. -/
abbrev UU : Type := UR sig nD τ × UR sig nD τ

local notation "𝕄" => MT nD τ sig Unit (Elt F) ℕ UU ℕ

/-- The copy the calls use. -/
abbrev EC : Emb (UR sig nD τ) (MT nD τ sig Unit (Elt F) ℕ UU ℕ) := embR

/-- A call's effect on a core's buffers. -/
abbrev CallStep (p : Fin 3) (c : Dev nD) (V V' : Valuation τ sig (Elt F)) : Prop := Step (Ix := Unit) (U := UU) (Lvl := ℕ) p c V V'

variable (m : (ℓ : Loc nD τ sig) → Buf (Elt F) ℓ)

/-- What the buffers may hold when the tile call is entered, -/
def At0 (c : Dev nD) (V : Valuation τ sig (Elt F)) : Prop := V = V1 m c
/-- when the reduce call is, -/
def At1 (c : Dev nD) (V : Valuation τ sig (Elt F)) : Prop := ∃ V₀, At0 m c V₀ ∧ CallStep 0 c V₀ V
/-- when the one-hot call is, -/
def At2 (c : Dev nD) (V : Valuation τ sig (Elt F)) : Prop := ∃ V₀, At1 m c V₀ ∧ CallStep 1 c V₀ V
/-- and at the end. -/
def At3 (c : Dev nD) (V : Valuation τ sig (Elt F)) : Prop := ∃ V₀, At2 m c V₀ ∧ CallStep 2 c V₀ V

/-- A call changes nothing but its windows' arrays; an operand's array it leaves as it was. -/
theorem Step.of {p : Fin 3} {c : Dev nD} {V V' : Valuation τ sig (Elt F)} (h : CallStep p c V V') (r : Ref sig .tc)
    (hr : ∀ w, Pipeline.arrRef (cfgs p).spec w = r → ((cfgs p).win w).isOut = false) : V' (Proc.devRef .tc r) = V (Proc.devRef .tc r) := by
  by_cases hw : ∃ w, Pipeline.arrRef (cfgs p).spec w = r
  · obtain ⟨w, rfl⟩ := hw
    exact ((congrFun (RDat.ArrAt_in _ w (hr w rfl) _) _).mp (h.1 w)).trans (pdats_A (fun _ => V) p c w)
  · exact h.2 _ fun w e => hw ⟨w, Proc.devRef_injective _ e⟩

/-- The arguments are never written. -/
theorem At3.arg {c : Dev nD} {V : Valuation τ sig (Elt F)} (h : At3 m c V) (r : Ref sig .tc) (h0 : r ∉ hostOps0_W)
    (hr : ∀ p : Fin 3, ∀ w, Pipeline.arrRef (cfgs p).spec w = r → ((cfgs p).win w).isOut = false) :
    V (Proc.devRef .tc r) = m ((c : Thread nD τ).loc r) := by
  obtain ⟨V2, ⟨V1', ⟨V0', rfl, h0'⟩, h1⟩, h2⟩ := h
  exact (Step.of h2 r (hr 2)).trans ((Step.of h1 r (hr 1)).trans ((Step.of h0' r (hr 0)).trans ((V1_of m c r h0).trans rfl)))

/-- The levels of the waits: the program waits on nothing of its own. -/
abbrev LL : GSem nD τ sig → Finset Unit := fun _ => ∅
/-- Every level is zero: no semaphore orders anything here. -/
abbrev lvl : GSem nD τ sig → Unit → ℕ := fun _ _ => 0

/-- What rides beside the buffers before the call the remaining ones of which are `S`. -/
def ride (S : Finset (Fin 3)) (c : Dev nD) : sProp 𝕄 := ghostOn (pcfgs (F := F)) adm EC S c

/-- @main, item by item. -/
def items : List (Seg (pcfgs (F := F)) adm (pdats (Ix := Unit) (U := UU) (Lvl := ℕ) (V1 m)) () defs₀ Variants.none LL lvl) :=
  [.host (seg0 m Variants.none LL lvl (fun _ c => iprop((∃ r, prngReg c r) ∗ ride Finset.univ c ∗ ∃ Wd, owes (c : Thread nD τ) (0 : CellTallies nD τ sig Unit) Wd))),
   .host (callSeg Variants.none () LL lvl EC 0 (At0 m) (ride {1, 2})),
   .host (callSeg Variants.none () LL lvl EC 1 (At1 m) (ride {2})),
   .host (callSeg Variants.none () LL lvl EC 2 (At2 m) (ride ∅))]

/-- The ghost state of the calls left, one of them split off. -/
theorem ride_split (S : Finset (Fin 3)) (p : Fin 3) (hp : p ∈ S) (T : Finset (Fin 3)) (hT : S.erase p = T) (c : Dev nD) :
    (ride (F := F) S c : sProp 𝕄) ⊢ iprop((cellsGhost (pin (pcfgs (F := F)) adm) EC p c ∗ toksInit (pin (pcfgs (F := F)) adm) EC p c) ∗ ride T c) := by
  subst hT; unfold ride
  exact Entails.of_eq (Pipeline.PerCore.ghostOn_erase (pcfgs (F := F)) (fun _ => adm) EC hp c)

/-- Between two items: the state before the next call. -/
theorem link (p : Fin 3) (S T : Finset (Fin 3)) (hp : p ∈ S) (hT : S.erase p = T) (I : Valuation τ sig (Elt F) → Prop) (c : Dev nD) :
    iprop((∃ V, ⌜I V⌝ ∗ StableHlo.held (c.tc : Thread nD τ) (Pipeline.ucRefs τ sig) V) ∗ (∃ r, prngReg c r)
        ∗ ride (F := F) S c ∗ ∃ Wd, owes (c : Thread nD τ) (0 : CellTallies nD τ sig Unit) Wd)
      ⊢ (iprop((∃ V, ⌜I V⌝ ∗ StableHlo.held (c.tc : Thread nD τ) (Pipeline.ucRefs τ sig) V) ∗ (∃ r, prngReg c r)
        ∗ ((cellsGhost (pin (pcfgs (F := F)) adm) EC p c ∗ toksInit (pin (pcfgs (F := F)) adm) EC p c) ∗ ride T c)
        ∗ ∃ Wd, owes (c : Thread nD τ) (0 : CellTallies nD τ sig Unit) Wd) : sProp 𝕄) :=
  sep_mono .rfl (sep_mono .rfl (sep_mono (ride_split S p hp T hT c) .rfl))

/-- From the reshape to the tile call. -/
theorem first (c : Dev nD) :
    iprop(StableHlo.held (c : Thread nD τ) (Pipeline.ucRefs τ sig) (V1 m c) ∗ (∃ r, prngReg c r) ∗ ride (F := F) Finset.univ c
        ∗ ∃ Wd, owes (c : Thread nD τ) (0 : CellTallies nD τ sig Unit) Wd)
      ⊢ (iprop((∃ V, ⌜At0 m c V⌝ ∗ StableHlo.held (c.tc : Thread nD τ) (Pipeline.ucRefs τ sig) V) ∗ (∃ r, prngReg c r)
        ∗ ((cellsGhost (pin (pcfgs (F := F)) adm) EC 0 c ∗ toksInit (pin (pcfgs (F := F)) adm) EC 0 c) ∗ ride {1, 2} c)
        ∗ ∃ Wd, owes (c : Thread nD τ) (0 : CellTallies nD τ sig Unit) Wd) : sProp 𝕄) := by
  refine (show iprop(StableHlo.held (c : Thread nD τ) (Pipeline.ucRefs τ sig) (V1 m c) ∗ (∃ r, prngReg c r) ∗ ride (F := F) Finset.univ c
        ∗ ∃ Wd, owes (c : Thread nD τ) (0 : CellTallies nD τ sig Unit) Wd) ⊢ _ from ?_).trans (link 0 Finset.univ {1, 2} (by decide) (by decide) (At0 m c) c)
  iintro ⟨HV, HR⟩
  isplitl [HV]
  · iexists V1 m c; isplitr; · ipureintro; exact rfl
    iexact HV
  iexact HR

/-- From the one-hot call to the end. -/
theorem last (c : Dev nD) :
    iprop((∃ V, ⌜At3 m c V⌝ ∗ StableHlo.held (c.tc : Thread nD τ) (Pipeline.ucRefs τ sig) V) ∗ (∃ r, prngReg c r)
        ∗ ride (F := F) ∅ c ∗ ∃ Wd, owes (c : Thread nD τ) (0 : CellTallies nD τ sig Unit) Wd)
      ⊢ (iprop((∃ V, ⌜At3 m c V⌝ ∗ StableHlo.held (c.tc : Thread nD τ) (Pipeline.ucRefs τ sig) V)
        ∗ ∃ Wd, owes (c : Thread nD τ) (0 : CellTallies nD τ sig Unit) Wd) : sProp 𝕄) := by
  iintro ⟨HV, -, -, HO⟩
  isplitl [HV]; · iexact HV
  iexact HO

/-- The calls' ghost state is what the first call rides with. -/
theorem ride_all (c : Dev nD) :
    iprop((bigSep Finset.univ fun p => cellsGhost (pin (pcfgs (F := F)) adm) EC p c) ∗ bigSep Finset.univ fun p => toksInit (pin (pcfgs (F := F)) adm) EC p c)
      ⊢ (ride (F := F) Finset.univ c : sProp 𝕄) := by
  unfold ride ghostOn Pipeline.PerCore.ghostOn; rw [bigSep_sep']

/-- What the launch gives a core is the state @main starts from. -/
theorem start (ρ : Dev nD → PrngReg) (c : Dev nD) :
    iprop(unscopedBufs c (fun b => m ((c.tc : Thread nD τ).loc b)) ∗ unscopedSems0 c
        ∗ owes (c.tc : Thread nD τ) ((0 : Dev nD → CellTallies nD τ sig Unit) c) ∅ ∗ Pipeline.launchCred (0 : Dev nD → CellTallies nD τ sig Unit) c ∗ prngReg c (ρ c) ∗ ride (F := F) Finset.univ c)
      ⊢ (iprop(StableHlo.held (c : Thread nD τ) (Pipeline.ucRefs τ sig) (V0 m c) ∗ (∃ r, prngReg c r) ∗ ride Finset.univ c
        ∗ ∃ Wd, owes (c : Thread nD τ) (0 : CellTallies nD τ sig Unit) Wd) : sProp 𝕄) := by
  rw [← Pipeline.unscopedBufs_held (Ix := Unit) (Name := ℕ) (U := UU) (Lvl := ℕ) c (V0 m c)]
  iintro ⟨Hub, -, HO, -, Hp, HR⟩
  isplitl [Hub]; · iexact Hub
  isplitl [Hp]; · iexists _; iexact Hp
  isplitl [HR]; · iexact HR
  iexists ∅; iexact HO

set_option backward.isDefEq.respectTransparency.types false in
/-- THE RUN. Every execution of @main from memory `m` with zero counters terminates; at the end every counter is zero and each core's
    buffers are at contents the items make of the launch's. -/
theorem run (ρ : Dev nD → PrngReg) :
    θ_run defs (onTc (τ := τ) (main (F := F))) ⟨m, fun _ => 0, ρ⟩ (fun r => (∀ c : Dev nD, ∃ V, At3 m c V
      ∧ ∀ b ∈ Pipeline.ucRefs τ sig, r.2.mem (c, b) = V b) ∧ r.2.sem = fun _ => 0) := by
  have hcells := cellOf_inj
  refine Pipeline.θ_run_regions_kit_dev_sems (pcfgs (F := F)) adm (pdats (Ix := Unit) (U := UU) (Lvl := ℕ) (V1 m)) () cellOf_inj embL defs₀ Variants.none LL lvl m ρ main
    (fun _ => items m)
    (fun c Q => by
      rewrite [main_chain c, Seg.run_eq_chain,
        show (items m).map Seg.prog = [
          StableHlo.seq hostOps0,
          Prog.lift (.customCall (Pipeline.entry 0) ()),
          Prog.lift (.customCall (Pipeline.entry 1) ()),
          Prog.lift (.customCall (Pipeline.entry 2) ()) ] from rfl]
      dsimp (config := { failIfUnchanged := false }) only
      exact .rfl)
    (fun c => by unfold items; simp only [Seg.pipes_host, Seg.pipes_nil]; decide) (0 : Dev nD → CellTallies nD τ sig Unit) (fun _ _ => rfl)
    (fun c => ride Finset.univ c)
    (initOf (Pipeline.cells cfgs cellOf_inj) (Pipeline.launchToks cfgs cellOf_inj), initOf (Pipeline.cells cfgs cellOf_inj) (Pipeline.launchToks cfgs cellOf_inj))
    ?_
    (T₀ := fun c => iprop(StableHlo.held (c : Thread nD τ) (Pipeline.ucRefs τ sig) (V0 m c) ∗ (∃ r, prngReg c r) ∗ ride Finset.univ c
      ∗ ∃ Wd, owes (c : Thread nD τ) (0 : CellTallies nD τ sig Unit) Wd))
    (Tₙ := fun c => iprop(∃ V, ⌜At3 m c V⌝ ∗ StableHlo.held (c.tc : Thread nD τ) (Pipeline.ucRefs τ sig) V))
    (hch := fun c => ⟨.rfl, first m c, link 1 {1, 2} {2} (by decide) (by decide) (At1 m c) c, link 2 {2} ∅ (by decide) (by decide) (At2 m c) c, last m c⟩)
    (hinit := ?_) (QY := fun c s => ∃ V, At3 m c V ∧ ∀ b ∈ Pipeline.ucRefs τ sig, s.mem (c, b) = V b)
    (hfin := fun c s' => ?_) (hQ := fun _ h hz => ⟨h, funext fun g => hz g (.inr (regions_no_unscoped g.2))⟩)
  · -- the ghost state: the kit's own copy, unused, and the calls'
    iintro Hu
    ihave H := (ownU_pair _ _) $$ Hu
    icases H with ⟨HP, HC⟩
    imod (Pipeline.fund_ghost (pin (pcfgs (F := F)) adm) EC cellOf_inj) $$ HC with ⟨Hg, Ht⟩
    imodintro
    isplitl [HP]; · iexact HP
    iapply (show iprop((bigSep Finset.univ fun c : Dev nD => bigSep Finset.univ fun p => cellsGhost (pin (pcfgs (F := F)) adm) EC p c)
        ∗ (bigSep Finset.univ fun c : Dev nD => bigSep Finset.univ fun p => toksInit (pin (pcfgs (F := F)) adm) EC p c))
        ⊢ (bigSep Finset.univ fun c : Dev nD => ride (F := F) Finset.univ c : sProp 𝕄) from by
      rw [← bigSep_sep']
      exact bigSep_mono fun c _ => ride_all c)
    isplitl [Hg]; · iexact Hg
    iexact Ht
  · -- the launch
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ ride (F := F) Finset.univ c))
        ⊢ (bigSep Finset.univ fun c : Dev nD => iprop(StableHlo.held (c : Thread nD τ) (Pipeline.ucRefs τ sig) (V0 m c) ∗ (∃ r, prngReg c r) ∗ ride Finset.univ c
          ∗ ∃ Wd, owes (c : Thread nD τ) (0 : CellTallies nD τ sig Unit) Wd) : sProp 𝕄) := by
      exact bigSep_mono fun c _ => start m ρ c
    iintro ⟨H, -⟩
    imodintro
    iapply hsplit
    iexact H
  · -- the end: the buffers read off
    unfold StableHlo.held
    iintro ⟨⟨%V, %hV, Hh⟩, HSI⟩
    ihave Hr := (pointsTo_read_all (Pipeline.ucRefs τ sig) (fun b => ((c : Thread nD τ).1, b)) V s') $$ [Hh HSI]
    · isplitl [Hh] <;> iassumption
    icases Hr with ⟨%h, HSI⟩
    imodintro
    isplitr
    · ipureintro; exact ⟨V, hV, h⟩
    iexact HSI

/-- THE FRAME: @main terminates with the arguments as launched and every counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run _ _ _).mono (fun r h => ⟨fun c => ?_, h.2⟩) (run m ρ)
  obtain ⟨V, hV, hb⟩ := h.1 c
  refine ⟨(hb _ (Finset.mem_filter.mpr ⟨StableHlo.devRef_mem_tcRefs main_arg0, by decide⟩)).trans (hV.arg m main_arg0 (by decide) (by decide)),
    (hb _ (Finset.mem_filter.mpr ⟨StableHlo.devRef_mem_tcRefs main_arg1, by decide⟩)).trans (hV.arg m main_arg1 (by decide) (by decide)),
    (hb _ (Finset.mem_filter.mpr ⟨StableHlo.devRef_mem_tcRefs main_arg2, by decide⟩)).trans (hV.arg m main_arg2 (by decide) (by decide))⟩

end Cert.KernelIdeal.Calls

end
-- ==== Proof.Line.lean ====
/-
  Reading a straight line of host operations in which operation `k` writes the buffer numbered `n + k` and no other. What a
  buffer holds after the whole line is then what its operation makes of what its operands hold after the whole line.
-/
module

public import Idealize.ShloMosaic.Lib.StableHlo.RunHlo

@[expose] public section

noncomputable section

namespace Cert.Line

open Idealize.ShloMosaic Idealize.SL.Sem Idealize.ShloMosaic.StableHlo

variable {nD : Nat} {τ : Topo} {sig : RefSig} {Val : EltTy → Type} {Λ : Labels}

/-- A buffer's number. -/
def num (r : Ref sig .tc) : ℕ := r.idx.val

/-- What a valuation holds at a typed reference. -/
def rd {T : BufTy} (W : Valuation τ sig Val) (t : TRef sig T) : T.Contents Val := t.ofBuf (W (Proc.devRef .tc t.ref))

/-- An operation that writes the buffer numbered `n` alone, names buffers of the core alone, and leaves nothing arbitrary. -/
def Good (n : ℕ) (op : HloOp τ sig Val) : Prop :=
  (∃ y : Ref sig .tc, op.writes = {Proc.devRef .tc y} ∧ num y = n) ∧ op.bufs ⊆ tcRefs τ sig ∧ op.fresh = ∅

section Builders

variable {Ta Tb Tc Te Ty : BufTy} {n : ℕ}

/-- An operation of no argument is good at its result's number. -/
theorem good_nullary {y : TRef sig Ty} {v : Ty.Contents Val} (h : num y.ref = n) :
    Good (τ := τ) n (TRef.nullary y v) := ⟨⟨y.ref, rfl, h⟩, nullary_bufs_sub _ _ _, rfl⟩

/-- So is one of one argument. -/
theorem good_unary {a : TRef sig Ta} {y : TRef sig Ty} {f : Ta.Contents Val → Ty.Contents Val} (h : num y.ref = n) :
    Good (τ := τ) n (TRef.unary a y f) := ⟨⟨y.ref, rfl, h⟩, unary_bufs_sub _ _ _ _ _, rfl⟩

/-- So is a reshape. -/
theorem good_reshape {a : TRef sig Ta} {y : TRef sig Ty} {he : Ta.elt = Ty.elt} {hn : Ta.shape.ShapeCasts Ty.shape}
    (h : num y.ref = n) : Good (τ := τ) n (TRef.reshape (Val := Val) a y he hn) :=
  ⟨⟨y.ref, rfl, h⟩, reshape_bufs_sub _ _ _ _ _ _, rfl⟩

/-- So is one of two arguments. -/
theorem good_binary {a : TRef sig Ta} {b : TRef sig Tb} {y : TRef sig Ty}
    {f : Ta.Contents Val → Tb.Contents Val → Ty.Contents Val} (h : num y.ref = n) :
    Good (τ := τ) n (TRef.binary a b y f) := ⟨⟨y.ref, rfl, h⟩, binary_bufs_sub _ _ _ _ _ _ _, rfl⟩

/-- So is one of four arguments. -/
theorem good_quaternary {a : TRef sig Ta} {b : TRef sig Tb} {c : TRef sig Tc} {e : TRef sig Te} {y : TRef sig Ty}
    {f : Ta.Contents Val → Tb.Contents Val → Tc.Contents Val → Te.Contents Val → Ty.Contents Val} (h : num y.ref = n) :
    Good (τ := τ) n (TRef.quaternary a b c e y f) := ⟨⟨y.ref, rfl, h⟩, quaternary_bufs_sub _ _ _ _ _ _ _ _ _ _ _, rfl⟩

end Builders

/-- Operation `k` of the line writes the buffer numbered `n + k`. -/
def InOrder : ℕ → List (HloOp τ sig Val) → Prop
  | _, [] => True
  | n, op :: ops => Good n op ∧ InOrder (n + 1) ops

/-- Two lines in order, the second numbered from where the first ends, are one line in order. -/
theorem InOrder.append {l₁ l₂ : List (HloOp τ sig Val)} : ∀ {n : ℕ}, InOrder n l₁ → InOrder (n + l₁.length) l₂ → InOrder n (l₁ ++ l₂) := by
  induction l₁ with
  | nil => intro n _ h; exact h
  | cons op l ih =>
    intro n h h'
    refine ⟨h.1, ih h.2 ?_⟩
    have e : n + 1 + l.length = n + (op :: l).length := by rw [List.length_cons]; omega
    rw [e]; exact h'

/-- The operations of a line in order name buffers of the core alone, -/
theorem InOrder.bufs {l : List (HloOp τ sig Val)} : ∀ {n : ℕ}, InOrder n l → l.Forall fun op => op.bufs ⊆ tcRefs τ sig := by
  induction l with
  | nil => intro n _; trivial
  | cons op l ih => intro n h; exact (List.forall_cons _ _ _).mpr ⟨h.1.2.1, ih h.2⟩

/-- and leave nothing arbitrary. -/
theorem InOrder.fresh {l : List (HloOp τ sig Val)} : ∀ {n : ℕ}, InOrder n l → ∀ op ∈ l, op.fresh = ∅ := by
  induction l with
  | nil => intro n _ op h; cases h
  | cons op l ih =>
    intro n h o ho
    rcases List.mem_cons.mp ho with rfl | ho
    · exact h.1.2.2
    · exact ih h.2 o ho

/-- The operation that writes the buffer numbered `n` leaves the others as they were. -/
theorem Good.ne {n : ℕ} {op : HloOp τ sig Val} (h : Good n op) (V : Valuation τ sig Val) {r : Ref sig .tc} (hr : num r ≠ n) :
    op.result V (Proc.devRef .tc r) = V (Proc.devRef .tc r) := by
  obtain ⟨⟨y, hy, hn⟩, -, -⟩ := h
  exact result_of_writes_ne op V y r hy fun e => hr (e ▸ hn)

/-- A line leaves the buffers numbered before it as they were. -/
theorem InOrder.low {l : List (HloOp τ sig Val)} : ∀ {n : ℕ}, InOrder n l → ∀ (V : Valuation τ sig Val) {r : Ref sig .tc}, num r < n →
    after l V (Proc.devRef .tc r) = V (Proc.devRef .tc r) := by
  induction l with
  | nil => intro n _ V r _; rfl
  | cons op l ih =>
    intro n h V r hr
    rw [after_cons, ih h.2 _ (by omega), h.1.ne V (by omega)]

/-- Operation `k` runs on contents that agree with the line's final ones at the buffers numbered before its own, and its own
    buffer ends at what it makes there. -/
theorem InOrder.at {l : List (HloOp τ sig Val)} : ∀ {n k : ℕ} {op : HloOp τ sig Val}, InOrder n l → l[k]? = some op →
    ∀ V : Valuation τ sig Val, ∃ V' : Valuation τ sig Val,
      (∀ r : Ref sig .tc, num r < n + k → V' (Proc.devRef .tc r) = after l V (Proc.devRef .tc r)) ∧
      ∀ r : Ref sig .tc, num r = n + k → after l V (Proc.devRef .tc r) = op.result V' (Proc.devRef .tc r) := by
  induction l with
  | nil => intro n k op _ h; simp at h
  | cons o l ih =>
    intro n k op h hk V
    cases k with
    | zero =>
      simp only [List.getElem?_cons_zero, Option.some.injEq] at hk
      subst hk
      exact ⟨V, fun r hr => (h.low V (by omega)).symm, fun r hr => by rw [after_cons, h.2.low _ (by omega)]⟩
    | succ k =>
      obtain ⟨V', h₁, h₂⟩ := ih h.2 (by simpa using hk) (o.result V)
      exact ⟨V', fun r hr => by rw [after_cons]; exact h₁ r (by omega), fun r hr => by rw [after_cons]; exact h₂ r (by omega)⟩

section Reads

variable {Ta Tb Tc Te Ty : BufTy} {n : ℕ} {l : List (HloOp τ sig Val)}

/-- A constant's buffer ends at the constant. -/
theorem nullary_at (h : InOrder n l) (V : Valuation τ sig Val) (k : ℕ) {y : TRef sig Ty} {v : Ty.Contents Val}
    (hk : l[k]? = some (TRef.nullary y v)) (hy : num y.ref = n + k) : rd (after l V) y = v := by
  obtain ⟨V', -, h₂⟩ := h.at hk V
  unfold rd
  rw [h₂ _ hy]
  exact (congrArg y.ofBuf (nullary_result _ _ _ _)).trans (TRef.ofBuf_toBuf y _)

/-- The buffer of an operation of one operand ends at its function of the operand's. -/
theorem unary_at (h : InOrder n l) (V : Valuation τ sig Val) (k : ℕ) {a : TRef sig Ta} {y : TRef sig Ty}
    {f : Ta.Contents Val → Ty.Contents Val} (hk : l[k]? = some (TRef.unary a y f)) (hy : num y.ref = n + k)
    (ha : num a.ref < n + k) : rd (after l V) y = f (rd (after l V) a) := by
  obtain ⟨V', h₁, h₂⟩ := h.at hk V
  unfold rd
  rw [h₂ _ hy, ← h₁ _ ha]
  exact (congrArg y.ofBuf (unary_result _ _ _ _ _ _)).trans (TRef.ofBuf_toBuf y _)

/-- The buffer of an operation of two operands ends at its function of theirs. -/
theorem binary_at (h : InOrder n l) (V : Valuation τ sig Val) (k : ℕ) {a : TRef sig Ta} {b : TRef sig Tb} {y : TRef sig Ty}
    {f : Ta.Contents Val → Tb.Contents Val → Ty.Contents Val} (hk : l[k]? = some (TRef.binary a b y f)) (hy : num y.ref = n + k)
    (ha : num a.ref < n + k) (hb : num b.ref < n + k) : rd (after l V) y = f (rd (after l V) a) (rd (after l V) b) := by
  obtain ⟨V', h₁, h₂⟩ := h.at hk V
  unfold rd
  rw [h₂ _ hy, ← h₁ _ ha, ← h₁ _ hb]
  exact (congrArg y.ofBuf (binary_result _ _ _ _ _ _ _ _)).trans (TRef.ofBuf_toBuf y _)

/-- The buffer of an operation of four operands ends at its function of theirs. -/
theorem quaternary_at (h : InOrder n l) (V : Valuation τ sig Val) (k : ℕ) {a : TRef sig Ta} {b : TRef sig Tb} {c : TRef sig Tc}
    {e : TRef sig Te} {y : TRef sig Ty} {f : Ta.Contents Val → Tb.Contents Val → Tc.Contents Val → Te.Contents Val → Ty.Contents Val}
    (hk : l[k]? = some (TRef.quaternary a b c e y f)) (hy : num y.ref = n + k)
    (ha : num a.ref < n + k) (hb : num b.ref < n + k) (hc : num c.ref < n + k) (he : num e.ref < n + k) :
    rd (after l V) y = f (rd (after l V) a) (rd (after l V) b) (rd (after l V) c) (rd (after l V) e) := by
  obtain ⟨V', h₁, h₂⟩ := h.at hk V
  unfold rd
  rw [h₂ _ hy, ← h₁ _ ha, ← h₁ _ hb, ← h₁ _ hc, ← h₁ _ he]
  exact (congrArg y.ofBuf (quaternary_result _ _ _ _ _ _ _ _ _ _ _ _)).trans (TRef.ofBuf_toBuf y _)

/-- A reshape's buffer ends at its operand's contents in the new shape. -/
theorem reshape_at (h : InOrder n l) (V : Valuation τ sig Val) (k : ℕ) {a : TRef sig Ta} {y : TRef sig Ty} {he : Ta.elt = Ty.elt}
    {hn : Ta.shape.ShapeCasts Ty.shape} (hk : l[k]? = some (TRef.reshape a y he hn)) (hy : num y.ref = n + k)
    (ha : num a.ref < n + k) : rd (after l V) y = fun i => he ▸ shapeCast Ty.shape (rd (after l V) a) hn i := by
  obtain ⟨V', h₁, h₂⟩ := h.at hk V
  unfold rd
  rw [h₂ _ hy, ← h₁ _ ha]
  obtain ⟨a, rfl, ha₁, ha₂⟩ := a
  obtain ⟨y, rfl, hy₁, hy₂⟩ := y
  exact reshape_result _ _ _ _ _ _ _

/-- An operation on a list's `k`-th entry, read off a stretch of it. -/
theorem getElem?_of_stretch {α : Type} {l s : List α} {k j : ℕ} {x : α} (h : (l.drop k).take s.length = s) (hj : s[j]? = some x) :
    l[k + j]? = some x := by
  rw [← h, List.getElem?_take] at hj
  split at hj
  · rwa [List.getElem?_drop] at hj
  · cases hj

end Reads

end Cert.Line

end
-- ==== Proof.RefOps.lean ====
/-
  The reference's run. Its @main is a straight line of 334 operations, the called functions' among them; here are its values'
  buffers, the line stretch by stretch, and the run: every buffer ends at what the line leaves in it.
-/
module

public import proofs.«01_k».proof.Proof.Line
public import proofs.«01_k».proof.ReferenceIdeal

@[expose] public section

set_option maxRecDepth 65536
set_option maxHeartbeats 4000000

noncomputable section

namespace Cert.ReferenceIdeal.Line

open Cert.ReferenceIdeal Cert.Line
open Idealize.ShloMosaic Idealize.ShloMosaic.StableHlo Idealize.SL.Sem

/-! ## The buffers -/

/-- The buffer of main_arg0. -/
abbrev m_arg0 : TRef sig ⟨S512x2048, .f32⟩ := .of main_arg0
/-- The buffer of main_arg1. -/
abbrev m_arg1 : TRef sig ⟨S2048x100000, .f32⟩ := .of main_arg1
/-- The buffer of main_arg2. -/
abbrev m_arg2 : TRef sig ⟨S100000, .f32⟩ := .of main_arg2
/-- The buffer of main_v0. -/
abbrev m_v0 : TRef sig ⟨S512x100000, .f32⟩ := .of main_v0
/-- The buffer of main_v1. -/
abbrev m_v1 : TRef sig ⟨S1x100000, .f32⟩ := .of main_v1
/-- The buffer of main_v2. -/
abbrev m_v2 : TRef sig ⟨S512x100000, .f32⟩ := .of main_v2
/-- The buffer of main_v3. -/
abbrev m_v3 : TRef sig ⟨S512x100000, .f32⟩ := .of main_v3
/-- The buffer of main_c. -/
abbrev m_c : TRef sig ⟨S_, .i32⟩ := .of main_c
/-- The buffer of main_c_0. -/
abbrev m_c_0 : TRef sig ⟨S_, .i32⟩ := .of main_c_0
/-- The buffer of main_v4. -/
abbrev m_v4 : TRef sig ⟨S_, .i32⟩ := .of main_v4
/-- The buffer of main_v5. -/
abbrev m_v5 : TRef sig ⟨S_, .i32⟩ := .of main_v5
/-- The buffer of main_v6. -/
abbrev m_v6 : TRef sig ⟨S1, .i32⟩ := .of main_v6
/-- The buffer of main_c_1. -/
abbrev m_c_1 : TRef sig ⟨S_, .i32⟩ := .of main_c_1
/-- The buffer of main_v7. -/
abbrev m_v7 : TRef sig ⟨S_, .i32⟩ := .of main_v7
/-- The buffer of main_v8. -/
abbrev m_v8 : TRef sig ⟨S_, .i32⟩ := .of main_v8
/-- The buffer of main_v9. -/
abbrev m_v9 : TRef sig ⟨S1, .i32⟩ := .of main_v9
/-- The buffer of main_v10. -/
abbrev m_v10 : TRef sig ⟨S2, .i32⟩ := .of main_v10
/-- The buffer of main_cst. -/
abbrev m_cst : TRef sig ⟨S_, .f32⟩ := .of main_cst
/-- The buffer of main_cst_2. -/
abbrev m_cst_2 : TRef sig ⟨S_, .f32⟩ := .of main_cst_2
/-- The buffer of main_call0_v0. -/
abbrev u_v0 : TRef sig ⟨S_, .f32⟩ := .of main_call0_v0
/-- The buffer of main_call0_v1. -/
abbrev u_v1 : TRef sig ⟨S_, .f32⟩ := .of main_call0_v1
/-- The buffer of main_call0_v2. -/
abbrev u_v2 : TRef sig ⟨S1x1, .f32⟩ := .of main_call0_v2
/-- The buffer of main_call0_v3. -/
abbrev u_v3 : TRef sig ⟨S1x1, .f32⟩ := .of main_call0_v3
/-- The buffer of main_call0_v4. -/
abbrev u_v4 : TRef sig ⟨S1, .i32⟩ := .of main_call0_v4
/-- The buffer of main_call0_v5. -/
abbrev u_v5 : TRef sig ⟨S_, .i32⟩ := .of main_call0_v5
/-- The buffer of main_call0_v6. -/
abbrev u_v6 : TRef sig ⟨S1, .i32⟩ := .of main_call0_v6
/-- The buffer of main_call0_v7. -/
abbrev u_v7 : TRef sig ⟨S_, .i32⟩ := .of main_call0_v7
/-- The buffer of main_call0_v8. -/
abbrev u_v8 : TRef sig ⟨S512x100000, .i64⟩ := .of main_call0_v8
/-- The buffer of main_call0_v9. -/
abbrev u_v9 : TRef sig ⟨S512x100000, .i64⟩ := .of main_call0_v9
/-- The buffer of main_call0_c. -/
abbrev u_c : TRef sig ⟨S_, .i64⟩ := .of main_call0_c
/-- The buffer of main_call0_v10. -/
abbrev u_v10 : TRef sig ⟨S512x100000, .i64⟩ := .of main_call0_v10
/-- The buffer of main_call0_v11. -/
abbrev u_v11 : TRef sig ⟨S512x100000, .i64⟩ := .of main_call0_v11
/-- The buffer of main_call0_c_0. -/
abbrev u_c_0 : TRef sig ⟨S_, .i64⟩ := .of main_call0_c_0
/-- The buffer of main_call0_v12. -/
abbrev u_v12 : TRef sig ⟨S512x100000, .i64⟩ := .of main_call0_v12
/-- The buffer of main_call0_v13. -/
abbrev u_v13 : TRef sig ⟨S512x100000, .i64⟩ := .of main_call0_v13
/-- The buffer of main_call0_v14. -/
abbrev u_v14 : TRef sig ⟨S512x100000, .i64⟩ := .of main_call0_v14
/-- The buffer of main_call0_c_1. -/
abbrev u_c_1 : TRef sig ⟨S_, .i64⟩ := .of main_call0_c_1
/-- The buffer of main_call0_v15. -/
abbrev u_v15 : TRef sig ⟨S512x100000, .i64⟩ := .of main_call0_v15
/-- The buffer of main_call0_v16. -/
abbrev u_v16 : TRef sig ⟨S512x100000, .i64⟩ := .of main_call0_v16
/-- The buffer of main_call0_v17. -/
abbrev u_v17 : TRef sig ⟨S512x100000, .i32⟩ := .of main_call0_v17
/-- The buffer of main_call0_v18. -/
abbrev u_v18 : TRef sig ⟨S512x100000, .i32⟩ := .of main_call0_v18
/-- The buffer of main_call0_call0_v0. -/
abbrev t_v0 : TRef sig ⟨S_, .i32⟩ := .of main_call0_call0_v0
/-- The buffer of main_call0_call0_c. -/
abbrev t_c : TRef sig ⟨S_, .i32⟩ := .of main_call0_call0_c
/-- The buffer of main_call0_call0_v1. -/
abbrev t_v1 : TRef sig ⟨S_, .i32⟩ := .of main_call0_call0_v1
/-- The buffer of main_call0_call0_v2. -/
abbrev t_v2 : TRef sig ⟨S512x100000, .i32⟩ := .of main_call0_call0_v2
/-- The buffer of main_call0_call0_v3. -/
abbrev t_v3 : TRef sig ⟨S512x100000, .i32⟩ := .of main_call0_call0_v3
/-- The buffer of main_call0_call0_v4. -/
abbrev t_v4 : TRef sig ⟨S512x100000, .i32⟩ := .of main_call0_call0_v4
/-- The buffer of main_call0_call0_v5. -/
abbrev t_v5 : TRef sig ⟨S512x100000, .i32⟩ := .of main_call0_call0_v5
/-- The buffer of main_call0_call0_v6. -/
abbrev t_v6 : TRef sig ⟨S512x100000, .i32⟩ := .of main_call0_call0_v6
/-- The buffer of main_call0_call0_c_0. -/
abbrev t_c_0 : TRef sig ⟨S_, .i32⟩ := .of main_call0_call0_c_0
/-- The buffer of main_call0_call0_v7. -/
abbrev t_v7 : TRef sig ⟨S512x100000, .i32⟩ := .of main_call0_call0_v7
/-- The buffer of main_call0_call0_v8. -/
abbrev t_v8 : TRef sig ⟨S512x100000, .i32⟩ := .of main_call0_call0_v8
/-- The buffer of main_call0_call0_c_1. -/
abbrev t_c_1 : TRef sig ⟨S_, .i32⟩ := .of main_call0_call0_c_1
/-- The buffer of main_call0_call0_v9. -/
abbrev t_v9 : TRef sig ⟨S512x100000, .i32⟩ := .of main_call0_call0_v9
/-- The buffer of main_call0_call0_v10. -/
abbrev t_v10 : TRef sig ⟨S512x100000, .i32⟩ := .of main_call0_call0_v10
/-- The buffer of main_call0_call0_v11. -/
abbrev t_v11 : TRef sig ⟨S512x100000, .i32⟩ := .of main_call0_call0_v11
/-- The buffer of main_call0_call0_v12. -/
abbrev t_v12 : TRef sig ⟨S512x100000, .i32⟩ := .of main_call0_call0_v12
/-- The buffer of main_call0_call0_v13. -/
abbrev t_v13 : TRef sig ⟨S512x100000, .i32⟩ := .of main_call0_call0_v13
/-- The buffer of main_call0_call0_c_2. -/
abbrev t_c_2 : TRef sig ⟨S_, .i32⟩ := .of main_call0_call0_c_2
/-- The buffer of main_call0_call0_v14. -/
abbrev t_v14 : TRef sig ⟨S512x100000, .i32⟩ := .of main_call0_call0_v14
/-- The buffer of main_call0_call0_v15. -/
abbrev t_v15 : TRef sig ⟨S512x100000, .i32⟩ := .of main_call0_call0_v15
/-- The buffer of main_call0_call0_c_3. -/
abbrev t_c_3 : TRef sig ⟨S_, .i32⟩ := .of main_call0_call0_c_3
/-- The buffer of main_call0_call0_v16. -/
abbrev t_v16 : TRef sig ⟨S512x100000, .i32⟩ := .of main_call0_call0_v16
/-- The buffer of main_call0_call0_v17. -/
abbrev t_v17 : TRef sig ⟨S512x100000, .i32⟩ := .of main_call0_call0_v17
/-- The buffer of main_call0_call0_v18. -/
abbrev t_v18 : TRef sig ⟨S512x100000, .i32⟩ := .of main_call0_call0_v18
/-- The buffer of main_call0_call0_v19. -/
abbrev t_v19 : TRef sig ⟨S512x100000, .i32⟩ := .of main_call0_call0_v19
/-- The buffer of main_call0_call0_v20. -/
abbrev t_v20 : TRef sig ⟨S512x100000, .i32⟩ := .of main_call0_call0_v20
/-- The buffer of main_call0_call0_c_4. -/
abbrev t_c_4 : TRef sig ⟨S_, .i32⟩ := .of main_call0_call0_c_4
/-- The buffer of main_call0_call0_v21. -/
abbrev t_v21 : TRef sig ⟨S512x100000, .i32⟩ := .of main_call0_call0_v21
/-- The buffer of main_call0_call0_v22. -/
abbrev t_v22 : TRef sig ⟨S512x100000, .i32⟩ := .of main_call0_call0_v22
/-- The buffer of main_call0_call0_c_5. -/
abbrev t_c_5 : TRef sig ⟨S_, .i32⟩ := .of main_call0_call0_c_5
/-- The buffer of main_call0_call0_v23. -/
abbrev t_v23 : TRef sig ⟨S512x100000, .i32⟩ := .of main_call0_call0_v23
/-- The buffer of main_call0_call0_v24. -/
abbrev t_v24 : TRef sig ⟨S512x100000, .i32⟩ := .of main_call0_call0_v24
/-- The buffer of main_call0_call0_v25. -/
abbrev t_v25 : TRef sig ⟨S512x100000, .i32⟩ := .of main_call0_call0_v25
/-- The buffer of main_call0_call0_v26. -/
abbrev t_v26 : TRef sig ⟨S512x100000, .i32⟩ := .of main_call0_call0_v26
/-- The buffer of main_call0_call0_v27. -/
abbrev t_v27 : TRef sig ⟨S512x100000, .i32⟩ := .of main_call0_call0_v27
/-- The buffer of main_call0_call0_c_6. -/
abbrev t_c_6 : TRef sig ⟨S_, .i32⟩ := .of main_call0_call0_c_6
/-- The buffer of main_call0_call0_v28. -/
abbrev t_v28 : TRef sig ⟨S512x100000, .i32⟩ := .of main_call0_call0_v28
/-- The buffer of main_call0_call0_v29. -/
abbrev t_v29 : TRef sig ⟨S512x100000, .i32⟩ := .of main_call0_call0_v29
/-- The buffer of main_call0_call0_c_7. -/
abbrev t_c_7 : TRef sig ⟨S_, .i32⟩ := .of main_call0_call0_c_7
/-- The buffer of main_call0_call0_v30. -/
abbrev t_v30 : TRef sig ⟨S512x100000, .i32⟩ := .of main_call0_call0_v30
/-- The buffer of main_call0_call0_v31. -/
abbrev t_v31 : TRef sig ⟨S512x100000, .i32⟩ := .of main_call0_call0_v31
/-- The buffer of main_call0_call0_v32. -/
abbrev t_v32 : TRef sig ⟨S512x100000, .i32⟩ := .of main_call0_call0_v32
/-- The buffer of main_call0_call0_v33. -/
abbrev t_v33 : TRef sig ⟨S512x100000, .i32⟩ := .of main_call0_call0_v33
/-- The buffer of main_call0_call0_v34. -/
abbrev t_v34 : TRef sig ⟨S512x100000, .i32⟩ := .of main_call0_call0_v34
/-- The buffer of main_call0_call0_v35. -/
abbrev t_v35 : TRef sig ⟨S512x100000, .i32⟩ := .of main_call0_call0_v35
/-- The buffer of main_call0_call0_v36. -/
abbrev t_v36 : TRef sig ⟨S512x100000, .i32⟩ := .of main_call0_call0_v36
/-- The buffer of main_call0_call0_v37. -/
abbrev t_v37 : TRef sig ⟨S512x100000, .i32⟩ := .of main_call0_call0_v37
/-- The buffer of main_call0_call0_c_8. -/
abbrev t_c_8 : TRef sig ⟨S_, .i32⟩ := .of main_call0_call0_c_8
/-- The buffer of main_call0_call0_v38. -/
abbrev t_v38 : TRef sig ⟨S512x100000, .i32⟩ := .of main_call0_call0_v38
/-- The buffer of main_call0_call0_v39. -/
abbrev t_v39 : TRef sig ⟨S512x100000, .i32⟩ := .of main_call0_call0_v39
/-- The buffer of main_call0_call0_v40. -/
abbrev t_v40 : TRef sig ⟨S512x100000, .i32⟩ := .of main_call0_call0_v40
/-- The buffer of main_call0_call0_c_9. -/
abbrev t_c_9 : TRef sig ⟨S_, .i32⟩ := .of main_call0_call0_c_9
/-- The buffer of main_call0_call0_v41. -/
abbrev t_v41 : TRef sig ⟨S512x100000, .i32⟩ := .of main_call0_call0_v41
/-- The buffer of main_call0_call0_v42. -/
abbrev t_v42 : TRef sig ⟨S512x100000, .i32⟩ := .of main_call0_call0_v42
/-- The buffer of main_call0_call0_c_10. -/
abbrev t_c_10 : TRef sig ⟨S_, .i32⟩ := .of main_call0_call0_c_10
/-- The buffer of main_call0_call0_v43. -/
abbrev t_v43 : TRef sig ⟨S512x100000, .i32⟩ := .of main_call0_call0_v43
/-- The buffer of main_call0_call0_v44. -/
abbrev t_v44 : TRef sig ⟨S512x100000, .i32⟩ := .of main_call0_call0_v44
/-- The buffer of main_call0_call0_v45. -/
abbrev t_v45 : TRef sig ⟨S512x100000, .i32⟩ := .of main_call0_call0_v45
/-- The buffer of main_call0_call0_v46. -/
abbrev t_v46 : TRef sig ⟨S512x100000, .i32⟩ := .of main_call0_call0_v46
/-- The buffer of main_call0_call0_v47. -/
abbrev t_v47 : TRef sig ⟨S512x100000, .i32⟩ := .of main_call0_call0_v47
/-- The buffer of main_call0_call0_c_11. -/
abbrev t_c_11 : TRef sig ⟨S_, .i32⟩ := .of main_call0_call0_c_11
/-- The buffer of main_call0_call0_v48. -/
abbrev t_v48 : TRef sig ⟨S512x100000, .i32⟩ := .of main_call0_call0_v48
/-- The buffer of main_call0_call0_v49. -/
abbrev t_v49 : TRef sig ⟨S512x100000, .i32⟩ := .of main_call0_call0_v49
/-- The buffer of main_call0_call0_c_12. -/
abbrev t_c_12 : TRef sig ⟨S_, .i32⟩ := .of main_call0_call0_c_12
/-- The buffer of main_call0_call0_v50. -/
abbrev t_v50 : TRef sig ⟨S512x100000, .i32⟩ := .of main_call0_call0_v50
/-- The buffer of main_call0_call0_v51. -/
abbrev t_v51 : TRef sig ⟨S512x100000, .i32⟩ := .of main_call0_call0_v51
/-- The buffer of main_call0_call0_v52. -/
abbrev t_v52 : TRef sig ⟨S512x100000, .i32⟩ := .of main_call0_call0_v52
/-- The buffer of main_call0_call0_v53. -/
abbrev t_v53 : TRef sig ⟨S512x100000, .i32⟩ := .of main_call0_call0_v53
/-- The buffer of main_call0_call0_v54. -/
abbrev t_v54 : TRef sig ⟨S512x100000, .i32⟩ := .of main_call0_call0_v54
/-- The buffer of main_call0_call0_c_13. -/
abbrev t_c_13 : TRef sig ⟨S_, .i32⟩ := .of main_call0_call0_c_13
/-- The buffer of main_call0_call0_v55. -/
abbrev t_v55 : TRef sig ⟨S512x100000, .i32⟩ := .of main_call0_call0_v55
/-- The buffer of main_call0_call0_v56. -/
abbrev t_v56 : TRef sig ⟨S512x100000, .i32⟩ := .of main_call0_call0_v56
/-- The buffer of main_call0_call0_c_14. -/
abbrev t_c_14 : TRef sig ⟨S_, .i32⟩ := .of main_call0_call0_c_14
/-- The buffer of main_call0_call0_v57. -/
abbrev t_v57 : TRef sig ⟨S512x100000, .i32⟩ := .of main_call0_call0_v57
/-- The buffer of main_call0_call0_v58. -/
abbrev t_v58 : TRef sig ⟨S512x100000, .i32⟩ := .of main_call0_call0_v58
/-- The buffer of main_call0_call0_v59. -/
abbrev t_v59 : TRef sig ⟨S512x100000, .i32⟩ := .of main_call0_call0_v59
/-- The buffer of main_call0_call0_v60. -/
abbrev t_v60 : TRef sig ⟨S512x100000, .i32⟩ := .of main_call0_call0_v60
/-- The buffer of main_call0_call0_v61. -/
abbrev t_v61 : TRef sig ⟨S512x100000, .i32⟩ := .of main_call0_call0_v61
/-- The buffer of main_call0_call0_c_15. -/
abbrev t_c_15 : TRef sig ⟨S_, .i32⟩ := .of main_call0_call0_c_15
/-- The buffer of main_call0_call0_v62. -/
abbrev t_v62 : TRef sig ⟨S512x100000, .i32⟩ := .of main_call0_call0_v62
/-- The buffer of main_call0_call0_v63. -/
abbrev t_v63 : TRef sig ⟨S512x100000, .i32⟩ := .of main_call0_call0_v63
/-- The buffer of main_call0_call0_c_16. -/
abbrev t_c_16 : TRef sig ⟨S_, .i32⟩ := .of main_call0_call0_c_16
/-- The buffer of main_call0_call0_v64. -/
abbrev t_v64 : TRef sig ⟨S512x100000, .i32⟩ := .of main_call0_call0_v64
/-- The buffer of main_call0_call0_v65. -/
abbrev t_v65 : TRef sig ⟨S512x100000, .i32⟩ := .of main_call0_call0_v65
/-- The buffer of main_call0_call0_v66. -/
abbrev t_v66 : TRef sig ⟨S512x100000, .i32⟩ := .of main_call0_call0_v66
/-- The buffer of main_call0_call0_v67. -/
abbrev t_v67 : TRef sig ⟨S512x100000, .i32⟩ := .of main_call0_call0_v67
/-- The buffer of main_call0_call0_v68. -/
abbrev t_v68 : TRef sig ⟨S512x100000, .i32⟩ := .of main_call0_call0_v68
/-- The buffer of main_call0_call0_v69. -/
abbrev t_v69 : TRef sig ⟨S512x100000, .i32⟩ := .of main_call0_call0_v69
/-- The buffer of main_call0_call0_v70. -/
abbrev t_v70 : TRef sig ⟨S512x100000, .i32⟩ := .of main_call0_call0_v70
/-- The buffer of main_call0_call0_v71. -/
abbrev t_v71 : TRef sig ⟨S512x100000, .i32⟩ := .of main_call0_call0_v71
/-- The buffer of main_call0_call0_c_17. -/
abbrev t_c_17 : TRef sig ⟨S_, .i32⟩ := .of main_call0_call0_c_17
/-- The buffer of main_call0_call0_v72. -/
abbrev t_v72 : TRef sig ⟨S512x100000, .i32⟩ := .of main_call0_call0_v72
/-- The buffer of main_call0_call0_v73. -/
abbrev t_v73 : TRef sig ⟨S512x100000, .i32⟩ := .of main_call0_call0_v73
/-- The buffer of main_call0_call0_v74. -/
abbrev t_v74 : TRef sig ⟨S512x100000, .i32⟩ := .of main_call0_call0_v74
/-- The buffer of main_call0_call0_c_18. -/
abbrev t_c_18 : TRef sig ⟨S_, .i32⟩ := .of main_call0_call0_c_18
/-- The buffer of main_call0_call0_v75. -/
abbrev t_v75 : TRef sig ⟨S512x100000, .i32⟩ := .of main_call0_call0_v75
/-- The buffer of main_call0_call0_v76. -/
abbrev t_v76 : TRef sig ⟨S512x100000, .i32⟩ := .of main_call0_call0_v76
/-- The buffer of main_call0_call0_c_19. -/
abbrev t_c_19 : TRef sig ⟨S_, .i32⟩ := .of main_call0_call0_c_19
/-- The buffer of main_call0_call0_v77. -/
abbrev t_v77 : TRef sig ⟨S512x100000, .i32⟩ := .of main_call0_call0_v77
/-- The buffer of main_call0_call0_v78. -/
abbrev t_v78 : TRef sig ⟨S512x100000, .i32⟩ := .of main_call0_call0_v78
/-- The buffer of main_call0_call0_v79. -/
abbrev t_v79 : TRef sig ⟨S512x100000, .i32⟩ := .of main_call0_call0_v79
/-- The buffer of main_call0_call0_v80. -/
abbrev t_v80 : TRef sig ⟨S512x100000, .i32⟩ := .of main_call0_call0_v80
/-- The buffer of main_call0_call0_v81. -/
abbrev t_v81 : TRef sig ⟨S512x100000, .i32⟩ := .of main_call0_call0_v81
/-- The buffer of main_call0_call0_c_20. -/
abbrev t_c_20 : TRef sig ⟨S_, .i32⟩ := .of main_call0_call0_c_20
/-- The buffer of main_call0_call0_v82. -/
abbrev t_v82 : TRef sig ⟨S512x100000, .i32⟩ := .of main_call0_call0_v82
/-- The buffer of main_call0_call0_v83. -/
abbrev t_v83 : TRef sig ⟨S512x100000, .i32⟩ := .of main_call0_call0_v83
/-- The buffer of main_call0_call0_c_21. -/
abbrev t_c_21 : TRef sig ⟨S_, .i32⟩ := .of main_call0_call0_c_21
/-- The buffer of main_call0_call0_v84. -/
abbrev t_v84 : TRef sig ⟨S512x100000, .i32⟩ := .of main_call0_call0_v84
/-- The buffer of main_call0_call0_v85. -/
abbrev t_v85 : TRef sig ⟨S512x100000, .i32⟩ := .of main_call0_call0_v85
/-- The buffer of main_call0_call0_v86. -/
abbrev t_v86 : TRef sig ⟨S512x100000, .i32⟩ := .of main_call0_call0_v86
/-- The buffer of main_call0_call0_v87. -/
abbrev t_v87 : TRef sig ⟨S512x100000, .i32⟩ := .of main_call0_call0_v87
/-- The buffer of main_call0_call0_v88. -/
abbrev t_v88 : TRef sig ⟨S512x100000, .i32⟩ := .of main_call0_call0_v88
/-- The buffer of main_call0_call0_c_22. -/
abbrev t_c_22 : TRef sig ⟨S_, .i32⟩ := .of main_call0_call0_c_22
/-- The buffer of main_call0_call0_v89. -/
abbrev t_v89 : TRef sig ⟨S512x100000, .i32⟩ := .of main_call0_call0_v89
/-- The buffer of main_call0_call0_v90. -/
abbrev t_v90 : TRef sig ⟨S512x100000, .i32⟩ := .of main_call0_call0_v90
/-- The buffer of main_call0_call0_c_23. -/
abbrev t_c_23 : TRef sig ⟨S_, .i32⟩ := .of main_call0_call0_c_23
/-- The buffer of main_call0_call0_v91. -/
abbrev t_v91 : TRef sig ⟨S512x100000, .i32⟩ := .of main_call0_call0_v91
/-- The buffer of main_call0_call0_v92. -/
abbrev t_v92 : TRef sig ⟨S512x100000, .i32⟩ := .of main_call0_call0_v92
/-- The buffer of main_call0_call0_v93. -/
abbrev t_v93 : TRef sig ⟨S512x100000, .i32⟩ := .of main_call0_call0_v93
/-- The buffer of main_call0_call0_v94. -/
abbrev t_v94 : TRef sig ⟨S512x100000, .i32⟩ := .of main_call0_call0_v94
/-- The buffer of main_call0_call0_v95. -/
abbrev t_v95 : TRef sig ⟨S512x100000, .i32⟩ := .of main_call0_call0_v95
/-- The buffer of main_call0_call0_c_24. -/
abbrev t_c_24 : TRef sig ⟨S_, .i32⟩ := .of main_call0_call0_c_24
/-- The buffer of main_call0_call0_v96. -/
abbrev t_v96 : TRef sig ⟨S512x100000, .i32⟩ := .of main_call0_call0_v96
/-- The buffer of main_call0_call0_v97. -/
abbrev t_v97 : TRef sig ⟨S512x100000, .i32⟩ := .of main_call0_call0_v97
/-- The buffer of main_call0_call0_c_25. -/
abbrev t_c_25 : TRef sig ⟨S_, .i32⟩ := .of main_call0_call0_c_25
/-- The buffer of main_call0_call0_v98. -/
abbrev t_v98 : TRef sig ⟨S512x100000, .i32⟩ := .of main_call0_call0_v98
/-- The buffer of main_call0_call0_v99. -/
abbrev t_v99 : TRef sig ⟨S512x100000, .i32⟩ := .of main_call0_call0_v99
/-- The buffer of main_call0_call0_v100. -/
abbrev t_v100 : TRef sig ⟨S512x100000, .i32⟩ := .of main_call0_call0_v100
/-- The buffer of main_call0_call0_v101. -/
abbrev t_v101 : TRef sig ⟨S512x100000, .i32⟩ := .of main_call0_call0_v101
/-- The buffer of main_call0_call0_v102. -/
abbrev t_v102 : TRef sig ⟨S512x100000, .i32⟩ := .of main_call0_call0_v102
/-- The buffer of main_call0_call0_v103. -/
abbrev t_v103 : TRef sig ⟨S512x100000, .i32⟩ := .of main_call0_call0_v103
/-- The buffer of main_call0_call0_v104. -/
abbrev t_v104 : TRef sig ⟨S512x100000, .i32⟩ := .of main_call0_call0_v104
/-- The buffer of main_call0_call0_v105. -/
abbrev t_v105 : TRef sig ⟨S512x100000, .i32⟩ := .of main_call0_call0_v105
/-- The buffer of main_call0_call0_c_26. -/
abbrev t_c_26 : TRef sig ⟨S_, .i32⟩ := .of main_call0_call0_c_26
/-- The buffer of main_call0_call0_v106. -/
abbrev t_v106 : TRef sig ⟨S512x100000, .i32⟩ := .of main_call0_call0_v106
/-- The buffer of main_call0_call0_v107. -/
abbrev t_v107 : TRef sig ⟨S512x100000, .i32⟩ := .of main_call0_call0_v107
/-- The buffer of main_call0_call0_v108. -/
abbrev t_v108 : TRef sig ⟨S512x100000, .i32⟩ := .of main_call0_call0_v108
/-- The buffer of main_call0_call0_c_27. -/
abbrev t_c_27 : TRef sig ⟨S_, .i32⟩ := .of main_call0_call0_c_27
/-- The buffer of main_call0_call0_v109. -/
abbrev t_v109 : TRef sig ⟨S512x100000, .i32⟩ := .of main_call0_call0_v109
/-- The buffer of main_call0_call0_v110. -/
abbrev t_v110 : TRef sig ⟨S512x100000, .i32⟩ := .of main_call0_call0_v110
/-- The buffer of main_call0_call0_c_28. -/
abbrev t_c_28 : TRef sig ⟨S_, .i32⟩ := .of main_call0_call0_c_28
/-- The buffer of main_call0_call0_v111. -/
abbrev t_v111 : TRef sig ⟨S512x100000, .i32⟩ := .of main_call0_call0_v111
/-- The buffer of main_call0_call0_v112. -/
abbrev t_v112 : TRef sig ⟨S512x100000, .i32⟩ := .of main_call0_call0_v112
/-- The buffer of main_call0_call0_v113. -/
abbrev t_v113 : TRef sig ⟨S512x100000, .i32⟩ := .of main_call0_call0_v113
/-- The buffer of main_call0_call0_v114. -/
abbrev t_v114 : TRef sig ⟨S512x100000, .i32⟩ := .of main_call0_call0_v114
/-- The buffer of main_call0_call0_v115. -/
abbrev t_v115 : TRef sig ⟨S512x100000, .i32⟩ := .of main_call0_call0_v115
/-- The buffer of main_call0_call0_c_29. -/
abbrev t_c_29 : TRef sig ⟨S_, .i32⟩ := .of main_call0_call0_c_29
/-- The buffer of main_call0_call0_v116. -/
abbrev t_v116 : TRef sig ⟨S512x100000, .i32⟩ := .of main_call0_call0_v116
/-- The buffer of main_call0_call0_v117. -/
abbrev t_v117 : TRef sig ⟨S512x100000, .i32⟩ := .of main_call0_call0_v117
/-- The buffer of main_call0_call0_c_30. -/
abbrev t_c_30 : TRef sig ⟨S_, .i32⟩ := .of main_call0_call0_c_30
/-- The buffer of main_call0_call0_v118. -/
abbrev t_v118 : TRef sig ⟨S512x100000, .i32⟩ := .of main_call0_call0_v118
/-- The buffer of main_call0_call0_v119. -/
abbrev t_v119 : TRef sig ⟨S512x100000, .i32⟩ := .of main_call0_call0_v119
/-- The buffer of main_call0_call0_v120. -/
abbrev t_v120 : TRef sig ⟨S512x100000, .i32⟩ := .of main_call0_call0_v120
/-- The buffer of main_call0_call0_v121. -/
abbrev t_v121 : TRef sig ⟨S512x100000, .i32⟩ := .of main_call0_call0_v121
/-- The buffer of main_call0_call0_v122. -/
abbrev t_v122 : TRef sig ⟨S512x100000, .i32⟩ := .of main_call0_call0_v122
/-- The buffer of main_call0_call0_c_31. -/
abbrev t_c_31 : TRef sig ⟨S_, .i32⟩ := .of main_call0_call0_c_31
/-- The buffer of main_call0_call0_v123. -/
abbrev t_v123 : TRef sig ⟨S512x100000, .i32⟩ := .of main_call0_call0_v123
/-- The buffer of main_call0_call0_v124. -/
abbrev t_v124 : TRef sig ⟨S512x100000, .i32⟩ := .of main_call0_call0_v124
/-- The buffer of main_call0_call0_c_32. -/
abbrev t_c_32 : TRef sig ⟨S_, .i32⟩ := .of main_call0_call0_c_32
/-- The buffer of main_call0_call0_v125. -/
abbrev t_v125 : TRef sig ⟨S512x100000, .i32⟩ := .of main_call0_call0_v125
/-- The buffer of main_call0_call0_v126. -/
abbrev t_v126 : TRef sig ⟨S512x100000, .i32⟩ := .of main_call0_call0_v126
/-- The buffer of main_call0_call0_v127. -/
abbrev t_v127 : TRef sig ⟨S512x100000, .i32⟩ := .of main_call0_call0_v127
/-- The buffer of main_call0_call0_v128. -/
abbrev t_v128 : TRef sig ⟨S512x100000, .i32⟩ := .of main_call0_call0_v128
/-- The buffer of main_call0_call0_v129. -/
abbrev t_v129 : TRef sig ⟨S512x100000, .i32⟩ := .of main_call0_call0_v129
/-- The buffer of main_call0_call0_c_33. -/
abbrev t_c_33 : TRef sig ⟨S_, .i32⟩ := .of main_call0_call0_c_33
/-- The buffer of main_call0_call0_v130. -/
abbrev t_v130 : TRef sig ⟨S512x100000, .i32⟩ := .of main_call0_call0_v130
/-- The buffer of main_call0_call0_v131. -/
abbrev t_v131 : TRef sig ⟨S512x100000, .i32⟩ := .of main_call0_call0_v131
/-- The buffer of main_call0_call0_c_34. -/
abbrev t_c_34 : TRef sig ⟨S_, .i32⟩ := .of main_call0_call0_c_34
/-- The buffer of main_call0_call0_v132. -/
abbrev t_v132 : TRef sig ⟨S512x100000, .i32⟩ := .of main_call0_call0_v132
/-- The buffer of main_call0_call0_v133. -/
abbrev t_v133 : TRef sig ⟨S512x100000, .i32⟩ := .of main_call0_call0_v133
/-- The buffer of main_call0_call0_v134. -/
abbrev t_v134 : TRef sig ⟨S512x100000, .i32⟩ := .of main_call0_call0_v134
/-- The buffer of main_call0_call0_v135. -/
abbrev t_v135 : TRef sig ⟨S512x100000, .i32⟩ := .of main_call0_call0_v135
/-- The buffer of main_call0_call0_v136. -/
abbrev t_v136 : TRef sig ⟨S512x100000, .i32⟩ := .of main_call0_call0_v136
/-- The buffer of main_call0_call0_v137. -/
abbrev t_v137 : TRef sig ⟨S512x100000, .i32⟩ := .of main_call0_call0_v137
/-- The buffer of main_call0_call0_v138. -/
abbrev t_v138 : TRef sig ⟨S512x100000, .i32⟩ := .of main_call0_call0_v138
/-- The buffer of main_call0_call0_v139. -/
abbrev t_v139 : TRef sig ⟨S512x100000, .i32⟩ := .of main_call0_call0_v139
/-- The buffer of main_call0_call0_c_35. -/
abbrev t_c_35 : TRef sig ⟨S_, .i32⟩ := .of main_call0_call0_c_35
/-- The buffer of main_call0_call0_v140. -/
abbrev t_v140 : TRef sig ⟨S512x100000, .i32⟩ := .of main_call0_call0_v140
/-- The buffer of main_call0_call0_v141. -/
abbrev t_v141 : TRef sig ⟨S512x100000, .i32⟩ := .of main_call0_call0_v141
/-- The buffer of main_call0_call0_v142. -/
abbrev t_v142 : TRef sig ⟨S512x100000, .i32⟩ := .of main_call0_call0_v142
/-- The buffer of main_call0_call0_c_36. -/
abbrev t_c_36 : TRef sig ⟨S_, .i32⟩ := .of main_call0_call0_c_36
/-- The buffer of main_call0_call0_v143. -/
abbrev t_v143 : TRef sig ⟨S512x100000, .i32⟩ := .of main_call0_call0_v143
/-- The buffer of main_call0_call0_v144. -/
abbrev t_v144 : TRef sig ⟨S512x100000, .i32⟩ := .of main_call0_call0_v144
/-- The buffer of main_call0_call0_c_37. -/
abbrev t_c_37 : TRef sig ⟨S_, .i32⟩ := .of main_call0_call0_c_37
/-- The buffer of main_call0_call0_v145. -/
abbrev t_v145 : TRef sig ⟨S512x100000, .i32⟩ := .of main_call0_call0_v145
/-- The buffer of main_call0_call0_v146. -/
abbrev t_v146 : TRef sig ⟨S512x100000, .i32⟩ := .of main_call0_call0_v146
/-- The buffer of main_call0_call0_v147. -/
abbrev t_v147 : TRef sig ⟨S512x100000, .i32⟩ := .of main_call0_call0_v147
/-- The buffer of main_call0_call0_v148. -/
abbrev t_v148 : TRef sig ⟨S512x100000, .i32⟩ := .of main_call0_call0_v148
/-- The buffer of main_call0_call0_v149. -/
abbrev t_v149 : TRef sig ⟨S512x100000, .i32⟩ := .of main_call0_call0_v149
/-- The buffer of main_call0_call0_c_38. -/
abbrev t_c_38 : TRef sig ⟨S_, .i32⟩ := .of main_call0_call0_c_38
/-- The buffer of main_call0_call0_v150. -/
abbrev t_v150 : TRef sig ⟨S512x100000, .i32⟩ := .of main_call0_call0_v150
/-- The buffer of main_call0_call0_v151. -/
abbrev t_v151 : TRef sig ⟨S512x100000, .i32⟩ := .of main_call0_call0_v151
/-- The buffer of main_call0_call0_c_39. -/
abbrev t_c_39 : TRef sig ⟨S_, .i32⟩ := .of main_call0_call0_c_39
/-- The buffer of main_call0_call0_v152. -/
abbrev t_v152 : TRef sig ⟨S512x100000, .i32⟩ := .of main_call0_call0_v152
/-- The buffer of main_call0_call0_v153. -/
abbrev t_v153 : TRef sig ⟨S512x100000, .i32⟩ := .of main_call0_call0_v153
/-- The buffer of main_call0_call0_v154. -/
abbrev t_v154 : TRef sig ⟨S512x100000, .i32⟩ := .of main_call0_call0_v154
/-- The buffer of main_call0_call0_v155. -/
abbrev t_v155 : TRef sig ⟨S512x100000, .i32⟩ := .of main_call0_call0_v155
/-- The buffer of main_call0_call0_v156. -/
abbrev t_v156 : TRef sig ⟨S512x100000, .i32⟩ := .of main_call0_call0_v156
/-- The buffer of main_call0_call0_c_40. -/
abbrev t_c_40 : TRef sig ⟨S_, .i32⟩ := .of main_call0_call0_c_40
/-- The buffer of main_call0_call0_v157. -/
abbrev t_v157 : TRef sig ⟨S512x100000, .i32⟩ := .of main_call0_call0_v157
/-- The buffer of main_call0_call0_v158. -/
abbrev t_v158 : TRef sig ⟨S512x100000, .i32⟩ := .of main_call0_call0_v158
/-- The buffer of main_call0_call0_c_41. -/
abbrev t_c_41 : TRef sig ⟨S_, .i32⟩ := .of main_call0_call0_c_41
/-- The buffer of main_call0_call0_v159. -/
abbrev t_v159 : TRef sig ⟨S512x100000, .i32⟩ := .of main_call0_call0_v159
/-- The buffer of main_call0_call0_v160. -/
abbrev t_v160 : TRef sig ⟨S512x100000, .i32⟩ := .of main_call0_call0_v160
/-- The buffer of main_call0_call0_v161. -/
abbrev t_v161 : TRef sig ⟨S512x100000, .i32⟩ := .of main_call0_call0_v161
/-- The buffer of main_call0_call0_v162. -/
abbrev t_v162 : TRef sig ⟨S512x100000, .i32⟩ := .of main_call0_call0_v162
/-- The buffer of main_call0_call0_v163. -/
abbrev t_v163 : TRef sig ⟨S512x100000, .i32⟩ := .of main_call0_call0_v163
/-- The buffer of main_call0_call0_c_42. -/
abbrev t_c_42 : TRef sig ⟨S_, .i32⟩ := .of main_call0_call0_c_42
/-- The buffer of main_call0_call0_v164. -/
abbrev t_v164 : TRef sig ⟨S512x100000, .i32⟩ := .of main_call0_call0_v164
/-- The buffer of main_call0_call0_v165. -/
abbrev t_v165 : TRef sig ⟨S512x100000, .i32⟩ := .of main_call0_call0_v165
/-- The buffer of main_call0_call0_c_43. -/
abbrev t_c_43 : TRef sig ⟨S_, .i32⟩ := .of main_call0_call0_c_43
/-- The buffer of main_call0_call0_v166. -/
abbrev t_v166 : TRef sig ⟨S512x100000, .i32⟩ := .of main_call0_call0_v166
/-- The buffer of main_call0_call0_v167. -/
abbrev t_v167 : TRef sig ⟨S512x100000, .i32⟩ := .of main_call0_call0_v167
/-- The buffer of main_call0_call0_v168. -/
abbrev t_v168 : TRef sig ⟨S512x100000, .i32⟩ := .of main_call0_call0_v168
/-- The buffer of main_call0_call0_v169. -/
abbrev t_v169 : TRef sig ⟨S512x100000, .i32⟩ := .of main_call0_call0_v169
/-- The buffer of main_call0_call0_v170. -/
abbrev t_v170 : TRef sig ⟨S512x100000, .i32⟩ := .of main_call0_call0_v170
/-- The buffer of main_call0_v19_0. -/
abbrev u_v19_0 : TRef sig ⟨S512x100000, .i32⟩ := .of main_call0_v19_0
/-- The buffer of main_call0_call0_v172. -/
abbrev t_v172 : TRef sig ⟨S512x100000, .i32⟩ := .of main_call0_call0_v172
/-- The buffer of main_call0_call0_v173. -/
abbrev t_v173 : TRef sig ⟨S512x100000, .i32⟩ := .of main_call0_call0_v173
/-- The buffer of main_call0_call0_c_44. -/
abbrev t_c_44 : TRef sig ⟨S_, .i32⟩ := .of main_call0_call0_c_44
/-- The buffer of main_call0_call0_v174. -/
abbrev t_v174 : TRef sig ⟨S512x100000, .i32⟩ := .of main_call0_call0_v174
/-- The buffer of main_call0_v19_1. -/
abbrev u_v19_1 : TRef sig ⟨S512x100000, .i32⟩ := .of main_call0_v19_1
/-- The buffer of main_call0_v20. -/
abbrev u_v20 : TRef sig ⟨S512x100000, .i32⟩ := .of main_call0_v20
/-- The buffer of main_call0_c_2. -/
abbrev u_c_2 : TRef sig ⟨S_, .i32⟩ := .of main_call0_c_2
/-- The buffer of main_call0_v21. -/
abbrev u_v21 : TRef sig ⟨S512x100000, .i32⟩ := .of main_call0_v21
/-- The buffer of main_call0_v22. -/
abbrev u_v22 : TRef sig ⟨S512x100000, .i32⟩ := .of main_call0_v22
/-- The buffer of main_call0_c_3. -/
abbrev u_c_3 : TRef sig ⟨S_, .i32⟩ := .of main_call0_c_3
/-- The buffer of main_call0_v23. -/
abbrev u_v23 : TRef sig ⟨S512x100000, .i32⟩ := .of main_call0_v23
/-- The buffer of main_call0_v24. -/
abbrev u_v24 : TRef sig ⟨S512x100000, .i32⟩ := .of main_call0_v24
/-- The buffer of main_call0_v25. -/
abbrev u_v25 : TRef sig ⟨S512x100000, .f32⟩ := .of main_call0_v25
/-- The buffer of main_call0_cst. -/
abbrev u_cst : TRef sig ⟨S_, .f32⟩ := .of main_call0_cst
/-- The buffer of main_call0_v26. -/
abbrev u_v26 : TRef sig ⟨S512x100000, .f32⟩ := .of main_call0_v26
/-- The buffer of main_call0_v27. -/
abbrev u_v27 : TRef sig ⟨S512x100000, .f32⟩ := .of main_call0_v27
/-- The buffer of main_call0_v28. -/
abbrev u_v28 : TRef sig ⟨S1x1, .f32⟩ := .of main_call0_v28
/-- The buffer of main_call0_v29. -/
abbrev u_v29 : TRef sig ⟨S512x100000, .f32⟩ := .of main_call0_v29
/-- The buffer of main_call0_v30. -/
abbrev u_v30 : TRef sig ⟨S512x100000, .f32⟩ := .of main_call0_v30
/-- The buffer of main_call0_v31. -/
abbrev u_v31 : TRef sig ⟨S512x100000, .f32⟩ := .of main_call0_v31
/-- The buffer of main_call0_v32. -/
abbrev u_v32 : TRef sig ⟨S512x100000, .f32⟩ := .of main_call0_v32
/-- The buffer of main_call0_v33. -/
abbrev u_v33 : TRef sig ⟨S512x100000, .f32⟩ := .of main_call0_v33
/-- The buffer of main_v11. -/
abbrev m_v11 : TRef sig ⟨S512x100000, .f32⟩ := .of main_v11
/-- The buffer of main_cst_3. -/
abbrev m_cst_3 : TRef sig ⟨S_, .f32⟩ := .of main_cst_3
/-- The buffer of main_v12. -/
abbrev m_v12 : TRef sig ⟨S512x100000, .f32⟩ := .of main_v12
/-- The buffer of main_v13. -/
abbrev m_v13 : TRef sig ⟨S512x100000, .f32⟩ := .of main_v13
/-- The buffer of main_cst_4. -/
abbrev m_cst_4 : TRef sig ⟨S_, .f32⟩ := .of main_cst_4
/-- The buffer of main_v14. -/
abbrev m_v14 : TRef sig ⟨S512x100000, .f32⟩ := .of main_v14
/-- The buffer of main_v15. -/
abbrev m_v15 : TRef sig ⟨S512x100000, .f32⟩ := .of main_v15
/-- The buffer of main_v16. -/
abbrev m_v16 : TRef sig ⟨S512x100000, .f32⟩ := .of main_v16
/-- The buffer of main_v17. -/
abbrev m_v17 : TRef sig ⟨S512x100000, .f32⟩ := .of main_v17
/-- The buffer of main_v18. -/
abbrev m_v18 : TRef sig ⟨S512x100000, .f32⟩ := .of main_v18
/-- The buffer of main_v19. -/
abbrev m_v19 : TRef sig ⟨S512x100000, .f32⟩ := .of main_v19
/-- The buffer of main_call1_cst. -/
abbrev l_cst : TRef sig ⟨S_, .f32⟩ := .of main_call1_cst
/-- The buffer of main_call1_v0. -/
abbrev l_v0 : TRef sig ⟨S512, .f32⟩ := .of main_call1_v0
/-- The buffer of main_call1_cst_0. -/
abbrev l_cst_0 : TRef sig ⟨S_, .f32⟩ := .of main_call1_cst_0
/-- The buffer of main_call1_v1. -/
abbrev l_v1 : TRef sig ⟨S512, .f32⟩ := .of main_call1_v1
/-- The buffer of main_call1_v2. -/
abbrev l_v2 : TRef sig ⟨S512, .f32⟩ := .of main_call1_v2
/-- The buffer of main_call1_v3. -/
abbrev l_v3 : TRef sig ⟨S512x1, .f32⟩ := .of main_call1_v3
/-- The buffer of main_call1_v4. -/
abbrev l_v4 : TRef sig ⟨S512x100000, .f32⟩ := .of main_call1_v4
/-- The buffer of main_call1_v5. -/
abbrev l_v5 : TRef sig ⟨S512x100000, .f32⟩ := .of main_call1_v5
/-- The buffer of main_call1_v6. -/
abbrev l_v6 : TRef sig ⟨S512x100000, .f32⟩ := .of main_call1_v6
/-- The buffer of main_call1_cst_1. -/
abbrev l_cst_1 : TRef sig ⟨S_, .f32⟩ := .of main_call1_cst_1
/-- The buffer of main_call1_v7. -/
abbrev l_v7 : TRef sig ⟨S512, .f32⟩ := .of main_call1_v7
/-- The buffer of main_call1_v8. -/
abbrev l_v8 : TRef sig ⟨S512x1, .f32⟩ := .of main_call1_v8
/-- The buffer of main_call1_v9. -/
abbrev l_v9 : TRef sig ⟨S512x1, .f32⟩ := .of main_call1_v9
/-- The buffer of main_call1_v10. -/
abbrev l_v10 : TRef sig ⟨S512x100000, .f32⟩ := .of main_call1_v10
/-- The buffer of main_v20. -/
abbrev m_v20 : TRef sig ⟨S512x100000, .f32⟩ := .of main_v20
/-- The buffer of main_v21. -/
abbrev m_v21 : TRef sig ⟨S512x100000, .f32⟩ := .of main_v21
/-- The buffer of main_cst_5. -/
abbrev m_cst_5 : TRef sig ⟨S_, .f32⟩ := .of main_cst_5
/-- The buffer of main_v22. -/
abbrev m_v22 : TRef sig ⟨S512x100000, .f32⟩ := .of main_v22
/-- The buffer of main_v23. -/
abbrev m_v23 : TRef sig ⟨S512x100000, .f32⟩ := .of main_v23
/-- The buffer of main_cst_6. -/
abbrev m_cst_6 : TRef sig ⟨S_, .f32⟩ := .of main_cst_6
/-- The buffer of main_v24. -/
abbrev m_v24 : TRef sig ⟨S512, .f32⟩ := .of main_v24
/-- The buffer of main_cst_7. -/
abbrev m_cst_7 : TRef sig ⟨S_, .f32⟩ := .of main_cst_7
/-- The buffer of main_v25. -/
abbrev m_v25 : TRef sig ⟨S512, .f32⟩ := .of main_v25
/-- The buffer of main_v26. -/
abbrev m_v26 : TRef sig ⟨S512, .f32⟩ := .of main_v26
/-- The buffer of main_v27. -/
abbrev m_v27 : TRef sig ⟨S512x1, .f32⟩ := .of main_v27
/-- The buffer of main_v28. -/
abbrev m_v28 : TRef sig ⟨S512x100000, .f32⟩ := .of main_v28
/-- The buffer of main_v29. -/
abbrev m_v29 : TRef sig ⟨S512x100000, .f32⟩ := .of main_v29
/-- The buffer of main_v30. -/
abbrev m_v30 : TRef sig ⟨S512x100000, .f32⟩ := .of main_v30
/-- The buffer of main_cst_8. -/
abbrev m_cst_8 : TRef sig ⟨S_, .f32⟩ := .of main_cst_8
/-- The buffer of main_v31. -/
abbrev m_v31 : TRef sig ⟨S512, .f32⟩ := .of main_v31
/-- The buffer of main_v32. -/
abbrev m_v32 : TRef sig ⟨S512x1, .f32⟩ := .of main_v32
/-- The buffer of main_v33. -/
abbrev m_v33 : TRef sig ⟨S512x100000, .f32⟩ := .of main_v33
/-- The buffer of main_v34. -/
abbrev m_v34 : TRef sig ⟨S512x100000, .f32⟩ := .of main_v34
/-- The buffer of main_call2_v0. -/
abbrev a_v0 : TRef sig ⟨S512x100000, .i32⟩ := .of main_call2_v0
/-- The buffer of main_call2_cst. -/
abbrev a_cst : TRef sig ⟨S_, .f32⟩ := .of main_call2_cst
/-- The buffer of main_call2_c. -/
abbrev a_c : TRef sig ⟨S_, .i32⟩ := .of main_call2_c
/-- The buffer of main_call2_v1_0. -/
abbrev a_v1_0 : TRef sig ⟨S512, .f32⟩ := .of main_call2_v1_0
/-- The buffer of main_v35. -/
abbrev m_v35 : TRef sig ⟨S512, .i32⟩ := .of main_v35
/-- The buffer of main_call3_v0. -/
abbrev o_v0 : TRef sig ⟨S512x1, .i32⟩ := .of main_call3_v0
/-- The buffer of main_call3_v1. -/
abbrev o_v1 : TRef sig ⟨S1x100000, .i32⟩ := .of main_call3_v1
/-- The buffer of main_call3_v2. -/
abbrev o_v2 : TRef sig ⟨S512x100000, .i32⟩ := .of main_call3_v2
/-- The buffer of main_call3_v3. -/
abbrev o_v3 : TRef sig ⟨S512x100000, .i32⟩ := .of main_call3_v3
/-- The buffer of main_call3_v4. -/
abbrev o_v4 : TRef sig ⟨S512x100000, .i1⟩ := .of main_call3_v4
/-- The buffer of main_v36. -/
abbrev m_v36 : TRef sig ⟨S512x100000, .f32⟩ := .of main_v36
/-- The buffer of main_v37. -/
abbrev m_v37 : TRef sig ⟨S512x100000, .f32⟩ := .of main_v37
/-- The buffer of main_v38. -/
abbrev m_v38 : TRef sig ⟨S512x100000, .f32⟩ := .of main_v38

variable {F : FTy → Type} [FloatOps F] [Facts]
open Facts₀ Facts

/-! ## The line -/

/-- Stretch 0 of the threefry words. -/
def tOps0 : List (HloOp τ sig (Elt F)) := [
  TRef.binary u_v5 u_v7 t_v0 xori,
  TRef.nullary t_c (constantI S_ 32 466688986#32),
  TRef.binary t_v0 t_c t_v1 xori,
  TRef.unary u_v5 t_v2 (broadcastInDim S512x100000 ![] bcast_S_S512x100000),
  TRef.binary u_v18 t_v2 t_v3 addi,
  TRef.unary u_v7 t_v4 (broadcastInDim S512x100000 ![] bcast_S_S512x100000),
  TRef.binary u_v17 t_v4 t_v5 addi,
  TRef.binary t_v3 t_v5 t_v6 addi,
  TRef.nullary t_c_0 (constantI S_ 32 13#32),
  TRef.unary t_c_0 t_v7 (broadcastInDim S512x100000 ![] bcast_S_S512x100000),
  TRef.binary t_v5 t_v7 t_v8 Host.shli,
  TRef.nullary t_c_1 (constantI S_ 32 19#32),
  TRef.unary t_c_1 t_v9 (broadcastInDim S512x100000 ![] bcast_S_S512x100000),
  TRef.binary t_v5 t_v9 t_v10 Host.shrui,
  TRef.binary t_v8 t_v10 t_v11 ori,
  TRef.binary t_v6 t_v11 t_v12 xori,
  TRef.binary t_v6 t_v12 t_v13 addi,
  TRef.nullary t_c_2 (constantI S_ 32 15#32),
  TRef.unary t_c_2 t_v14 (broadcastInDim S512x100000 ![] bcast_S_S512x100000),
  TRef.binary t_v12 t_v14 t_v15 Host.shli,
  TRef.nullary t_c_3 (constantI S_ 32 17#32),
  TRef.unary t_c_3 t_v16 (broadcastInDim S512x100000 ![] bcast_S_S512x100000),
  TRef.binary t_v12 t_v16 t_v17 Host.shrui,
  TRef.binary t_v15 t_v17 t_v18 ori,
  TRef.binary t_v13 t_v18 t_v19 xori,
  TRef.binary t_v13 t_v19 t_v20 addi,
  TRef.nullary t_c_4 (constantI S_ 32 26#32),
  TRef.unary t_c_4 t_v21 (broadcastInDim S512x100000 ![] bcast_S_S512x100000),
  TRef.binary t_v19 t_v21 t_v22 Host.shli,
  TRef.nullary t_c_5 (constantI S_ 32 6#32),
  TRef.unary t_c_5 t_v23 (broadcastInDim S512x100000 ![] bcast_S_S512x100000),
  TRef.binary t_v19 t_v23 t_v24 Host.shrui,
  TRef.binary t_v22 t_v24 t_v25 ori,
  TRef.binary t_v20 t_v25 t_v26 xori,
  TRef.binary t_v20 t_v26 t_v27 addi,
  TRef.nullary t_c_6 (constantI S_ 32 6#32),
  TRef.unary t_c_6 t_v28 (broadcastInDim S512x100000 ![] bcast_S_S512x100000),
  TRef.binary t_v26 t_v28 t_v29 Host.shli,
  TRef.nullary t_c_7 (constantI S_ 32 26#32),
  TRef.unary t_c_7 t_v30 (broadcastInDim S512x100000 ![] bcast_S_S512x100000),
  TRef.binary t_v26 t_v30 t_v31 Host.shrui,
  TRef.binary t_v29 t_v31 t_v32 ori,
  TRef.binary t_v27 t_v32 t_v33 xori,
  TRef.unary u_v7 t_v34 (broadcastInDim S512x100000 ![] bcast_S_S512x100000),
  TRef.binary t_v27 t_v34 t_v35 addi,
  TRef.unary t_v1 t_v36 (broadcastInDim S512x100000 ![] bcast_S_S512x100000),
  TRef.binary t_v33 t_v36 t_v37 addi,
  TRef.nullary t_c_8 (constantI S_ 32 1#32),
  TRef.unary t_c_8 t_v38 (broadcastInDim S512x100000 ![] bcast_S_S512x100000),
  TRef.binary t_v37 t_v38 t_v39 addi,
  TRef.binary t_v35 t_v39 t_v40 addi,
  TRef.nullary t_c_9 (constantI S_ 32 17#32),
  TRef.unary t_c_9 t_v41 (broadcastInDim S512x100000 ![] bcast_S_S512x100000),
  TRef.binary t_v39 t_v41 t_v42 Host.shli,
  TRef.nullary t_c_10 (constantI S_ 32 15#32),
  TRef.unary t_c_10 t_v43 (broadcastInDim S512x100000 ![] bcast_S_S512x100000),
  TRef.binary t_v39 t_v43 t_v44 Host.shrui,
  TRef.binary t_v42 t_v44 t_v45 ori,
  TRef.binary t_v40 t_v45 t_v46 xori,
  TRef.binary t_v40 t_v46 t_v47 addi]

/-- Stretch 1 of the threefry words. -/
def tOps1 : List (HloOp τ sig (Elt F)) := [
  TRef.nullary t_c_11 (constantI S_ 32 29#32),
  TRef.unary t_c_11 t_v48 (broadcastInDim S512x100000 ![] bcast_S_S512x100000),
  TRef.binary t_v46 t_v48 t_v49 Host.shli,
  TRef.nullary t_c_12 (constantI S_ 32 3#32),
  TRef.unary t_c_12 t_v50 (broadcastInDim S512x100000 ![] bcast_S_S512x100000),
  TRef.binary t_v46 t_v50 t_v51 Host.shrui,
  TRef.binary t_v49 t_v51 t_v52 ori,
  TRef.binary t_v47 t_v52 t_v53 xori,
  TRef.binary t_v47 t_v53 t_v54 addi,
  TRef.nullary t_c_13 (constantI S_ 32 16#32),
  TRef.unary t_c_13 t_v55 (broadcastInDim S512x100000 ![] bcast_S_S512x100000),
  TRef.binary t_v53 t_v55 t_v56 Host.shli,
  TRef.nullary t_c_14 (constantI S_ 32 16#32),
  TRef.unary t_c_14 t_v57 (broadcastInDim S512x100000 ![] bcast_S_S512x100000),
  TRef.binary t_v53 t_v57 t_v58 Host.shrui,
  TRef.binary t_v56 t_v58 t_v59 ori,
  TRef.binary t_v54 t_v59 t_v60 xori,
  TRef.binary t_v54 t_v60 t_v61 addi,
  TRef.nullary t_c_15 (constantI S_ 32 24#32),
  TRef.unary t_c_15 t_v62 (broadcastInDim S512x100000 ![] bcast_S_S512x100000),
  TRef.binary t_v60 t_v62 t_v63 Host.shli,
  TRef.nullary t_c_16 (constantI S_ 32 8#32),
  TRef.unary t_c_16 t_v64 (broadcastInDim S512x100000 ![] bcast_S_S512x100000),
  TRef.binary t_v60 t_v64 t_v65 Host.shrui,
  TRef.binary t_v63 t_v65 t_v66 ori,
  TRef.binary t_v61 t_v66 t_v67 xori,
  TRef.unary t_v1 t_v68 (broadcastInDim S512x100000 ![] bcast_S_S512x100000),
  TRef.binary t_v61 t_v68 t_v69 addi,
  TRef.unary u_v5 t_v70 (broadcastInDim S512x100000 ![] bcast_S_S512x100000),
  TRef.binary t_v67 t_v70 t_v71 addi,
  TRef.nullary t_c_17 (constantI S_ 32 2#32),
  TRef.unary t_c_17 t_v72 (broadcastInDim S512x100000 ![] bcast_S_S512x100000),
  TRef.binary t_v71 t_v72 t_v73 addi,
  TRef.binary t_v69 t_v73 t_v74 addi,
  TRef.nullary t_c_18 (constantI S_ 32 13#32),
  TRef.unary t_c_18 t_v75 (broadcastInDim S512x100000 ![] bcast_S_S512x100000),
  TRef.binary t_v73 t_v75 t_v76 Host.shli,
  TRef.nullary t_c_19 (constantI S_ 32 19#32),
  TRef.unary t_c_19 t_v77 (broadcastInDim S512x100000 ![] bcast_S_S512x100000),
  TRef.binary t_v73 t_v77 t_v78 Host.shrui,
  TRef.binary t_v76 t_v78 t_v79 ori,
  TRef.binary t_v74 t_v79 t_v80 xori,
  TRef.binary t_v74 t_v80 t_v81 addi,
  TRef.nullary t_c_20 (constantI S_ 32 15#32),
  TRef.unary t_c_20 t_v82 (broadcastInDim S512x100000 ![] bcast_S_S512x100000),
  TRef.binary t_v80 t_v82 t_v83 Host.shli,
  TRef.nullary t_c_21 (constantI S_ 32 17#32),
  TRef.unary t_c_21 t_v84 (broadcastInDim S512x100000 ![] bcast_S_S512x100000),
  TRef.binary t_v80 t_v84 t_v85 Host.shrui,
  TRef.binary t_v83 t_v85 t_v86 ori,
  TRef.binary t_v81 t_v86 t_v87 xori,
  TRef.binary t_v81 t_v87 t_v88 addi,
  TRef.nullary t_c_22 (constantI S_ 32 26#32),
  TRef.unary t_c_22 t_v89 (broadcastInDim S512x100000 ![] bcast_S_S512x100000),
  TRef.binary t_v87 t_v89 t_v90 Host.shli,
  TRef.nullary t_c_23 (constantI S_ 32 6#32),
  TRef.unary t_c_23 t_v91 (broadcastInDim S512x100000 ![] bcast_S_S512x100000),
  TRef.binary t_v87 t_v91 t_v92 Host.shrui,
  TRef.binary t_v90 t_v92 t_v93 ori,
  TRef.binary t_v88 t_v93 t_v94 xori]

/-- Stretch 2 of the threefry words. -/
def tOps2 : List (HloOp τ sig (Elt F)) := [
  TRef.binary t_v88 t_v94 t_v95 addi,
  TRef.nullary t_c_24 (constantI S_ 32 6#32),
  TRef.unary t_c_24 t_v96 (broadcastInDim S512x100000 ![] bcast_S_S512x100000),
  TRef.binary t_v94 t_v96 t_v97 Host.shli,
  TRef.nullary t_c_25 (constantI S_ 32 26#32),
  TRef.unary t_c_25 t_v98 (broadcastInDim S512x100000 ![] bcast_S_S512x100000),
  TRef.binary t_v94 t_v98 t_v99 Host.shrui,
  TRef.binary t_v97 t_v99 t_v100 ori,
  TRef.binary t_v95 t_v100 t_v101 xori,
  TRef.unary u_v5 t_v102 (broadcastInDim S512x100000 ![] bcast_S_S512x100000),
  TRef.binary t_v95 t_v102 t_v103 addi,
  TRef.unary u_v7 t_v104 (broadcastInDim S512x100000 ![] bcast_S_S512x100000),
  TRef.binary t_v101 t_v104 t_v105 addi,
  TRef.nullary t_c_26 (constantI S_ 32 3#32),
  TRef.unary t_c_26 t_v106 (broadcastInDim S512x100000 ![] bcast_S_S512x100000),
  TRef.binary t_v105 t_v106 t_v107 addi,
  TRef.binary t_v103 t_v107 t_v108 addi,
  TRef.nullary t_c_27 (constantI S_ 32 17#32),
  TRef.unary t_c_27 t_v109 (broadcastInDim S512x100000 ![] bcast_S_S512x100000),
  TRef.binary t_v107 t_v109 t_v110 Host.shli,
  TRef.nullary t_c_28 (constantI S_ 32 15#32),
  TRef.unary t_c_28 t_v111 (broadcastInDim S512x100000 ![] bcast_S_S512x100000),
  TRef.binary t_v107 t_v111 t_v112 Host.shrui,
  TRef.binary t_v110 t_v112 t_v113 ori,
  TRef.binary t_v108 t_v113 t_v114 xori,
  TRef.binary t_v108 t_v114 t_v115 addi,
  TRef.nullary t_c_29 (constantI S_ 32 29#32),
  TRef.unary t_c_29 t_v116 (broadcastInDim S512x100000 ![] bcast_S_S512x100000),
  TRef.binary t_v114 t_v116 t_v117 Host.shli,
  TRef.nullary t_c_30 (constantI S_ 32 3#32),
  TRef.unary t_c_30 t_v118 (broadcastInDim S512x100000 ![] bcast_S_S512x100000),
  TRef.binary t_v114 t_v118 t_v119 Host.shrui,
  TRef.binary t_v117 t_v119 t_v120 ori,
  TRef.binary t_v115 t_v120 t_v121 xori,
  TRef.binary t_v115 t_v121 t_v122 addi,
  TRef.nullary t_c_31 (constantI S_ 32 16#32),
  TRef.unary t_c_31 t_v123 (broadcastInDim S512x100000 ![] bcast_S_S512x100000),
  TRef.binary t_v121 t_v123 t_v124 Host.shli,
  TRef.nullary t_c_32 (constantI S_ 32 16#32),
  TRef.unary t_c_32 t_v125 (broadcastInDim S512x100000 ![] bcast_S_S512x100000),
  TRef.binary t_v121 t_v125 t_v126 Host.shrui,
  TRef.binary t_v124 t_v126 t_v127 ori,
  TRef.binary t_v122 t_v127 t_v128 xori,
  TRef.binary t_v122 t_v128 t_v129 addi,
  TRef.nullary t_c_33 (constantI S_ 32 24#32),
  TRef.unary t_c_33 t_v130 (broadcastInDim S512x100000 ![] bcast_S_S512x100000),
  TRef.binary t_v128 t_v130 t_v131 Host.shli,
  TRef.nullary t_c_34 (constantI S_ 32 8#32),
  TRef.unary t_c_34 t_v132 (broadcastInDim S512x100000 ![] bcast_S_S512x100000),
  TRef.binary t_v128 t_v132 t_v133 Host.shrui,
  TRef.binary t_v131 t_v133 t_v134 ori,
  TRef.binary t_v129 t_v134 t_v135 xori,
  TRef.unary u_v7 t_v136 (broadcastInDim S512x100000 ![] bcast_S_S512x100000),
  TRef.binary t_v129 t_v136 t_v137 addi,
  TRef.unary t_v1 t_v138 (broadcastInDim S512x100000 ![] bcast_S_S512x100000),
  TRef.binary t_v135 t_v138 t_v139 addi,
  TRef.nullary t_c_35 (constantI S_ 32 4#32),
  TRef.unary t_c_35 t_v140 (broadcastInDim S512x100000 ![] bcast_S_S512x100000),
  TRef.binary t_v139 t_v140 t_v141 addi,
  TRef.binary t_v137 t_v141 t_v142 addi]

/-- Stretch 3 of the threefry words. -/
def tOps3 : List (HloOp τ sig (Elt F)) := [
  TRef.nullary t_c_36 (constantI S_ 32 13#32),
  TRef.unary t_c_36 t_v143 (broadcastInDim S512x100000 ![] bcast_S_S512x100000),
  TRef.binary t_v141 t_v143 t_v144 Host.shli,
  TRef.nullary t_c_37 (constantI S_ 32 19#32),
  TRef.unary t_c_37 t_v145 (broadcastInDim S512x100000 ![] bcast_S_S512x100000),
  TRef.binary t_v141 t_v145 t_v146 Host.shrui,
  TRef.binary t_v144 t_v146 t_v147 ori,
  TRef.binary t_v142 t_v147 t_v148 xori,
  TRef.binary t_v142 t_v148 t_v149 addi,
  TRef.nullary t_c_38 (constantI S_ 32 15#32),
  TRef.unary t_c_38 t_v150 (broadcastInDim S512x100000 ![] bcast_S_S512x100000),
  TRef.binary t_v148 t_v150 t_v151 Host.shli,
  TRef.nullary t_c_39 (constantI S_ 32 17#32),
  TRef.unary t_c_39 t_v152 (broadcastInDim S512x100000 ![] bcast_S_S512x100000),
  TRef.binary t_v148 t_v152 t_v153 Host.shrui,
  TRef.binary t_v151 t_v153 t_v154 ori,
  TRef.binary t_v149 t_v154 t_v155 xori,
  TRef.binary t_v149 t_v155 t_v156 addi,
  TRef.nullary t_c_40 (constantI S_ 32 26#32),
  TRef.unary t_c_40 t_v157 (broadcastInDim S512x100000 ![] bcast_S_S512x100000),
  TRef.binary t_v155 t_v157 t_v158 Host.shli,
  TRef.nullary t_c_41 (constantI S_ 32 6#32),
  TRef.unary t_c_41 t_v159 (broadcastInDim S512x100000 ![] bcast_S_S512x100000),
  TRef.binary t_v155 t_v159 t_v160 Host.shrui,
  TRef.binary t_v158 t_v160 t_v161 ori,
  TRef.binary t_v156 t_v161 t_v162 xori,
  TRef.binary t_v156 t_v162 t_v163 addi,
  TRef.nullary t_c_42 (constantI S_ 32 6#32),
  TRef.unary t_c_42 t_v164 (broadcastInDim S512x100000 ![] bcast_S_S512x100000),
  TRef.binary t_v162 t_v164 t_v165 Host.shli,
  TRef.nullary t_c_43 (constantI S_ 32 26#32),
  TRef.unary t_c_43 t_v166 (broadcastInDim S512x100000 ![] bcast_S_S512x100000),
  TRef.binary t_v162 t_v166 t_v167 Host.shrui,
  TRef.binary t_v165 t_v167 t_v168 ori,
  TRef.binary t_v163 t_v168 t_v169 xori,
  TRef.unary t_v1 t_v170 (broadcastInDim S512x100000 ![] bcast_S_S512x100000),
  TRef.binary t_v163 t_v170 u_v19_0 addi,
  TRef.unary u_v5 t_v172 (broadcastInDim S512x100000 ![] bcast_S_S512x100000),
  TRef.binary t_v169 t_v172 t_v173 addi,
  TRef.nullary t_c_44 (constantI S_ 32 5#32),
  TRef.unary t_c_44 t_v174 (broadcastInDim S512x100000 ![] bcast_S_S512x100000),
  TRef.binary t_v173 t_v174 u_v19_1 addi]

/-- The uniform draw up to its words. -/
def uOps0 : List (HloOp τ sig (Elt F)) := [
  TRef.unary m_cst u_v0 id,
  TRef.unary m_cst_2 u_v1 id,
  TRef.unary u_v0 u_v2 (broadcastInDim S1x1 ![] bcast_S_S1x1),
  TRef.unary u_v1 u_v3 (broadcastInDim S1x1 ![] bcast_S_S1x1),
  TRef.unary m_v10 u_v4 (extractStridedSlice S1 ![0] · slices_S2_S1_0),
  TRef.reshape u_v4 u_v5 (rfl : (.i32 : EltTy) = .i32) shapeCasts_S1_S_,
  TRef.unary m_v10 u_v6 (extractStridedSlice S1 ![1] · slices_S2_S1_1),
  TRef.reshape u_v6 u_v7 (rfl : (.i32 : EltTy) = .i32) shapeCasts_S1_S_,
  TRef.nullary u_v8 (iotaInDim S512x100000 64 0),
  TRef.nullary u_v9 (iotaInDim S512x100000 64 1),
  TRef.nullary u_c (constantI S_ 64 100000#64),
  TRef.unary u_c u_v10 (broadcastInDim S512x100000 ![] bcast_S_S512x100000),
  TRef.binary u_v10 u_v8 u_v11 muli,
  TRef.nullary u_c_0 (constantI S_ 64 1#64),
  TRef.unary u_c_0 u_v12 (broadcastInDim S512x100000 ![] bcast_S_S512x100000),
  TRef.binary u_v12 u_v9 u_v13 muli,
  TRef.binary u_v11 u_v13 u_v14 addi,
  TRef.nullary u_c_1 (constantI S_ 64 32#64),
  TRef.unary u_c_1 u_v15 (broadcastInDim S512x100000 ![] bcast_S_S512x100000),
  TRef.binary u_v14 u_v15 u_v16 Host.shrui,
  TRef.unary u_v14 u_v17 (trunci 32 · natLt_32_64),
  TRef.unary u_v16 u_v18 (trunci 32 · natLt_32_64)]

/-- The uniform draw from its words on. -/
def uOps1 : List (HloOp τ sig (Elt F)) := [
  TRef.binary u_v19_0 u_v19_1 u_v20 xori,
  TRef.nullary u_c_2 (constantI S_ 32 9#32),
  TRef.unary u_c_2 u_v21 (broadcastInDim S512x100000 ![] bcast_S_S512x100000),
  TRef.binary u_v20 u_v21 u_v22 Host.shrui,
  TRef.nullary u_c_3 (constantI S_ 32 1065353216#32),
  TRef.unary u_c_3 u_v23 (broadcastInDim S512x100000 ![] bcast_S_S512x100000),
  TRef.binary u_v22 u_v23 u_v24 ori,
  TRef.unary u_v24 u_v25 (bitcastToFloat .f32),
  TRef.nullary u_cst (constant S_ .f32 0x3F800000#32),
  TRef.unary u_cst u_v26 (broadcastInDim S512x100000 ![] bcast_S_S512x100000),
  TRef.binary u_v25 u_v26 u_v27 subf,
  TRef.binary u_v3 u_v2 u_v28 subf,
  TRef.unary u_v28 u_v29 (broadcastInDim S512x100000 ![0, 1] bcast_S1x1_S512x100000_0_1),
  TRef.binary u_v27 u_v29 u_v30 mulf,
  TRef.unary u_v2 u_v31 (broadcastInDim S512x100000 ![0, 1] bcast_S1x1_S512x100000_0_1),
  TRef.binary u_v30 u_v31 u_v32 addf,
  TRef.unary u_v2 u_v33 (broadcastInDim S512x100000 ![0, 1] bcast_S1x1_S512x100000_0_1),
  TRef.binary u_v33 u_v32 m_v11 maximumf]

/-- The logits and the key. -/
def mOps0 : List (HloOp τ sig (Elt F)) := [
  TRef.binary m_arg0 m_arg1 m_v0 (fun l r => Host.dotGeneral dot_S512x2048_S2048x100000_S512x100000_1_0_0_1_n_n none l r),
  TRef.unary m_arg2 m_v1 (broadcastInDim S1x100000 ![1] bcast_S100000_S1x100000_1),
  TRef.unary m_v1 m_v2 (broadcastInDim S512x100000 ![0, 1] bcast_S1x100000_S512x100000_0_1),
  TRef.binary m_v0 m_v2 m_v3 addf,
  TRef.nullary m_c (constantI S_ 32 1234#32),
  TRef.nullary m_c_0 (constantI S_ 32 32#32),
  TRef.binary m_c m_c_0 m_v4 Host.shrui,
  TRef.unary m_v4 m_v5 id,
  TRef.unary m_v5 m_v6 (broadcastInDim S1 ![] bcast_S_S1),
  TRef.nullary m_c_1 (constantI S_ 32 4294967295#32),
  TRef.binary m_c m_c_1 m_v7 andi,
  TRef.unary m_v7 m_v8 id,
  TRef.unary m_v8 m_v9 (broadcastInDim S1 ![] bcast_S_S1),
  TRef.binary m_v6 m_v9 m_v10 (fun a b => concatenate S2 0 [⟨S1, a⟩, ⟨S1, b⟩] concatenates_S1_S1_S2_d0),
  TRef.nullary m_cst (constant S_ .f32 0x00000000#32),
  TRef.nullary m_cst_2 (constant S_ .f32 0x3F800000#32)]

/-- The Gumbel noise of the uniform draw. -/
def mOps1 : List (HloOp τ sig (Elt F)) := [
  TRef.nullary m_cst_3 (constant S_ .f32 0x00800000#32),
  TRef.unary m_cst_3 m_v12 (broadcastInDim S512x100000 ![] bcast_S_S512x100000),
  TRef.binary m_v11 m_v12 m_v13 addf,
  TRef.nullary m_cst_4 (constant S_ .f32 0x00800000#32),
  TRef.unary m_cst_4 m_v14 (broadcastInDim S512x100000 ![] bcast_S_S512x100000),
  TRef.binary m_v14 m_v13 m_v15 maximumf,
  TRef.unary m_v15 m_v16 Host.log,
  TRef.unary m_v16 m_v17 Host.negf,
  TRef.unary m_v17 m_v18 Host.log,
  TRef.unary m_v18 m_v19 Host.negf]

/-- The log-softmax. -/
def lOps : List (HloOp τ sig (Elt F)) := [
  TRef.nullary l_cst (constant S_ .f32 0xFF800000#32),
  TRef.binary m_v3 l_cst l_v0 (fun x v => Host.reduce FloatOps.maximumf x v reducesTo_S512x100000_S512_d1 h_S_),
  TRef.nullary l_cst_0 (constant S_ .f32 0xFF800000#32),
  TRef.unary l_cst_0 l_v1 (broadcastInDim S512 ![] bcast_S_S512),
  TRef.binary l_v1 l_v0 l_v2 maximumf,
  TRef.unary l_v2 l_v3 (broadcastInDim S512x1 ![0] bcast_S512_S512x1_0),
  TRef.unary l_v3 l_v4 (broadcastInDim S512x100000 ![0, 1] bcast_S512x1_S512x100000_0_1),
  TRef.binary m_v3 l_v4 l_v5 subf,
  TRef.unary l_v5 l_v6 Host.exp,
  TRef.nullary l_cst_1 (constant S_ .f32 0x00000000#32),
  TRef.binary l_v6 l_cst_1 l_v7 (fun x v => Host.reduceAdd x v reducesTo_S512x100000_S512_d1 h_S_),
  TRef.unary l_v7 l_v8 (broadcastInDim S512x1 ![0] bcast_S512_S512x1_0),
  TRef.unary l_v8 l_v9 Host.log,
  TRef.unary l_v9 l_v10 (broadcastInDim S512x100000 ![0, 1] bcast_S512x1_S512x100000_0_1),
  TRef.binary l_v5 l_v10 m_v20 subf]

/-- The softmax of the noisy log-probabilities. -/
def mOps2 : List (HloOp τ sig (Elt F)) := [
  TRef.binary m_v20 m_v19 m_v21 addf,
  TRef.nullary m_cst_5 (constant S_ .f32 0x3F800000#32),
  TRef.unary m_cst_5 m_v22 (broadcastInDim S512x100000 ![] bcast_S_S512x100000),
  TRef.binary m_v21 m_v22 m_v23 Host.divf,
  TRef.nullary m_cst_6 (constant S_ .f32 0xFF800000#32),
  TRef.binary m_v23 m_cst_6 m_v24 (fun x v => Host.reduce FloatOps.maximumf x v reducesTo_S512x100000_S512_d1 h_S_),
  TRef.nullary m_cst_7 (constant S_ .f32 0xFF800000#32),
  TRef.unary m_cst_7 m_v25 (broadcastInDim S512 ![] bcast_S_S512),
  TRef.binary m_v25 m_v24 m_v26 maximumf,
  TRef.unary m_v26 m_v27 (broadcastInDim S512x1 ![0] bcast_S512_S512x1_0),
  TRef.unary m_v27 m_v28 (broadcastInDim S512x100000 ![0, 1] bcast_S512x1_S512x100000_0_1),
  TRef.binary m_v23 m_v28 m_v29 subf,
  TRef.unary m_v29 m_v30 Host.exp,
  TRef.nullary m_cst_8 (constant S_ .f32 0x00000000#32),
  TRef.binary m_v30 m_cst_8 m_v31 (fun x v => Host.reduceAdd x v reducesTo_S512x100000_S512_d1 h_S_),
  TRef.unary m_v31 m_v32 (broadcastInDim S512x1 ![0] bcast_S512_S512x1_0),
  TRef.unary m_v32 m_v33 (broadcastInDim S512x100000 ![0, 1] bcast_S512x1_S512x100000_0_1),
  TRef.binary m_v30 m_v33 m_v34 Host.divf]

/-- The argmax. -/
def aOps : List (HloOp τ sig (Elt F)) := [
  TRef.nullary a_v0 (iotaInDim S512x100000 32 1),
  TRef.nullary a_cst (constant S_ .f32 0xFF800000#32),
  TRef.nullary a_c (constantI S_ 32 0#32),
  TRef.quaternary m_v34 a_v0 a_cst a_c a_v1_0 (fun x y u v j => (Host.argReduce reducer_argmax_f32_i32 x y u v reducesTo_S512x100000_S512_d1 h_S_ j).1),
  TRef.quaternary m_v34 a_v0 a_cst a_c m_v35 (fun x y u v j => (Host.argReduce reducer_argmax_f32_i32 x y u v reducesTo_S512x100000_S512_d1 h_S_ j).2)]

/-- The one-hot row. -/
def hOps : List (HloOp τ sig (Elt F)) := [
  TRef.unary m_v35 o_v0 (broadcastInDim S512x1 ![0] bcast_S512_S512x1_0),
  TRef.nullary o_v1 (iotaInDim S1x100000 32 1),
  TRef.unary o_v0 o_v2 (broadcastInDim S512x100000 ![0, 1] bcast_S512x1_S512x100000_0_1),
  TRef.unary o_v1 o_v3 (broadcastInDim S512x100000 ![0, 1] bcast_S1x100000_S512x100000_0_1),
  TRef.binary o_v2 o_v3 o_v4 (cmpi .eq),
  TRef.unary o_v4 m_v36 (uitofp .f32)]

/-- The straight-through sum. -/
def mOps3 : List (HloOp τ sig (Elt F)) := [
  TRef.binary m_v36 m_v34 m_v37 subf,
  TRef.binary m_v34 m_v37 m_v38 addf]

/-- The threefry words. -/
def tOps : List (HloOp τ sig (Elt F)) := tOps0 ++ (tOps1 ++ (tOps2 ++ tOps3))

/-- The uniform draw. -/
def uOps : List (HloOp τ sig (Elt F)) := uOps0 ++ (tOps ++ uOps1)

/-- The whole line. -/
def ops : List (HloOp τ sig (Elt F)) := mOps0 ++ (uOps ++ (mOps1 ++ (lOps ++ (mOps2 ++ (aOps ++ (hOps ++ mOps3))))))

/-! ## The line is in order -/

/-- The main line's first part is in order from buffer 3 on. -/
theorem mOps0_inOrder : InOrder 3 (mOps0 (F := F)) :=
  ⟨good_binary rfl, good_unary rfl, good_unary rfl, good_binary rfl, good_nullary rfl, good_nullary rfl, good_binary rfl, good_unary rfl, good_unary rfl, good_nullary rfl, good_binary rfl, good_unary rfl, good_unary rfl, good_binary rfl, good_nullary rfl, good_nullary rfl, trivial⟩

/-- The uniform draw's first part is in order from buffer 19 on. -/
theorem uOps0_inOrder : InOrder 19 (uOps0 (F := F)) :=
  ⟨good_unary rfl, good_unary rfl, good_unary rfl, good_unary rfl, good_unary rfl, good_reshape rfl, good_unary rfl, good_reshape rfl, good_nullary rfl, good_nullary rfl, good_nullary rfl, good_unary rfl, good_binary rfl, good_nullary rfl, good_unary rfl, good_binary rfl, good_binary rfl, good_nullary rfl, good_unary rfl, good_binary rfl, good_unary rfl, good_unary rfl, trivial⟩

/-- The hash's first part is in order from buffer 41 on. -/
theorem tOps0_inOrder : InOrder 41 (tOps0 (F := F)) :=
  ⟨good_binary rfl, good_nullary rfl, good_binary rfl, good_unary rfl, good_binary rfl, good_unary rfl, good_binary rfl, good_binary rfl, good_nullary rfl, good_unary rfl, good_binary rfl, good_nullary rfl, good_unary rfl, good_binary rfl, good_binary rfl, good_binary rfl, good_binary rfl, good_nullary rfl, good_unary rfl, good_binary rfl, good_nullary rfl, good_unary rfl, good_binary rfl, good_binary rfl, good_binary rfl, good_binary rfl, good_nullary rfl, good_unary rfl, good_binary rfl, good_nullary rfl, good_unary rfl, good_binary rfl, good_binary rfl, good_binary rfl, good_binary rfl, good_nullary rfl, good_unary rfl, good_binary rfl, good_nullary rfl, good_unary rfl, good_binary rfl, good_binary rfl, good_binary rfl, good_unary rfl, good_binary rfl, good_unary rfl, good_binary rfl, good_nullary rfl, good_unary rfl, good_binary rfl, good_binary rfl, good_nullary rfl, good_unary rfl, good_binary rfl, good_nullary rfl, good_unary rfl, good_binary rfl, good_binary rfl, good_binary rfl, good_binary rfl, trivial⟩

/-- The hash's second part is in order from buffer 101 on. -/
theorem tOps1_inOrder : InOrder 101 (tOps1 (F := F)) :=
  ⟨good_nullary rfl, good_unary rfl, good_binary rfl, good_nullary rfl, good_unary rfl, good_binary rfl, good_binary rfl, good_binary rfl, good_binary rfl, good_nullary rfl, good_unary rfl, good_binary rfl, good_nullary rfl, good_unary rfl, good_binary rfl, good_binary rfl, good_binary rfl, good_binary rfl, good_nullary rfl, good_unary rfl, good_binary rfl, good_nullary rfl, good_unary rfl, good_binary rfl, good_binary rfl, good_binary rfl, good_unary rfl, good_binary rfl, good_unary rfl, good_binary rfl, good_nullary rfl, good_unary rfl, good_binary rfl, good_binary rfl, good_nullary rfl, good_unary rfl, good_binary rfl, good_nullary rfl, good_unary rfl, good_binary rfl, good_binary rfl, good_binary rfl, good_binary rfl, good_nullary rfl, good_unary rfl, good_binary rfl, good_nullary rfl, good_unary rfl, good_binary rfl, good_binary rfl, good_binary rfl, good_binary rfl, good_nullary rfl, good_unary rfl, good_binary rfl, good_nullary rfl, good_unary rfl, good_binary rfl, good_binary rfl, good_binary rfl, trivial⟩

/-- The hash's third part is in order from buffer 161 on. -/
theorem tOps2_inOrder : InOrder 161 (tOps2 (F := F)) :=
  ⟨good_binary rfl, good_nullary rfl, good_unary rfl, good_binary rfl, good_nullary rfl, good_unary rfl, good_binary rfl, good_binary rfl, good_binary rfl, good_unary rfl, good_binary rfl, good_unary rfl, good_binary rfl, good_nullary rfl, good_unary rfl, good_binary rfl, good_binary rfl, good_nullary rfl, good_unary rfl, good_binary rfl, good_nullary rfl, good_unary rfl, good_binary rfl, good_binary rfl, good_binary rfl, good_binary rfl, good_nullary rfl, good_unary rfl, good_binary rfl, good_nullary rfl, good_unary rfl, good_binary rfl, good_binary rfl, good_binary rfl, good_binary rfl, good_nullary rfl, good_unary rfl, good_binary rfl, good_nullary rfl, good_unary rfl, good_binary rfl, good_binary rfl, good_binary rfl, good_binary rfl, good_nullary rfl, good_unary rfl, good_binary rfl, good_nullary rfl, good_unary rfl, good_binary rfl, good_binary rfl, good_binary rfl, good_unary rfl, good_binary rfl, good_unary rfl, good_binary rfl, good_nullary rfl, good_unary rfl, good_binary rfl, good_binary rfl, trivial⟩

/-- The hash's fourth part is in order from buffer 221 on. -/
theorem tOps3_inOrder : InOrder 221 (tOps3 (F := F)) :=
  ⟨good_nullary rfl, good_unary rfl, good_binary rfl, good_nullary rfl, good_unary rfl, good_binary rfl, good_binary rfl, good_binary rfl, good_binary rfl, good_nullary rfl, good_unary rfl, good_binary rfl, good_nullary rfl, good_unary rfl, good_binary rfl, good_binary rfl, good_binary rfl, good_binary rfl, good_nullary rfl, good_unary rfl, good_binary rfl, good_nullary rfl, good_unary rfl, good_binary rfl, good_binary rfl, good_binary rfl, good_binary rfl, good_nullary rfl, good_unary rfl, good_binary rfl, good_nullary rfl, good_unary rfl, good_binary rfl, good_binary rfl, good_binary rfl, good_unary rfl, good_binary rfl, good_unary rfl, good_binary rfl, good_nullary rfl, good_unary rfl, good_binary rfl, trivial⟩

/-- The uniform draw's second part is in order from buffer 263 on. -/
theorem uOps1_inOrder : InOrder 263 (uOps1 (F := F)) :=
  ⟨good_binary rfl, good_nullary rfl, good_unary rfl, good_binary rfl, good_nullary rfl, good_unary rfl, good_binary rfl, good_unary rfl, good_nullary rfl, good_unary rfl, good_binary rfl, good_binary rfl, good_unary rfl, good_binary rfl, good_unary rfl, good_binary rfl, good_unary rfl, good_binary rfl, trivial⟩

/-- The main line's second part is in order from buffer 281 on. -/
theorem mOps1_inOrder : InOrder 281 (mOps1 (F := F)) :=
  ⟨good_nullary rfl, good_unary rfl, good_binary rfl, good_nullary rfl, good_unary rfl, good_binary rfl, good_unary rfl, good_unary rfl, good_unary rfl, good_unary rfl, trivial⟩

/-- The log-softmax's operations are in order from buffer 291 on. -/
theorem lOps_inOrder : InOrder 291 (lOps (F := F)) :=
  ⟨good_nullary rfl, good_binary rfl, good_nullary rfl, good_unary rfl, good_binary rfl, good_unary rfl, good_unary rfl, good_binary rfl, good_unary rfl, good_nullary rfl, good_binary rfl, good_unary rfl, good_unary rfl, good_unary rfl, good_binary rfl, trivial⟩

/-- The main line's third part is in order from buffer 306 on. -/
theorem mOps2_inOrder : InOrder 306 (mOps2 (F := F)) :=
  ⟨good_binary rfl, good_nullary rfl, good_unary rfl, good_binary rfl, good_nullary rfl, good_binary rfl, good_nullary rfl, good_unary rfl, good_binary rfl, good_unary rfl, good_unary rfl, good_binary rfl, good_unary rfl, good_nullary rfl, good_binary rfl, good_unary rfl, good_unary rfl, good_binary rfl, trivial⟩

/-- The argmax's operations are in order from buffer 324 on. -/
theorem aOps_inOrder : InOrder 324 (aOps (F := F)) :=
  ⟨good_nullary rfl, good_nullary rfl, good_nullary rfl, good_quaternary rfl, good_quaternary rfl, trivial⟩

/-- The one-hot's operations are in order from buffer 329 on. -/
theorem hOps_inOrder : InOrder 329 (hOps (F := F)) :=
  ⟨good_unary rfl, good_nullary rfl, good_unary rfl, good_unary rfl, good_binary rfl, good_unary rfl, trivial⟩

/-- The main line's fourth part is in order from buffer 335 on. -/
theorem mOps3_inOrder : InOrder 335 (mOps3 (F := F)) :=
  ⟨good_binary rfl, good_binary rfl, trivial⟩

/-- The hash's operations, all of them, are in order from buffer 41 on. -/
theorem tOps_inOrder : InOrder 41 (tOps (F := F)) := tOps0_inOrder.append (tOps1_inOrder.append (tOps2_inOrder.append tOps3_inOrder))

/-- The uniform draw's operations, all of them, are in order from buffer 19 on. -/
theorem uOps_inOrder : InOrder 19 (uOps (F := F)) := uOps0_inOrder.append (tOps_inOrder.append uOps1_inOrder)

/-- The line is in order. -/
theorem ops_inOrder : InOrder 3 (ops (F := F)) :=
  mOps0_inOrder.append (uOps_inOrder.append (mOps1_inOrder.append (lOps_inOrder.append (mOps2_inOrder.append
    (aOps_inOrder.append (hOps_inOrder.append mOps3_inOrder))))))

/-! ## The program is the line -/

/-- The reduction of a row, over its typed buffers, is the one over its buffers, whatever the function. -/
theorem row_v24 (f : (⟨S512x100000, .f32⟩ : BufTy).Contents (Elt F) → (⟨S_, .f32⟩ : BufTy).Contents (Elt F) → (⟨S512, .f32⟩ : BufTy).Contents (Elt F)) :
    TRef.binary (τ := τ) m_v23 m_cst_6 m_v24 f = StableHlo.binary main_v23 main_cst_6 main_v24 f := rfl

/-- The same of the other one. -/
theorem row_v31 (f : (⟨S512x100000, .f32⟩ : BufTy).Contents (Elt F) → (⟨S_, .f32⟩ : BufTy).Contents (Elt F) → (⟨S512, .f32⟩ : BufTy).Contents (Elt F)) :
    TRef.binary (τ := τ) m_v30 m_cst_8 m_v31 f = StableHlo.binary main_v30 main_cst_8 main_v31 f := rfl

/-- A line's first operation, up to an equation. -/
theorem isSeq_cons {op op' : HloOp τ sig (Elt F)} (e : op' = op)
    {k : Prog (TpuEff nD τ sig (Elt F) (Pipeline.Sig Λ₀ (Fin 0) fun p => (pcfgs (F := F) p).Adm) .tc) PUnit}
    {l : List (HloOp τ sig (Elt F))} (h : IsSeq k l) : IsSeq ((hlo rfl op fun _ => .ret (⟨⟩ : PUnit)) >>= fun _ => k) (op' :: l) :=
  e ▸ IsSeq.cons h

/-- The program `p` continued by a line is a line. -/
theorem isSeq_append {p k : Prog (TpuEff nD τ sig (Elt F) (Pipeline.Sig Λ₀ (Fin 0) fun p => (pcfgs (F := F) p).Adm) .tc) PUnit}
    {l₁ l₂ : List (HloOp τ sig (Elt F))} (h₁ : IsSeq p l₁) (h₂ : IsSeq k l₂) : IsSeq (p >>= fun _ => k) (l₁ ++ l₂) := by
  unfold IsSeq at h₁ h₂ ⊢
  rw [h₁, h₂, seq_append]

/-- The hash's first part runs its listed operations one after another. -/
theorem t0_isSeq : IsSeq (fn_threefry2x32.body_part0 (F := F) u_v5 u_v7 u_v18 u_v17 main_call0_call0) tOps0 := by
  unfold fn_threefry2x32.body_part0 tOps0
  repeat' first | exact IsSeq.nil | apply IsSeq.cons

/-- The hash's second part runs its listed operations one after another. -/
theorem t1_isSeq : IsSeq (fn_threefry2x32.body_part1 (F := F) u_v5 u_v7 u_v18 u_v17 main_call0_call0) tOps1 := by
  unfold fn_threefry2x32.body_part1 tOps1
  repeat' first | exact IsSeq.nil | apply IsSeq.cons

/-- The hash's third part runs its listed operations one after another. -/
theorem t2_isSeq : IsSeq (fn_threefry2x32.body_part2 (F := F) u_v5 u_v7 u_v18 u_v17 main_call0_call0) tOps2 := by
  unfold fn_threefry2x32.body_part2 tOps2
  repeat' first | exact IsSeq.nil | apply IsSeq.cons

/-- The hash's fourth part runs its listed operations one after another. -/
theorem t3_isSeq : IsSeq (fn_threefry2x32.body_part3 (F := F) u_v5 u_v7 u_v18 u_v17 main_call0_call0) tOps3 := by
  unfold fn_threefry2x32.body_part3 tOps3
  repeat' first | exact IsSeq.nil | apply IsSeq.cons

/-- The hash's body runs its listed operations one after another. -/
theorem t_isSeq : IsSeq (fn_threefry2x32.body (F := F) u_v5 u_v7 u_v18 u_v17 main_call0_call0) tOps :=
  isSeq_append t0_isSeq (isSeq_append t1_isSeq (isSeq_append t2_isSeq t3_isSeq))

/-- The uniform draw's body runs its listed operations one after another. -/
theorem u_isSeq : IsSeq (fn_uniform.body (F := F) m_v10 m_cst m_cst_2 main_call0) uOps := by
  unfold fn_uniform.body uOps uOps0
  simp only [List.cons_append, List.nil_append]
  iterate 22 apply IsSeq.cons
  refine isSeq_append t_isSeq ?_
  unfold uOps1
  repeat' first | exact IsSeq.nil | apply IsSeq.cons

/-- The log-softmax's body runs its listed operations one after another. -/
theorem l_isSeq : IsSeq (fn_log_softmax.body (F := F) m_v3 main_call1) lOps := by
  unfold fn_log_softmax.body lOps
  repeat' first | exact IsSeq.nil | apply IsSeq.cons

/-- The argmax's body runs its listed operations one after another. -/
theorem a_isSeq : IsSeq (fn_argmax.body (F := F) m_v34 main_call2) aOps := by
  unfold fn_argmax.body aOps
  repeat' first | exact IsSeq.nil | apply IsSeq.cons

/-- The one-hot's body runs its listed operations one after another. -/
theorem h_isSeq : IsSeq (fn_one_hot.body (F := F) m_v35 main_call3) hOps := by
  unfold fn_one_hot.body hOps
  repeat' first | exact IsSeq.nil | apply IsSeq.cons

/-- The reference's @main is the line. -/
theorem main_isSeq (d : Dev nD) : IsSeq (main (F := F) d) ops := by
  unfold main ops mOps0
  simp only [List.cons_append, List.nil_append]
  iterate 16 apply IsSeq.cons
  refine isSeq_append u_isSeq ?_
  unfold mOps1
  simp only [List.cons_append, List.nil_append]
  iterate 10 apply IsSeq.cons
  refine isSeq_append l_isSeq ?_
  unfold mOps2
  simp only [List.cons_append, List.nil_append]
  iterate 5 apply IsSeq.cons
  apply isSeq_cons (row_v24 _)
  iterate 8 apply IsSeq.cons
  apply isSeq_cons (row_v31 _)
  iterate 3 apply IsSeq.cons
  refine isSeq_append a_isSeq ?_
  refine isSeq_append h_isSeq ?_
  unfold mOps3
  repeat' first | exact IsSeq.nil | apply IsSeq.cons

/-! ## The run -/

/-- The contents after the line, from a launch's. -/
def fin (m : (ℓ : Loc nD τ sig) → Buf (Elt F) ℓ) (d : Dev nD) : Valuation τ sig (Elt F) := after ops (launchContents m d)

/-- The reference terminates, and its buffers end at what the line leaves in them. -/
theorem run (m : (ℓ : Loc nD τ sig) → Buf (Elt F) ℓ) (ρ : Dev nD → PrngReg) :
    θ_run (defs (F := F)) (onTc (τ := τ) main) ⟨m, fun _ => 0, ρ⟩ fun r =>
      ∀ (d : Dev nD) (b : Ref sig .tc), r.2.mem ((d.tc : Thread nD τ).loc b) = fin m d (Proc.devRef .tc b) :=
  run_hlo defs main main_isSeq (by decide) (by decide) ops_inOrder.bufs ops_inOrder.fresh m ρ

/-- Its arguments are as the launch had them. -/
theorem fin_arg (m : (ℓ : Loc nD τ sig) → Buf (Elt F) ℓ) (d : Dev nD) {b : Ref sig .tc} (h : num b < 3) :
    fin m d (Proc.devRef .tc b) = m ((d.tc : Thread nD τ).loc b) := ops_inOrder.low _ h

end Cert.ReferenceIdeal.Line

end
-- ==== Proof.Finite.lean ====
/-
  The precondition read: where `finite` holds, every element of the three arguments is a real number.
-/
module

public import proofs.«01_k».proof.Pre_finite
public import Idealize.ShloMosaic.PureOps.Ideal.Laws
public import Idealize.ShloMosaic.Lib.ReduceAll

@[expose] public section

noncomputable section

namespace Cert.Finite

open Cert.Pre_finite
open Idealize.ShloMosaic

/-- A number above minus infinity and below infinity, as the predicate tests it, is a real. -/
theorem real_of (x lo hi : EReal) (hlo : lo = ⊥) (hhi : hi = ⊤)
    (h : IntOp.andi (FloatOps.cmpf (F := Ideal) (φ := .f32) .ogt x lo) (FloatOps.cmpf (F := Ideal) (φ := .f32) .olt x hi) = 1#1) :
    ∃ u : ℝ, x = (u : EReal) := by
  subst hlo hhi
  rw [Ideal.cmpf_def, Ideal.cmpf_def] at h
  simp only [Ideal.cmp] at h
  induction x using EReal.rec with
  | bot => simp [IntOp.andi] at h
  | top => simp [IntOp.andi] at h
  | coe r => exact ⟨r, rfl⟩

/-- The word of minus infinity reads as the bottom. -/
theorem ofBits_bot : Ideal.ofBits .f32 0xFF800000#32 = (⊥ : EReal) := by simp [Ideal.ofBits, Ideal.ieee]
/-- The word of plus infinity reads as the top. -/
theorem ofBits_top : Ideal.ofBits .f32 0x7F800000#32 = (⊤ : EReal) := by simp [Ideal.ofBits, Ideal.ieee]

/-- Both bits of a conjunction that is one are one. -/
theorem and_one (a b : BitVec 1) (h : IntOp.andi a b = 1#1) : a = 1#1 ∧ b = 1#1 := by
  revert a b
  decide

variable [Facts]
open Facts

/-- Where the predicate is one, every element of every argument is a real number. -/
theorem reals (x : FVec Ideal S512x2048 .f32) (W : FVec Ideal S2048x100000 .f32) (b : FVec Ideal S100000 .f32)
    (h : fn (F := Ideal) x W b = fun _ => 1#1) :
    (∀ i, ∃ u : ℝ, (x i : EReal) = (u : EReal)) ∧ (∀ i, ∃ u : ℝ, (W i : EReal) = (u : EReal)) ∧ ∀ i, ∃ u : ℝ, (b i : EReal) = (u : EReal) := by
  have h0 := congrFun h (fun k => k.elim0)
  haveI : Subsingleton S_.Idx := ⟨fun a b => funext fun k => k.elim0⟩
  obtain ⟨h12, hb⟩ := and_one _ _ h0
  obtain ⟨hx, hW⟩ := and_one _ _ h12
  refine ⟨fun i => ?_, fun i => ?_, fun i => ?_⟩
  · exact real_of _ _ _ ofBits_bot ofBits_top (Host.reduce_andi_all _ _ _ _ _ hx i)
  · exact real_of _ _ _ ofBits_bot ofBits_top (Host.reduce_andi_all _ _ _ _ _ hW i)
  · exact real_of _ _ _ ofBits_bot ofBits_top (Host.reduce_andi_all _ _ _ _ _ hb i)

end Cert.Finite

end
-- ==== Proof.Word.lean ====
/-
  The random words and the noise: the threefry word of a counter, written with the operations of words alone, and the Gumbel noise of
  a word, a real number.
-/
module

public import Idealize.ShloMosaic.PureOps
public import Idealize.ShloMosaic.PureOps.Ideal.Laws
public import Idealize.ShloMosaic.Lib.IdealHost

@[expose] public section

noncomputable section

namespace Cert.Word

open Idealize.ShloMosaic

/-! ## The threefry word -/

/-- A word rotated left by `r`. -/
def rot (r : ℕ) (b : BitVec 32) : BitVec 32 := b <<< r ||| b >>> (32 - r)
/-- One round on a pair: the sum, and the second word rotated and mixed with it. -/
def mix (r : ℕ) (p : BitVec 32 × BitVec 32) : BitVec 32 × BitVec 32 := (p.1 + p.2, rot r p.2 ^^^ (p.1 + p.2))
/-- A key injection: one word of the key on each, and the group's number on the second. -/
def inj (k l n : BitVec 32) (p : BitVec 32 × BitVec 32) : BitVec 32 × BitVec 32 := (p.1 + k, p.2 + l + n)
/-- Four rounds. -/
def four (r₁ r₂ r₃ r₄ : ℕ) (p : BitVec 32 × BitVec 32) : BitVec 32 × BitVec 32 := mix r₄ (mix r₃ (mix r₂ (mix r₁ p)))
/-- The five groups of four rounds under the key (0, 1234), each followed by its injection. -/
def threefry (p : BitVec 32 × BitVec 32) : BitVec 32 × BitVec 32 :=
  inj 466689800#32 0#32 5#32 <| four 13 15 26 6 <|
  inj 1234#32 466689800#32 4#32 <| four 17 29 16 24 <|
  inj 0#32 1234#32 3#32 <| four 13 15 26 6 <|
  inj 466689800#32 0#32 2#32 <| four 17 29 16 24 <|
  inj 1234#32 466689800#32 1#32 <| four 13 15 26 6 p
/-- The word of the counter (0, n): both words of the pair, mixed. -/
def word (n : BitVec 32) : BitVec 32 := (threefry (0#32, n + 1234#32)).1 ^^^ (threefry (0#32, n + 1234#32)).2

/-- The rotation as the programs compute it: two shifts by words below 32, joined. -/
theorem rot_eq (u : ArithUnit) (b : BitVec 32) (r : ℕ) (h0 : 0 < r := by decide) (h : r < 32 := by decide) :
    IntOp.ori (IntOp.shli u b (BitVec.ofNat 32 r)) (IntOp.shrui u b (BitVec.ofNat 32 (32 - r))) = rot r b := by
  have e1 : (BitVec.ofNat 32 r).toNat = r := by rw [BitVec.toNat_ofNat]; omega
  have e2 : (BitVec.ofNat 32 (32 - r)).toNat = 32 - r := by rw [BitVec.toNat_ofNat]; omega
  unfold IntOp.shli IntOp.shrui IntOp.ori rot
  rw [e1, e2, if_pos h, if_pos (by omega), BitVec.shiftLeft_eq', BitVec.ushiftRight_eq', e1, e2]

/-! ## The noise -/

/-- The bit pattern of a real in [1, 2): the word's top 23 bits as its fraction. -/
def bits (w : BitVec 32) : BitVec 32 := w >>> 9 ||| 0x3F800000#32

/-- That pattern has the sign bit clear, -/
theorem bits_sign (w : BitVec 32) : (bits w).extractLsb' 31 1 = 0#1 := by
  ext i hi
  obtain rfl : i = 0 := by omega
  simp [bits, BitVec.getElem_extractLsb']
/-- and the exponent of one. -/
theorem bits_exp (w : BitVec 32) : (bits w).extractLsb' 23 8 = 127#8 := by
  ext i hi
  rw [BitVec.getElem_extractLsb', bits, BitVec.getLsbD_or, BitVec.getLsbD_ushiftRight, BitVec.getLsbD_of_ge w _ (by omega), Bool.false_or]
  have h : ∀ i (hi : i < 8), (1065353216#32).getLsbD (23 + i) = (127#8)[i] := by decide
  exact h i hi

/-- Read as a float it is one and a whole number of steps of 2⁻²³, below 2. -/
theorem exists_bits (w : BitVec 32) : ∃ k : ℕ, k < 2 ^ 23 ∧ Ideal.ofBits .f32 (bits w) = ((1 + k * (2 ^ 23)⁻¹ : ℝ) : EReal) := by
  refine ⟨((bits w).extractLsb' 0 23).toNat, BitVec.isLt _, ?_⟩
  show Ideal.ieee 8 23 (bits w) = _
  unfold Ideal.ieee
  generalize ((bits w).extractLsb' 0 23).toNat = k
  simp only [Nat.reduceAdd, bits_sign, bits_exp]
  rw [if_neg (by decide), if_neg (by decide)]
  congr 1
  push_cast
  norm_num
  ring

/-- How many steps above one, -/
def frac (w : BitVec 32) : ℕ := (exists_bits w).choose
/-- and the number they make, between 1 and 2. -/
def sig (w : BitVec 32) : ℝ := 1 + frac w * (2 ^ 23)⁻¹
/-- The float at that pattern is that number. -/
theorem ofBits_bits (w : BitVec 32) : Ideal.ofBits .f32 (bits w) = (sig w : EReal) := (exists_bits w).choose_spec.2
/-- It is at least one, -/
theorem one_le_sig (w : BitVec 32) : 1 ≤ sig w := by unfold sig; have : (0 : ℝ) ≤ frac w * (2 ^ 23)⁻¹ := by positivity
                                                     linarith
/-- and at most two less a step. -/
theorem sig_le (w : BitVec 32) : sig w ≤ 2 - (2 ^ 23)⁻¹ := by
  have h : frac w + 1 ≤ 2 ^ 23 := (exists_bits w).choose_spec.1
  have h' : (frac w : ℝ) + 1 ≤ 2 ^ 23 := by exact_mod_cast h
  have : ((frac w : ℝ) + 1) * (2 ^ 23)⁻¹ ≤ 2 ^ 23 * (2 ^ 23)⁻¹ := mul_le_mul_of_nonneg_right h' (by positivity)
  unfold sig
  rw [mul_inv_cancel₀ (by positivity)] at this
  linarith

/-- The least positive normal float. -/
def tiny : ℝ := 2 ^ (-126 : ℤ)
/-- It is positive. -/
theorem tiny_pos : 0 < tiny := by unfold tiny; positivity
/-- The literal's word reads as it. -/
theorem ofBits_tiny : Ideal.ofBits .f32 0x00800000#32 = (tiny : EReal) := by
  simp [Ideal.ofBits, Ideal.ieee, tiny, -EReal.coe_mul]; norm_num

/-- The fraction with the least float added stays below one. -/
theorem sig_add_tiny (w : BitVec 32) : sig w - 1 + tiny < 1 := by
  have h := sig_le w
  have ht : tiny < (2 ^ 23)⁻¹ := by unfold tiny; norm_num
  linarith

/-- The Gumbel noise of a word. -/
def noise (w : BitVec 32) : ℝ := -Real.log (-Real.log (sig w - 1 + tiny))

/-- The two logarithms of a number strictly between 0 and 1, on the extended reals. -/
theorem log_log {u : ℝ} (h0 : 0 < u) (h1 : u < 1) : -Ideal.log (-Ideal.log (u : EReal)) = ((-Real.log (-Real.log u) : ℝ) : EReal) := by
  rw [Ideal.log_coe, if_neg (not_le.mpr h0), ← EReal.coe_neg, Ideal.log_coe, if_neg (not_le.mpr (by have := Real.log_neg h0 h1; linarith)), ← EReal.coe_neg]

/-- The noise as the kernel computes it, -/
theorem kernel_noise (w : BitVec 32) :
    (0 : EReal) - Ideal.log (0 - Ideal.log (max (Ideal.ofBits .f32 0x00800000#32)
      ((Ideal.ofBits .f32 (bits w) - 1) * 1 + Ideal.ofBits .f32 0x00800000#32))) = (noise w : EReal) := by
  have ht := tiny_pos
  have h1 := one_le_sig w
  rw [ofBits_tiny, ofBits_bits, mul_one, ← EReal.coe_one, ← EReal.coe_sub, ← EReal.coe_add,
    max_eq_right (EReal.coe_le_coe_iff.mpr (by linarith)), sub_eq_add_neg, sub_eq_add_neg, zero_add, zero_add,
    log_log (by linarith) (sig_add_tiny w)]
  rfl

/-- and as the reference does. -/
theorem reference_noise (w : BitVec 32) :
    -Ideal.log (-Ideal.log (max (Ideal.ofBits .f32 0x00800000#32)
      (max 0 ((Ideal.ofBits .f32 (bits w) - 1) * (1 - 0) + 0) + Ideal.ofBits .f32 0x00800000#32))) = (noise w : EReal) := by
  have ht := tiny_pos
  have h1 := one_le_sig w
  rw [sub_zero, mul_one, add_zero, ofBits_tiny, ofBits_bits, ← EReal.coe_one, ← EReal.coe_sub, ← EReal.coe_zero,
    max_eq_right (EReal.coe_le_coe_iff.mpr (by linarith)), ← EReal.coe_add,
    max_eq_right (EReal.coe_le_coe_iff.mpr (by linarith)), log_log (by linarith) (sig_add_tiny w)]
  rfl

end Cert.Word
-- ==== Proof.KerWord.lean ====
/-
  The words of the tile kernel, element by element: the twenty rounds of its pair of words are the threefry rounds of the element's
  number in the whole array.
-/
module

public import proofs.«01_k».proof.Proof.Tile
public import proofs.«01_k».proof.Proof.Word

@[expose] public section

set_option maxRecDepth 16384

noncomputable section

namespace Cert.KernelIdeal.KerWord

open Cert.KernelIdeal Cert.KernelIdeal.Gen Cert.KernelIdeal.Tile Cert.Word
open Idealize.ShloMosaic

/-- A round from its two new words: the sum, and the rotated second word mixed with the sum. -/
theorem mix_of {a b a' b' : BitVec 32} (r : ℕ) (ha : a' = a + b)
    (hb : b' = IntOp.xori (IntOp.ori (IntOp.shli .vector b (BitVec.ofNat 32 r)) (IntOp.shrui .vector b (BitVec.ofNat 32 (32 - r)))) a')
    (h0 : 0 < r := by decide) (h : r < 32 := by decide) : (a', b') = mix r (a, b) := by
  rw [rot_eq .vector b r h0 h] at hb
  subst ha hb
  rfl

/-- A round and an injection, from the words between them and the second word after them. -/
theorem inj_of {a b a' b' c k l n : BitVec 32} (r : ℕ) (ha : a' = a + b)
    (hb : b' = IntOp.xori (IntOp.ori (IntOp.shli .vector b (BitVec.ofNat 32 r)) (IntOp.shrui .vector b (BitVec.ofNat 32 (32 - r)))) a')
    (hc : c = b' + l + n) (h0 : 0 < r := by decide) (h : r < 32 := by decide) : (a' + k, c) = inj k l n (mix r (a, b)) := by
  rw [← mix_of r ha hb h0 h, hc]
  rfl

/-- Second round. -/
theorem r2 (i : grid0.Coords) (j : S512x1024.Idx) :
    (k0_pay8 i j, k0_pay9 i j) = mix 15 (k0_pay6 i j, k0_pay7 i j) :=
  mix_of 15 rfl rfl
/-- Third round. -/
theorem r3 (i : grid0.Coords) (j : S512x1024.Idx) :
    (k0_pay10 i j, k0_pay11 i j) = mix 26 (k0_pay8 i j, k0_pay9 i j) :=
  mix_of 26 rfl rfl
/-- Fourth round and the injection after it. -/
theorem r4 (i : grid0.Coords) (j : S512x1024.Idx) :
    (k0_pay12 i j + 1234#32, k0_pay15 (k0_pay11 i) (k0_pay12 i) (k0_pay13 i) k0_pay14 j) = inj 1234#32 466689800#32 1#32 (mix 6 (k0_pay10 i j, k0_pay11 i j)) :=
  inj_of 6 (a' := k0_pay12 i j) (b' := IntOp.xori (IntOp.ori (IntOp.shli .vector (k0_pay11 i j) 6#32) (IntOp.shrui .vector (k0_pay11 i j) 26#32)) (k0_pay12 i j)) rfl rfl rfl
/-- Fifth round. -/
theorem r5 (v36 v37 v39 v40 : IVec S512x1024 32) (j : S512x1024.Idx) :
    (k0_pay16 v36 v37 v39 v40 j, k0_pay17 v36 v37 v39 v40 j) = mix 17 (v37 j + 1234#32, k0_pay15 v36 v37 v39 v40 j) :=
  mix_of 17 rfl rfl
/-- Sixth round. -/
theorem r6 (v36 v37 v39 v40 : IVec S512x1024 32) (j : S512x1024.Idx) :
    (k0_pay18 v36 v37 v39 v40 j, k0_pay19 v36 v37 v39 v40 j) = mix 29 (k0_pay16 v36 v37 v39 v40 j, k0_pay17 v36 v37 v39 v40 j) :=
  mix_of 29 rfl rfl
/-- Seventh round. -/
theorem r7 (v36 v37 v39 v40 : IVec S512x1024 32) (j : S512x1024.Idx) :
    (k0_pay20 v36 v37 v39 v40 j, k0_pay21 v36 v37 v39 v40 j) = mix 16 (k0_pay18 v36 v37 v39 v40 j, k0_pay19 v36 v37 v39 v40 j) :=
  mix_of 16 rfl rfl
/-- Eighth round and the injection after it. -/
theorem r8 (v36 v37 v39 v40 : IVec S512x1024 32) (j : S512x1024.Idx) :
    (k0_pay22 v36 v37 v39 v40 j + 466689800#32, k0_pay23 v36 v37 v39 v40 j) = inj 466689800#32 0#32 2#32 (mix 24 (k0_pay20 v36 v37 v39 v40 j, k0_pay21 v36 v37 v39 v40 j)) :=
  inj_of 24 (a' := k0_pay22 v36 v37 v39 v40 j) (b' := IntOp.xori (IntOp.ori (IntOp.shli .vector (k0_pay21 v36 v37 v39 v40 j) 24#32) (IntOp.shrui .vector (k0_pay21 v36 v37 v39 v40 j) 8#32)) (k0_pay22 v36 v37 v39 v40 j)) rfl rfl rfl
/-- Ninth round. -/
theorem r9 (i : grid0.Coords) (j : S512x1024.Idx) :
    (w84 i j, k0_pay26 (w83 i) (w84 i) k0_pay25 j) = mix 13 (k0_pay22 (k0_pay11 i) (k0_pay12 i) (k0_pay13 i) k0_pay14 j + 466689800#32, w83 i j) :=
  mix_of 13 rfl rfl
/-- Tenth round. -/
theorem r10 (v83 v84 v85 : IVec S512x1024 32) (j : S512x1024.Idx) :
    (k0_pay27 v83 v84 v85 j, k0_pay28 v83 v84 v85 j) = mix 15 (v84 j, k0_pay26 v83 v84 v85 j) :=
  mix_of 15 rfl rfl
/-- Eleventh round. -/
theorem r11 (v83 v84 v85 : IVec S512x1024 32) (j : S512x1024.Idx) :
    (k0_pay29 v83 v84 v85 j, k0_pay30 v83 v84 v85 j) = mix 26 (k0_pay27 v83 v84 v85 j, k0_pay28 v83 v84 v85 j) :=
  mix_of 26 rfl rfl
/-- Twelfth round and the injection after it. -/
theorem r12 (v83 v84 v85 : IVec S512x1024 32) (j : S512x1024.Idx) :
    (k0_pay31 v83 v84 v85 j + 0#32, k0_pay32 v83 v84 v85 j) = inj 0#32 1234#32 3#32 (mix 6 (k0_pay29 v83 v84 v85 j, k0_pay30 v83 v84 v85 j)) :=
  inj_of 6 (a' := k0_pay31 v83 v84 v85 j) (b' := IntOp.xori (IntOp.ori (IntOp.shli .vector (k0_pay30 v83 v84 v85 j) 6#32) (IntOp.shrui .vector (k0_pay30 v83 v84 v85 j) 26#32)) (k0_pay31 v83 v84 v85 j)) rfl rfl rfl
/-- Thirteenth round. -/
theorem r13 (v83 v84 v85 : IVec S512x1024 32) (j : S512x1024.Idx) :
    (k0_pay33 v83 v84 v85 j, k0_pay34 v83 v84 v85 j) = mix 17 (k0_pay31 v83 v84 v85 j + 0#32, k0_pay32 v83 v84 v85 j) :=
  mix_of 17 rfl rfl
/-- Fourteenth round. -/
theorem r14 (v83 v84 v85 : IVec S512x1024 32) (j : S512x1024.Idx) :
    (k0_pay35 v83 v84 v85 j, k0_pay36 v83 v84 v85 j) = mix 29 (k0_pay33 v83 v84 v85 j, k0_pay34 v83 v84 v85 j) :=
  mix_of 29 rfl rfl
/-- Fifteenth round. -/
theorem r15 (v125 v131 : IVec S512x1024 32) (j : S512x1024.Idx) :
    (k0_pay37 v125 v131 j, k0_pay38 v125 v131 j) = mix 16 (v125 j, v131 j) :=
  mix_of 16 rfl rfl
/-- Sixteenth round and the injection after it. -/
theorem r16 (v125 v131 : IVec S512x1024 32) (j : S512x1024.Idx) :
    (k0_pay39 v125 v131 j + 1234#32, k0_pay40 v125 v131 j) = inj 1234#32 466689800#32 4#32 (mix 24 (k0_pay37 v125 v131 j, k0_pay38 v125 v131 j)) :=
  inj_of 24 (a' := k0_pay39 v125 v131 j) (b' := IntOp.xori (IntOp.ori (IntOp.shli .vector (k0_pay38 v125 v131 j) 24#32) (IntOp.shrui .vector (k0_pay38 v125 v131 j) 8#32)) (k0_pay39 v125 v131 j)) rfl rfl rfl
/-- Seventeenth round. -/
theorem r17 (v125 v131 : IVec S512x1024 32) (j : S512x1024.Idx) :
    (k0_pay41 v125 v131 j, k0_pay42 v125 v131 j) = mix 13 (k0_pay39 v125 v131 j + 1234#32, k0_pay40 v125 v131 j) :=
  mix_of 13 rfl rfl
/-- Eighteenth round. -/
theorem r18 (v125 v131 : IVec S512x1024 32) (j : S512x1024.Idx) :
    (k0_pay43 v125 v131 j, k0_pay44 v125 v131 j) = mix 15 (k0_pay41 v125 v131 j, k0_pay42 v125 v131 j) :=
  mix_of 15 rfl rfl
/-- Nineteenth round. -/
theorem r19 (v125 v131 : IVec S512x1024 32) (j : S512x1024.Idx) :
    (k0_pay45 v125 v131 j, k0_pay46 v125 v131 j) = mix 26 (k0_pay43 v125 v131 j, k0_pay44 v125 v131 j) :=
  mix_of 26 rfl rfl
/-- Twentieth round and the injection after it. -/
theorem r20 (v125 v131 : IVec S512x1024 32) (j : S512x1024.Idx) :
    (k0_pay47 v125 v131 j + 466689800#32, IntOp.xori (IntOp.ori (k0_pay48 v125 v131 j) (IntOp.shrui .vector (k0_pay46 v125 v131 j) (k0_pay49 j))) (k0_pay47 v125 v131 j) + 0#32 + 5#32) = inj 466689800#32 0#32 5#32 (mix 6 (k0_pay45 v125 v131 j, k0_pay46 v125 v131 j)) :=
  inj_of 6 (a' := k0_pay47 v125 v131 j) (b' := IntOp.xori (IntOp.ori (IntOp.shli .vector (k0_pay46 v125 v131 j) 6#32) (IntOp.shrui .vector (k0_pay46 v125 v131 j) 26#32)) (k0_pay47 v125 v131 j)) rfl rfl rfl

/-- First round: the counter's first word is zero. -/
theorem r1 (i : grid0.Coords) (j : S512x1024.Idx) : (k0_pay6 i j, k0_pay7 i j) = mix 13 (0#32, k0_pay5 i j) := by
  refine mix_of 13 ?_ rfl
  show (0#32 + 0#32) + k0_pay5 i j = 0#32 + k0_pay5 i j
  rw [BitVec.add_zero]

/-- The first group. -/
theorem g1 (i : grid0.Coords) (j : S512x1024.Idx) : (k0_pay12 i j + 1234#32, k0_pay15 (k0_pay11 i) (k0_pay12 i) (k0_pay13 i) k0_pay14 j) = inj 1234#32 466689800#32 1#32 (four 13 15 26 6 (0#32, k0_pay5 i j)) := by
  rw [r4, r3, r2, r1]; rfl
/-- The second. -/
theorem g2 (i : grid0.Coords) (j : S512x1024.Idx) : (k0_pay22 (k0_pay11 i) (k0_pay12 i) (k0_pay13 i) k0_pay14 j + 466689800#32, w83 i j) = inj 466689800#32 0#32 2#32 (four 17 29 16 24 (k0_pay12 i j + 1234#32, k0_pay15 (k0_pay11 i) (k0_pay12 i) (k0_pay13 i) k0_pay14 j)) := by
  rw [w83, r8, r7, r6, r5]; rfl
/-- The third. -/
theorem g3 (i : grid0.Coords) (j : S512x1024.Idx) : (k0_pay31 (w83 i) (w84 i) k0_pay25 j + 0#32, k0_pay32 (w83 i) (w84 i) k0_pay25 j) = inj 0#32 1234#32 3#32 (four 13 15 26 6 (k0_pay22 (k0_pay11 i) (k0_pay12 i) (k0_pay13 i) k0_pay14 j + 466689800#32, w83 i j)) := by
  rw [r12, r11, r10, r9]; rfl
/-- The fourth. -/
theorem g4 (i : grid0.Coords) (j : S512x1024.Idx) : (k0_pay39 (w125 i) (w131 i) j + 1234#32, k0_pay40 (w125 i) (w131 i) j) = inj 1234#32 466689800#32 4#32 (four 17 29 16 24 (k0_pay31 (w83 i) (w84 i) k0_pay25 j + 0#32, k0_pay32 (w83 i) (w84 i) k0_pay25 j)) := by
  rw [r16, r15, w125, w131, r14, r13]; rfl
/-- The fifth. -/
theorem g5 (i : grid0.Coords) (j : S512x1024.Idx) :
    (k0_pay47 (w125 i) (w131 i) j + 466689800#32, IntOp.xori (IntOp.ori (k0_pay48 (w125 i) (w131 i) j) (IntOp.shrui .vector (k0_pay46 (w125 i) (w131 i) j) (k0_pay49 j))) (k0_pay47 (w125 i) (w131 i) j) + 0#32 + 5#32) = inj 466689800#32 0#32 5#32 (four 13 15 26 6 (k0_pay39 (w125 i) (w131 i) j + 1234#32, k0_pay40 (w125 i) (w131 i) j)) := by
  rw [r20, r19, r18, r17]; rfl
/-- All five: the pair of words the tile kernel ends with is the threefry pair of the element's number. -/
theorem pair (i : grid0.Coords) (j : S512x1024.Idx) :
    (k0_pay47 (w125 i) (w131 i) j + 466689800#32, IntOp.xori (IntOp.ori (k0_pay48 (w125 i) (w131 i) j) (IntOp.shrui .vector (k0_pay46 (w125 i) (w131 i) j) (k0_pay49 j))) (k0_pay47 (w125 i) (w131 i) j) + 0#32 + 5#32) = threefry (0#32, k0_pay5 i j) := by
  rw [g5, g4, g3, g2, g1]; rfl

end Cert.KernelIdeal.KerWord
-- ==== Proof.First.lean ====
/-
  The first place at which a row attains its maximum: that there is one and only one, that a search tile by tile finds it, and that a
  fold over (value, place) pairs finds it.
-/
module

public import Idealize.ShloMosaic.PureOps
public import Idealize.ShloMosaic.PureOps.Ideal.Laws

@[expose] public section

noncomputable section

namespace Cert.First

open Idealize.ShloMosaic

/-- `c` is the first place at which `s` attains its maximum. -/
def IsFirst {n : ℕ} (s : Fin n → EReal) (c : Fin n) : Prop := (∀ d, s d ≤ s c) ∧ ∀ d, d < c → s d < s c

/-- There is one. -/
theorem exists_isFirst {n : ℕ} (hn : 0 < n) (s : Fin n → EReal) : ∃ c, IsFirst s c := by
  haveI : Nonempty (Fin n) := ⟨⟨0, hn⟩⟩
  obtain ⟨m, hm⟩ := Finite.exists_max s
  obtain ⟨c, hc, hmin⟩ : ∃ c, s c = s m ∧ ∀ d, s d = s m → c ≤ d := by
    have hne : (Finset.univ.filter fun d => s d = s m).Nonempty := ⟨m, by simp⟩
    exact ⟨_, (Finset.mem_filter.mp (Finset.min'_mem _ hne)).2, fun d hd => Finset.min'_le _ d (Finset.mem_filter.mpr ⟨Finset.mem_univ _, hd⟩)⟩
  exact ⟨c, fun d => hc ▸ hm d, fun d hd => lt_of_le_of_ne (hc ▸ hm d) fun e => absurd (hmin d (e.trans hc)) (not_le.mpr hd)⟩

/-- There is only one. -/
theorem IsFirst.unique {n : ℕ} {s : Fin n → EReal} {c d : Fin n} (hc : IsFirst s c) (hd : IsFirst s d) : c = d := by
  rcases lt_trichotomy c d with h | h | h
  · exact absurd (hd.2 c h) (not_lt.mpr (hc.1 d))
  · exact h
  · exact absurd (hc.2 d h) (not_lt.mpr (hd.1 c))

/-- A row whose order is the order of another attains its maximum first where that one does. -/
theorem IsFirst.of_le_iff {n : ℕ} {s u : Fin n → EReal} {c : Fin n} (hc : IsFirst s c) (h : ∀ a b, u a ≤ u b ↔ s a ≤ s b) :
    IsFirst u c :=
  ⟨fun d => (h _ _).mpr (hc.1 d), fun d hd => lt_of_not_ge fun hle => absurd ((h _ _).mp hle) (not_le.mpr (hc.2 d hd))⟩

/-! ## The least of a family of words -/

/-- The signed minimum is at most its first operand, -/
theorem minsi_le_left (a b : BitVec 32) : (IntOp.minsi a b).toInt ≤ a.toInt := by
  simp only [IntOp.minsi, BitVec.slt, decide_eq_true_eq]; split_ifs <;> omega
/-- at most its second, -/
theorem minsi_le_right (a b : BitVec 32) : (IntOp.minsi a b).toInt ≤ b.toInt := by
  simp only [IntOp.minsi, BitVec.slt, decide_eq_true_eq]; split_ifs <;> omega
/-- and at least what both are. -/
theorem le_minsi {z : ℤ} {a b : BitVec 32} (ha : z ≤ a.toInt) (hb : z ≤ b.toInt) : z ≤ (IntOp.minsi a b).toInt := by
  simp only [IntOp.minsi]; split_ifs <;> assumption

/-- The minimum of a family is at most each member. -/
theorem fold_minsi_le {ι : Type} [DecidableEq ι] (b : BitVec 32) (f : ι → BitVec 32) (S : Finset ι) {k : ι} (hk : k ∈ S) :
    (S.fold IntOp.minsi b f).toInt ≤ (f k).toInt := by
  induction S using Finset.induction with
  | empty => exact absurd hk (Finset.notMem_empty k)
  | insert a S ha ih =>
    rw [Finset.fold_insert ha]
    rcases Finset.mem_insert.mp hk with rfl | hk
    · exact minsi_le_left _ _
    · exact (minsi_le_right _ _).trans (ih hk)

/-- The minimum of a family is at least what every member is. -/
theorem le_fold_minsi {ι : Type} [DecidableEq ι] {z : ℤ} (b : BitVec 32) (f : ι → BitVec 32) (S : Finset ι) (hb : z ≤ b.toInt)
    (hf : ∀ k ∈ S, z ≤ (f k).toInt) : z ≤ (S.fold IntOp.minsi b f).toInt := by
  induction S using Finset.induction with
  | empty => exact hb
  | insert a S ha ih =>
    rw [Finset.fold_insert ha]
    exact le_minsi (hf a (Finset.mem_insert_self _ _)) (ih fun k hk => hf k (Finset.mem_insert_of_mem hk))

/-- The maximum of a family is at least each member, -/
theorem le_fold_max {ι : Type} [Fintype ι] (b : EReal) (f : ι → EReal) (k : ι) : f k ≤ Finset.univ.fold max b f :=
  Finset.le_fold_max (f k) |>.mpr (.inr ⟨k, Finset.mem_univ _, le_rfl⟩)
/-- and at most what every member is. -/
theorem fold_max_le {ι : Type} [Fintype ι] {z b : EReal} (f : ι → EReal) (hb : b ≤ z) (h : ∀ k, f k ≤ z) : Finset.univ.fold max b f ≤ z :=
  Finset.fold_max_le z |>.mpr ⟨hb, fun k _ => h k⟩

/-- A word below 2³¹ read as a signed number. -/
theorem toInt_ofNat {n : ℕ} (h : n < 2147483648) : (BitVec.ofNat 32 n).toInt = (n : ℤ) := by
  rw [BitVec.toInt_eq_toNat_cond, BitVec.toNat_ofNat, Nat.mod_eq_of_lt (by omega)]
  rw [if_pos (by omega)]

/-! ## The search tile by tile -/

/-- The largest score of tile `t`. -/
def tileMax (T : Fin 98 → Fin 1024 → EReal) (t : Fin 98) : EReal := Finset.univ.fold max ⊥ (T t)
/-- The first column of tile `t` that attains it, as a word. -/
def tileArg (T : Fin 98 → Fin 1024 → EReal) (t : Fin 98) : BitVec 32 :=
  Finset.univ.fold IntOp.minsi 2147483647#32 fun k : Fin 1024 =>
    if T t k = tileMax T t then BitVec.ofNat 32 (1024 * t.val + k.val) else 2147483647#32
/-- The largest score of the row. -/
def rowMax (T : Fin 98 → Fin 1024 → EReal) : EReal := Finset.univ.fold max ⊥ (tileMax T)
/-- The least of the columns found in the tiles that attain it. -/
def rowArg (T : Fin 98 → Fin 1024 → EReal) : BitVec 32 :=
  Finset.univ.fold IntOp.minsi 2147483647#32 fun t : Fin 98 => if tileMax T t = rowMax T then tileArg T t else 2147483647#32

/-- The search finds the first place at which the row attains its maximum: tile `t` holds the row's columns from 1024 t on, minus
    infinity past the last one, and no score of the row is minus infinity. -/
theorem rowArg_eq (s : Fin 100000 → EReal) (T : Fin 98 → Fin 1024 → EReal)
    (hT : ∀ t k, T t k = if h : 1024 * t.val + k.val < 100000 then s ⟨1024 * t.val + k.val, h⟩ else ⊥)
    (hs : ∀ c, s c ≠ ⊥) (c : Fin 100000) (hc : IsFirst s c) : rowArg T = BitVec.ofNat 32 c.val := by
  have hle : ∀ t k, T t k ≤ s c := fun t k => by
    rw [hT]; split
    · exact hc.1 _
    · exact bot_le
  have hM : ∀ t, tileMax T t ≤ s c := fun t => fold_max_le _ bot_le (hle t)
  have ht0 : c.val / 1024 < 98 := by have := c.isLt; omega
  have hk0 : c.val % 1024 < 1024 := Nat.mod_lt _ (by omega)
  have hdm : 1024 * (c.val / 1024) + c.val % 1024 = c.val := Nat.div_add_mod _ _
  have hT0 : T ⟨_, ht0⟩ ⟨_, hk0⟩ = s c := by
    rw [hT, dif_pos (show 1024 * (c.val / 1024) + c.val % 1024 < 100000 by rw [hdm]; exact c.isLt)]
    exact congrArg s (Fin.ext hdm)
  have hM0 : tileMax T ⟨_, ht0⟩ = s c := le_antisymm (hM _) (hT0 ▸ le_fold_max _ _ _)
  have hR : rowMax T = s c := le_antisymm (fold_max_le _ bot_le hM) (hM0 ▸ le_fold_max _ (tileMax T) _)
  have hlow : ∀ t, tileMax T t = s c → (c.val : ℤ) ≤ (tileArg T t).toInt := fun t ht => by
    have hi : (c.val : ℤ) ≤ (2147483647#32).toInt := by
      rw [show (2147483647#32).toInt = 2147483647 from by decide]; have := c.isLt; omega
    refine le_fold_minsi _ _ _ hi fun k _ => ?_
    split
    · rename_i hk
      rw [ht, hT] at hk
      split at hk
      · rename_i hlt
        rw [toInt_ofNat (by omega)]
        refine Int.ofNat_le.mpr (not_lt.mp fun hlt' => ?_)
        exact absurd hk (ne_of_lt (hc.2 ⟨_, hlt⟩ hlt'))
      · exact absurd hk.symm (hs c)
    · exact hi
  have hc31 : c.val < 2147483648 := by have := c.isLt; omega
  have hA0 : (tileArg T ⟨_, ht0⟩).toInt ≤ (c.val : ℤ) := by
    refine (fold_minsi_le _ _ _ (Finset.mem_univ (⟨_, hk0⟩ : Fin 1024))).trans ?_
    rw [if_pos (hT0.trans hM0.symm)]
    dsimp only
    rw [hdm, toInt_ofNat hc31]
  refine BitVec.eq_of_toInt_eq ?_
  rw [toInt_ofNat hc31]
  refine le_antisymm ?_ ?_
  · refine (fold_minsi_le _ _ _ (Finset.mem_univ (⟨_, ht0⟩ : Fin 98))).trans ?_
    rw [if_pos (hM0.trans hR.symm)]; exact hA0
  · refine le_fold_minsi _ _ _ ?_ fun t _ => ?_
    · rw [show (2147483647#32).toInt = 2147483647 from by decide]; have := c.isLt; omega
    · split
      · rename_i ht; exact hlow t (ht.trans hR)
      · rw [show (2147483647#32).toInt = 2147483647 from by decide]; have := c.isLt; omega

/-! ## The fold over pairs -/

/-- `p` is at least as good as `q`: a larger value, or the same value at no later a place. -/
def Beats (p q : EReal × BitVec 32) : Prop := q.1 < p.1 ∨ (q.1 = p.1 ∧ p.2.toInt ≤ q.2.toInt)

/-- A pair beats itself. -/
theorem Beats.refl (p : EReal × BitVec 32) : Beats p p := .inr ⟨rfl, le_rfl⟩
/-- Beating is transitive. -/
theorem Beats.trans {p q r : EReal × BitVec 32} (h : Beats p q) (h' : Beats q r) : Beats p r := by
  rcases h with h | ⟨h, k⟩ <;> rcases h' with h' | ⟨h', k'⟩
  · exact .inl (h'.trans h)
  · exact .inl (h'.symm ▸ h)
  · exact .inl (h ▸ h')
  · exact .inr ⟨h'.trans h, k.trans k'⟩

/-- A step that returns one of its two operands, the better one, folds to a best member of the list. -/
theorem foldl_best (f : EReal × BitVec 32 → EReal × BitVec 32 → EReal × BitVec 32)
    (hf : ∀ a b, (f a b = a ∨ f a b = b) ∧ Beats (f a b) a ∧ Beats (f a b) b) (L : List (EReal × BitVec 32)) :
    ∀ a, (L.foldl f a = a ∨ L.foldl f a ∈ L) ∧ Beats (L.foldl f a) a ∧ ∀ q ∈ L, Beats (L.foldl f a) q := by
  induction L with
  | nil => exact fun a => ⟨.inl rfl, .refl _, fun q hq => absurd hq List.not_mem_nil⟩
  | cons p L ih =>
    intro a
    obtain ⟨h1, h2, h3⟩ := ih (f a p)
    obtain ⟨g1, g2, g3⟩ := hf a p
    rw [List.foldl_cons]
    refine ⟨?_, h2.trans g2, fun q hq => ?_⟩
    · rcases h1 with h1 | h1
      · rw [h1]; rcases g1 with g1 | g1
        · exact .inl g1
        · rw [g1]; exact .inr List.mem_cons_self
      · exact .inr (List.mem_cons_of_mem _ h1)
    · rcases List.mem_cons.mp hq with rfl | hq
      · exact h2.trans g3
      · exact h3 q hq

/-- Such a fold over the pairs (value, place) of a row, started from minus infinity, ends at the first place of the maximum. -/
theorem foldl_first (f : EReal × BitVec 32 → EReal × BitVec 32 → EReal × BitVec 32)
    (hf : ∀ a b, (f a b = a ∨ f a b = b) ∧ Beats (f a b) a ∧ Beats (f a b) b) (L : List (EReal × BitVec 32)) (z : BitVec 32)
    (s : Fin 100000 → EReal) (hs : ∀ c, s c ≠ ⊥) (hL : ∀ p, p ∈ L ↔ ∃ d : Fin 100000, p = (s d, BitVec.ofNat 32 d.val))
    (c : Fin 100000) (hc : IsFirst s c) : (L.foldl f (⊥, z)).2 = BitVec.ofNat 32 c.val := by
  obtain ⟨h1, -, h3⟩ := foldl_best f hf L (⊥, z)
  have hcL := h3 _ ((hL _).mpr ⟨c, rfl⟩)
  have hm : L.foldl f (⊥, z) ∈ L := by
    rcases h1 with h1 | h1
    · rw [h1] at hcL
      rcases hcL with h | ⟨h, -⟩
      · exact absurd h not_lt_bot
      · exact absurd h (hs c)
    · exact h1
  obtain ⟨d, hd⟩ := (hL _).mp hm
  rw [hd] at hcL ⊢
  have hd31 : d.val < 2147483648 := by have := d.isLt; omega
  have hc31 : c.val < 2147483648 := by have := c.isLt; omega
  rcases hcL with h | ⟨h, k⟩
  · exact absurd h (not_lt.mpr (hc.1 d))
  · rw [toInt_ofNat hd31, toInt_ofNat hc31] at k
    have k' : d.val ≤ c.val := Int.ofNat_le.mp k
    have e : d = c := by
      rcases lt_or_eq_of_le (show d ≤ c from k') with hlt | e
      · exact absurd h.symm (ne_of_lt (hc.2 d hlt))
      · exact e
    rw [e]

end Cert.First
-- ==== Proof.KerVal.lean ====
/-
  The values of the three kernels on the extended reals, element by element: the tile's scores, a tile's maximum and its first column,
  the first column of all tiles, and the one-hot block.
-/
module

public import proofs.«01_k».proof.Proof.KerWord
public import proofs.«01_k».proof.Proof.First
public import Idealize.ShloMosaic.Lib.Pointwise
public import Idealize.ShloMosaic.Lib.IdealHost

@[expose] public section

set_option maxRecDepth 16384

noncomputable section

namespace Cert.KernelIdeal.KerVal

open Cert.KernelIdeal Cert.KernelIdeal.Gen Cert.KernelIdeal.Tile Cert.KernelIdeal.KerWord Cert.Word
open Idealize.ShloMosaic

/-- A sum of words, as the programs spell it. -/
theorem addi_eq (a b : BitVec 32) : IntOp.addi a b = a + b := rfl
/-- The pattern of negative infinity. -/
theorem ofBits_bot : Ideal.ofBits .f32 0xFF800000#32 = ⊥ := by simp [Ideal.ofBits, Ideal.ieee]

/-- The column's number in the whole array. -/
theorem pay4_at (i : grid0.Coords) (r : Fin 512) (l : Fin 1024) : k0_pay4 i (ix2 r l) = BitVec.ofNat 32 (1024 * (i 0).val + l.val) := by
  pointwise [k0_pay4]
  rw [addi_eq, add_comm, mul_comm, BitVec.ofNat_add, BitVec.ofNat_mul]
  rfl

/-- The element's number in the whole array, and the second key word. -/
theorem pay5_at (i : grid0.Coords) (r : Fin 512) (l : Fin 1024) :
    k0_pay5 i (ix2 r l) = BitVec.ofNat 32 (r.val * 100000 + (1024 * (i 0).val + l.val)) + 1234#32 := by
  pointwise [k0_pay5]
  rw [addi_eq, addi_eq, pay4_at, BitVec.ofNat_add (r.val * 100000), BitVec.ofNat_mul]
  rfl

/-- The product, as a sum over the inner axis. -/
theorem pay3_at (x : Vec Ideal S512x2048 .f32) (w : Vec Ideal S2048x1024 .f32) (r : Fin 512) (l : Fin 1024) :
    k0_pay3 x w (ix2 r l) = ∑ k : Fin 2048, x (ix2 r k) * w (ix2 k l) := by
  pointwise [k0_pay3]

/-- The noise an element's words make. -/
def gum (p q : BitVec 32) : EReal :=
  (Ideal.ofBits .f32 0x00000000#32) - Ideal.log (Ideal.ofBits .f32 0x00000000#32 - Ideal.log (max (Ideal.ofBits .f32 0x00800000#32)
      ((Ideal.ofBits .f32 (IntOp.ori (IntOp.shrui .vector (IntOp.xori p q) 9#32) 0x3F800000#32) - Ideal.ofBits .f32 0x3F800000#32) * Ideal.ofBits .f32 0x3F800000#32 + Ideal.ofBits .f32 0x00800000#32)))

/-- It is the noise of the two words mixed. -/
theorem gum_eq (p q : BitVec 32) : gum p q = (noise (p ^^^ q) : EReal) := by
  rw [← kernel_noise, gum, Ideal.ofBits_one_f32, Ideal.ofBits_zero_f32]
  rfl

/-- The bias row, read at a row and a column. -/
theorem bias_at (b : Vec Ideal S1x1024 .f32) (r : Fin 512) (l : Fin 1024) :
    broadcastTo S512x1024 (shapeCast S1x1024 b shapeCasts_S1x1024_S1x1024) broadcasts_S1x1024_S512x1024 (ix2 r l) = b (ix2 0 l) := by
  pointwise

section Generic
variable {F : FTy → Type} [FloatOps F]

/-- The noise in the operations of any float semantics. -/
def gumF (p q : BitVec 32) : F .f32 :=
  FloatOps.subf (Scalar.ofBits .f32 0x00000000#32) (FloatOps.log (FloatOps.subf (Scalar.ofBits .f32 0x00000000#32) (FloatOps.log (FloatOps.maximumf (Scalar.ofBits .f32 0x00800000#32)
      (FloatOps.addf (FloatOps.mulf (FloatOps.subf (Scalar.ofBits .f32 (IntOp.ori (IntOp.shrui .vector (IntOp.xori p q) 9#32) 0x3F800000#32)) (Scalar.ofBits .f32 0x3F800000#32)) (Scalar.ofBits .f32 0x3F800000#32)) (Scalar.ofBits .f32 0x00800000#32))))))

/-- A score from its parts. -/
theorem pay50_eq (v2 : FVec F S512x1024 .f32) (v6 v172 v173 v175 v176 : IVec S512x1024 32) (b : Vec F S1x1024 .f32)
    (j : S512x1024.Idx) :
    k0_pay50 v2 v6 v172 v173 v175 v176 b j = Scalar.select (IntOp.cmpi .slt (v6 j) 100000#32)
      (FloatOps.addf (FloatOps.addf (v2 j) (broadcastTo S512x1024 (shapeCast S1x1024 b shapeCasts_S1x1024_S1x1024) broadcasts_S1x1024_S512x1024 j))
        (gumF (IntOp.addi (v173 j) 466689800#32)
          (IntOp.addi (IntOp.addi (IntOp.xori (IntOp.ori (v175 j) (IntOp.shrui .vector (v172 j) (v176 j))) (v173 j)) 0#32) 5#32)))
      (Scalar.ofBits .f32 0xFF800000#32) := rfl

end Generic
/-- On the extended reals, -/
theorem gumF_eq (p q : BitVec 32) : gumF (F := Ideal) p q = gum p q := rfl
/-- a sum is a sum, -/
theorem addf_eq (a b : EReal) : FloatOps.addf (F := Ideal) (φ := .f32) a b = a + b := rfl
/-- and a pattern denotes what it denotes. -/
theorem pattern_eq (b : BitVec 32) : Scalar.ofBits (F := Ideal) .f32 b = Ideal.ofBits .f32 b := rfl

/-- A choice by a signed comparison. -/
theorem select_slt (p q : BitVec 32) (y z : EReal) : Scalar.select (IntOp.cmpi .slt p q) y z = if p.slt q then y else z := by
  unfold Scalar.select IntOp.cmpi
  cases h : p.slt q <;> simp [h]

/-- A score when its words are a threefry pair. -/
theorem pay50_at (v2 : FVec Ideal S512x1024 .f32) (v6 v172 v173 v175 v176 : IVec S512x1024 32) (b : Vec Ideal S1x1024 .f32)
    (r : Fin 512) (l : Fin 1024) (n : BitVec 32)
    (h : (v173 (ix2 r l) + 466689800#32, IntOp.xori (IntOp.ori (v175 (ix2 r l)) (IntOp.shrui .vector (v172 (ix2 r l)) (v176 (ix2 r l)))) (v173 (ix2 r l)) + 0#32 + 5#32) = threefry (0#32, n + 1234#32)) :
    k0_pay50 v2 v6 v172 v173 v175 v176 b (ix2 r l) =
      if (v6 (ix2 r l)).slt 100000#32 then ((v2 (ix2 r l) + b (ix2 0 l) : EReal) + (noise (word n) : EReal)) else ⊥ := by
  rw [pay50_eq, bias_at, gumF_eq, gum_eq, addi_eq, addi_eq, addi_eq, pattern_eq, ofBits_bot, word, ← h, addf_eq, addf_eq, select_slt]

/-- The logits and noise of the tile's element: the tile's score there, when its column lies in the array. -/
def scoreAt (i : grid0.Coords) (x : Vec Ideal S512x2048 .f32) (w : Vec Ideal S2048x1024 .f32) (b : Vec Ideal S1x1024 .f32)
    (r : Fin 512) (l : Fin 1024) : EReal :=
  (((∑ k : Fin 2048, (x (ix2 r k) : EReal) * (w (ix2 k l) : EReal)) + b (ix2 0 l) : EReal)
    + (noise (word (BitVec.ofNat 32 (r.val * 100000 + (1024 * (i 0).val + l.val)))) : EReal))

/-- A small number's word compares as the number. -/
theorem slt_ofNat {n m : ℕ} (hn : n < 2 ^ 31) (hm : m < 2 ^ 31) : (BitVec.ofNat 32 n).slt (BitVec.ofNat 32 m) = decide (n < m) := by
  rw [BitVec.slt, First.toInt_ofNat hn, First.toInt_ofNat hm]
  simp

/-- The tile's score. -/
theorem score_at (i : grid0.Coords) (x : Vec Ideal S512x2048 .f32) (w : Vec Ideal S2048x1024 .f32) (b : Vec Ideal S1x1024 .f32)
    (r : Fin 512) (l : Fin 1024) :
    score i x w b (ix2 r l) = if 1024 * (i 0).val + l.val < 100000 then scoreAt i x w b r l else ⊥ := by
  have hi : (i 0).val < 98 := (i 0).isLt
  have hl := l.isLt
  rw [score, pay50_at (n := BitVec.ofNat 32 (r.val * 100000 + (1024 * (i 0).val + l.val))) (h := (pair i (ix2 r l)).trans (by rw [pay5_at])),
    pay4_at, slt_ofNat (by omega) (by omega), pay3_at]
  simp only [decide_eq_true_eq]
  rfl

/-- A row's maximum over a tile. -/
theorem rowmax_at (S : FVec Ideal S512x1024 .f32) (r : Fin 512) :
    shapeCast S512x1 (multiReduction .maximumf [1] S512 S 0xFF800000#32 reduces_S512x1024_S512 (.inl rfl) rfl) shapeCasts_S512_S512x1 (ix2 r 0)
      = Finset.univ.fold max ⊥ fun l : Fin 1024 => (S (ix2 r l) : EReal) := by
  pointwise
  rw [ofBits_bot]

/-- A row's least word over a tile. -/
theorem rowmin_at (S : IVec S512x1024 32) (r : Fin 512) :
    shapeCast S1x512x1 (shapeCast S512x1 (multiReductionI .minsi [1] S512 S 2147483647#32 reduces_S512x1024_S512 rfl) shapeCasts_S512_S512x1) shapeCasts_S512x1_S1x512x1 (ix3 0 r 0)
      = Finset.univ.fold IntOp.minsi 2147483647#32 fun l : Fin 1024 => S (ix2 r l) := by
  pointwise

/-- A row's maximum over all tiles, at every tile. -/
theorem colmax_at (S : FVec Ideal S98x512x1 .f32) (t : Fin 98) (r : Fin 512) :
    broadcastTo S98x512x1 (shapeCast S1x512x1 (multiReduction .maximumf [0] S512x1 S 0xFF800000#32 reduces_S98x512x1_S512x1 (.inl rfl) rfl) shapeCasts_S512x1_S1x512x1) broadcasts_S1x512x1_S98x512x1 (ix3 t r 0)
      = Finset.univ.fold max ⊥ fun t : Fin 98 => (S (ix3 t r 0) : EReal) := by
  pointwise
  rw [ofBits_bot]

/-- A row's least word over all tiles. -/
theorem colmin_at (S : IVec S98x512x1 32) (r : Fin 512) :
    multiReductionI .minsi [0] S512x1 S 2147483647#32 reduces_S98x512x1_S512x1 rfl (ix2 r 0)
      = Finset.univ.fold IntOp.minsi 2147483647#32 fun t : Fin 98 => S (ix3 t r 0) := by
  pointwise

/-- The row's index, at every column. -/
theorem idxcast_at (S : IVec S512x1 32) (r : Fin 512) (l : Fin 4096) :
    broadcastTo S512x4096 (shapeCast S512x1 S shapeCasts_S512x1_S512x1) broadcasts_S512x1_S512x4096 (ix2 r l) = S (ix2 r 0) := by
  pointwise

/-- A choice by an equality of floats. -/
theorem select_oeq (a b : EReal) (p q : BitVec 32) : Scalar.select (FloatOps.cmpf (F := Ideal) (φ := .f32) .oeq a b) p q = if a = b then p else q := by
  pointwise

/-- A unit axis put in front. -/
theorem cast_at (v : FVec Ideal S512x1 .f32) (r : Fin 512) : shapeCast S1x512x1 v shapeCasts_S512x1_S1x512x1 (ix3 0 r 0) = v (ix2 r 0) := by
  pointwise

/-- The column where a tile attains its row's maximum, the greatest word elsewhere. -/
theorem choose_at (S : FVec Ideal S512x1024 .f32) (C : IVec S512x1024 32) (r : Fin 512) (l : Fin 1024) :
    select (cmpf .oeq S (broadcastTo S512x1024 (shapeCast S512x1 (multiReduction .maximumf [1] S512 S 0xFF800000#32 reduces_S512x1024_S512 (.inl rfl) rfl)
        shapeCasts_S512_S512x1) broadcasts_S512x1_S512x1024)) C (broadcast S512x1024 2147483647#32) (ix2 r l)
      = if (S (ix2 r l) : EReal) = Finset.univ.fold max ⊥ (fun l : Fin 1024 => (S (ix2 r l) : EReal)) then C (ix2 r l) else 2147483647#32 := by
  pointwise
  rw [ofBits_bot]

/-- The tile's maximum, stored. -/
theorem tmax_at (i : grid0.Coords) (x : Vec Ideal S512x2048 .f32) (w : Vec Ideal S2048x1024 .f32) (b : Vec Ideal S1x1024 .f32) (r : Fin 512) :
    tmaxP i x w b (ix3 0 r 0) = Finset.univ.fold max ⊥ fun l : Fin 1024 => (score i x w b (ix2 r l) : EReal) := by
  simp only [tmaxP, k0_pay1, k0_pay51, score]
  exact (cast_at _ r).trans (rowmax_at _ r)

/-- The first column that attains it, stored. -/
theorem targ_at (i : grid0.Coords) (x : Vec Ideal S512x2048 .f32) (w : Vec Ideal S2048x1024 .f32) (b : Vec Ideal S1x1024 .f32) (r : Fin 512) :
    targP i x w b (ix3 0 r 0) = Finset.univ.fold IntOp.minsi 2147483647#32 fun l : Fin 1024 =>
      if (score i x w b (ix2 r l) : EReal) = Finset.univ.fold max ⊥ (fun l : Fin 1024 => (score i x w b (ix2 r l) : EReal))
      then BitVec.ofNat 32 (1024 * (i 0).val + l.val) else 2147483647#32 := by
  simp only [targP, k0_pay2, k0_pay52, k0_pay51, k0_pay53, score]
  refine (rowmin_at _ r).trans (congrArg (fun f => Finset.fold IntOp.minsi 2147483647#32 f Finset.univ) (funext fun l => ?_))
  rw [← pay4_at i r l]
  exact choose_at _ _ r l

/-- The first of all tiles' columns. -/
theorem first_at (X : Vec Ideal S98x512x1 .f32) (Y : Vec Ideal S98x512x1 .i32) (r : Fin 512) :
    k1_pay1 X Y (ix2 r 0) = Finset.univ.fold IntOp.minsi 2147483647#32 fun t : Fin 98 =>
      if (X (ix3 t r 0) : EReal) = Finset.univ.fold max ⊥ (fun t : Fin 98 => (X (ix3 t r 0) : EReal)) then Y (ix3 t r 0) else 2147483647#32 := by
  have hX : shapeCast S98x512x1 X shapeCasts_S98x512x1_S98x512x1 = X := by funext j; idx_vars j; pointwise
  have hY : shapeCast S98x512x1 Y shapeCasts_S98x512x1_S98x512x1 = Y := by funext j; idx_vars j; pointwise
  unfold k1_pay1
  rw [hX, hY]
  refine (colmin_at _ r).trans (congrArg (fun f => Finset.fold IntOp.minsi 2147483647#32 f Finset.univ) (funext fun t => ?_))
  refine Eq.trans ?_ (select_oeq _ _ _ _)
  rw [← colmax_at X t r]
  rfl

/-- The float of an equality's bit. -/
theorem float_bit (p q : BitVec 32) : FloatOps.sitofp (F := Ideal) .f32 ((IntOp.cmpi .eq p q).setWidth 32) = if p = q then (1 : EReal) else 0 := by
  by_cases h : p = q
  · subst h
    rw [if_pos rfl]
    show (((((IntOp.cmpi .eq p p).setWidth 32).toInt : ℝ)) : EReal) = 1
    have : IntOp.cmpi .eq p p = 1#1 := by simp [IntOp.cmpi]
    rw [this]
    norm_num
  · rw [if_neg h]
    show (((((IntOp.cmpi .eq p q).setWidth 32).toInt : ℝ)) : EReal) = 0
    have : IntOp.cmpi .eq p q = 0#1 := by simp [IntOp.cmpi, beq_false_of_ne h]
    rw [this]
    norm_num

/-- The one-hot block: one in the index's column, zero elsewhere. -/
theorem hot_at (i : grid2.Coords) (v : Vec Ideal S512x1 .i32) (r : Fin 512) (l : Fin 4096) :
    k2_pay1 (F := Ideal) i v (ix2 r l) = if BitVec.ofNat 32 (4096 * (i 0).val + l.val) = v (ix2 r 0) then (1 : EReal) else 0 := by
  have hv : BitVec.ofNat 32 (4096 * (i 0).val + l.val) = IntOp.addi (BitVec.ofNat 32 l.val) (Scalar.muli (BitVec.ofNat 32 (i 0).val) 4096#32) := by
    rw [addi_eq, add_comm, mul_comm, BitVec.ofNat_add, BitVec.ofNat_mul]
    rfl
  rw [hv]
  pointwise [k2_pay1]
  exact float_bit _ _

end Cert.KernelIdeal.KerVal
-- ==== Proof.KerRead.lean ====
/-
  What the three calls of `KernelIdeal` leave in the buffers, on the extended reals, element by element.
-/
module

public import proofs.«01_k».proof.Proof.Run
public import proofs.«01_k».proof.Proof.KerVal
public import Idealize.ShloMosaic.Lib.Pipeline.ValueKit

@[expose] public section

set_option maxRecDepth 16384

noncomputable section

namespace Cert.KernelIdeal.KerRead

open Cert.KernelIdeal Cert.KernelIdeal.Gen Cert.KernelIdeal.Tile Cert.KernelIdeal.Calls Cert.KernelIdeal.KerVal
open Idealize.ShloMosaic Idealize.ShloMosaic.TcCoe
open Idealize.ShloMosaic.Pipeline (Dat RDat Cfg Window)

/-- Where the one-hot call's blocks sit. -/
theorem idx2 : ∀ t : Fin cfg2.N, win2_0.index t = ![0, 0] ∧ win2_1.index t = ![0, (grid2.coords t 0).val] :=
  (by decide +kernel : ∀ t : Fin grid2.N, _)

/-- One in each row's index column, zero elsewhere. -/
def hotG (v : S512x1.Idx → BitVec 32) : S512x100000.Idx → EReal := fun i => if BitVec.ofNat 32 (i 1).val = v (ix2 (i 0) 0) then 1 else 0

/-- What the one-hot kernel leaves at a point, -/
theorem after2_1 (V : (c : Dev nD) → (b : Ref sig .tc) → Buf (Elt Ideal) ((c : Thread nD τ).loc b)) (c : Dev nD) (t : Fin cfg2.N) :
    (dat2 (Ix := Unit) (U := UU) (Lvl := ℕ) V c).after 1 t = k2_pay1 (F := Ideal) (grid2.coords t) (blk2 V c 0 t) := by dsimp only [dat2]
/-- from the whole column of indices. -/
theorem blk2_at (V : (c : Dev nD) → (b : Ref sig .tc) → Buf (Elt Ideal) ((c : Thread nD τ).loc b)) (c : Dev nD) (t : Fin cfg2.N) (a : Fin 512) :
    (blk2 V c 0 t : S512x1.Idx → BitVec 32) (ix2 a 0) = V c main_v2 (ix2 a 0) := by
  have e := (idx2 t).1
  show (V c main_v2) ((win2_0.blk t).view.emb (ix2 a 0)) = _
  refine congrArg (V c main_v2) ?_
  blk_ext [e]

/-- So a block's element is the array's element at its place. -/
theorem hot_block (V : (c : Dev nD) → (b : Ref sig .tc) → Buf (Elt Ideal) ((c : Thread nD τ).loc b)) (c : Dev nD) (t : Fin cfg2.N)
    (j : S512x4096.Idx) (i : S512x100000.Idx) (h0 : (j 0).val = (i 0).val) (h1 : 4096 * (grid2.coords t 0).val + (j 1).val = (i 1).val) :
    k2_pay1 (F := Ideal) (grid2.coords t) (blk2 V c 0 t) j = hotG (V c main_v2) i := by
  have e0 : (i 0 : Fin 512) = j 0 := Fin.ext h0.symm
  obtain ⟨a, b, rfl⟩ : ∃ (a : Fin 512) (b : Fin 4096), j = ix2 a b := ⟨_, _, eq_ix2 j⟩
  refine (hot_at _ _ a b).trans ?_
  rw [blk2_at V c t a, show 4096 * (grid2.coords t 0).val + b.val = (i 1).val from h1]
  unfold hotG
  rw [e0]
  rfl

/-- What the one-hot call leaves. -/
theorem hot_read {c : Dev nD} {V V' : Valuation τ sig (Elt Ideal)} (h : CallStep (F := Ideal) 2 c V V') :
    V' (Proc.devRef .tc main_v3) = hotG (V (Proc.devRef .tc main_v2)) := by
  have e := Dat.toR_arrAt (dat2 (Ix := Unit) (U := UU) (Lvl := ℕ) (byRef fun _ => V) c) 1 _ _ (h.1 1)
  refine e.trans (Dat.arrAt_eq_of_covers (dat2 (Ix := Unit) (U := UU) (Lvl := ℕ) (byRef fun _ => V) c) 1 (hotG (V (Proc.devRef .tc main_v2)))
    (by decide +kernel) fun t hf y => ?_)
  have e1 := (idx2 t).2
  rw [after2_1]
  refine hot_block (byRef fun _ => V) c t _ _ ?_ ?_
  · blk_simp [e1]
  · blk_simp [e1]
    exact congrArg (· + (y 1).val) (mul_comm _ _)

/-- The first columns of the rows, from the tiles' maxima and first columns. -/
def firstG (X : S98x512x1.Idx → EReal) (Y : S98x512x1.Idx → BitVec 32) : S512x1.Idx → BitVec 32 := fun i =>
  Finset.univ.fold IntOp.minsi 2147483647#32 fun t : Fin 98 =>
    if X (ix3 t (i 0) 0) = Finset.univ.fold max ⊥ (fun t : Fin 98 => X (ix3 t (i 0) 0)) then Y (ix3 t (i 0) 0) else 2147483647#32

/-- The reduce call's operands' blocks are their arrays whole. -/
theorem idx1 : ∀ t : Fin cfg1.N, win1_0.index t = ![0, 0, 0] ∧ win1_1.index t = ![0, 0, 0] :=
  (by decide +kernel : ∀ t : Fin grid1.N, _)
/-- The reduction's first block is the whole array of the tiles' maxima. -/
theorem blk1_0 (V : (c : Dev nD) → (b : Ref sig .tc) → Buf (Elt Ideal) ((c : Thread nD τ).loc b)) (c : Dev nD) (t : Fin cfg1.N) :
    (blk1 V c 0 t : S98x512x1.Idx → EReal) = V c main_v1_0 := by
  have e := (idx1 t).1
  funext y
  refine (show _ = (V c main_v1_0) ((win1_0.blk t).view.emb y) from rfl).trans (congrArg (V c main_v1_0) ?_)
  blk_ext [e]
/-- The reduction's second block is the whole array of the tiles' first columns. -/
theorem blk1_1 (V : (c : Dev nD) → (b : Ref sig .tc) → Buf (Elt Ideal) ((c : Thread nD τ).loc b)) (c : Dev nD) (t : Fin cfg1.N) :
    (blk1 V c 1 t : S98x512x1.Idx → BitVec 32) = V c main_v1_1 := by
  have e := (idx1 t).2
  funext y
  refine (show _ = (V c main_v1_1) ((win1_1.blk t).view.emb y) from rfl).trans (congrArg (V c main_v1_1) ?_)
  blk_ext [e]

/-- Its result's block is its array whole. -/
theorem idx1_2 : ∀ t : Fin cfg1.N, win1_2.index t = ![0, 0] := (by decide +kernel : ∀ t : Fin grid1.N, _)

/-- What the reduce kernel leaves. -/
theorem first_block (V : (c : Dev nD) → (b : Ref sig .tc) → Buf (Elt Ideal) ((c : Thread nD τ).loc b)) (c : Dev nD) (t : Fin cfg1.N) :
    k1_pay1 (F := Ideal) (blk1 V c 0 t) (blk1 V c 1 t) = firstG (V c main_v1_0) (V c main_v1_1) := by
  refine (congrArg₂ (k1_pay1 (F := Ideal)) (blk1_0 V c t) (blk1_1 V c t)).trans ?_
  funext i
  obtain ⟨a, b, rfl⟩ : ∃ (a : Fin 512) (b : Fin 1), i = ix2 a b := ⟨_, _, eq_ix2 i⟩
  obtain rfl : b = 0 := Subsingleton.elim _ _
  exact first_at _ _ a

/-- So the block's element is the array's element at its place. -/
theorem first_at_place (V : (c : Dev nD) → (b : Ref sig .tc) → Buf (Elt Ideal) ((c : Thread nD τ).loc b)) (c : Dev nD) (t : Fin cfg1.N)
    (j i : S512x1.Idx) (h : ∀ a, (j a).val = (i a).val) :
    k1_pay1 (F := Ideal) (blk1 V c 0 t) (blk1 V c 1 t) j = firstG (V c main_v1_0) (V c main_v1_1) i := by
  obtain rfl : j = i := funext fun a => Fin.ext (h a)
  exact congrFun (first_block V c t) j

/-- What the reduce call leaves. -/
theorem first_read {c : Dev nD} {V V' : Valuation τ sig (Elt Ideal)} (h : CallStep (F := Ideal) 1 c V V') :
    V' (Proc.devRef .tc main_v2) = firstG (V (Proc.devRef .tc main_v1_0)) (V (Proc.devRef .tc main_v1_1)) := by
  have e := Dat.toR_arrAt (dat1 (Ix := Unit) (U := UU) (Lvl := ℕ) (byRef fun _ => V) c) 2 _ _ (h.1 2)
  refine e.trans (Dat.arrAt_eq_of_covers (dat1 (Ix := Unit) (U := UU) (Lvl := ℕ) (byRef fun _ => V) c) 2
    (firstG (V (Proc.devRef .tc main_v1_0)) (V (Proc.devRef .tc main_v1_1))) (by decide +kernel) fun t hf y => ?_)
  have e2 := idx1_2 t
  rw [after1_2]
  have hj := first_at_place (byRef fun _ => V) c t
  generalize k1_pay1 (F := Ideal) (blk1 (byRef fun _ => V) c 0 t) (blk1 (byRef fun _ => V) c 1 t) = P at hj ⊢
  generalize firstG (V (Proc.devRef .tc main_v1_0)) (V (Proc.devRef .tc main_v1_1)) = G at hj ⊢
  refine hj _ _ (Fin.forall_fin_two.mpr ⟨?_, ?_⟩)
  · blk_simp [e2]
  · blk_simp [e2]

/-! ## The tile call -/

/-- Where the tile call's blocks sit. -/
theorem idx0 : ∀ t : Fin cfg0.N, win0_0.index t = ![0, 0] ∧ win0_1.index t = ![0, (grid0.coords t 0).val]
    ∧ win0_2.index t = ![0, (grid0.coords t 0).val] ∧ win0_3.index t = ![(grid0.coords t 0).val, 0, 0] ∧ win0_4.index t = ![(grid0.coords t 0).val, 0, 0] :=
  (by decide +kernel : ∀ t : Fin grid0.N, _)
/-- How much of the clipped blocks lies in their arrays. -/
theorem size0 : ∀ t : Fin cfg0.N, win0_1.xsize (grid0.coords t) 0 = 2048 ∧ win0_1.xsize (grid0.coords t) 1 = min 1024 (100000 - 1024 * (grid0.coords t 0).val)
    ∧ win0_2.xsize (grid0.coords t) 0 = 1 ∧ win0_2.xsize (grid0.coords t) 1 = min 1024 (100000 - 1024 * (grid0.coords t 0).val) :=
  (by decide +kernel : ∀ t : Fin grid0.N, _)

section
variable (V : (c : Dev nD) → (b : Ref sig .tc) → Buf (Elt Ideal) ((c : Thread nD τ).loc b)) (c : Dev nD) (t : Fin cfg0.N)

/-- The block of `x` is `x`. -/
theorem xb_at (r : Fin 512) (k : Fin 2048) : xb V c t (ix2 r k) = V c main_arg0 (ix2 r k) := by
  have e := (idx0 t).1
  refine (show _ = (V c main_arg0) ((win0_0.blk t).view.emb (ix2 r k)) from rfl).trans (congrArg (V c main_arg0) ?_)
  blk_ext [e]
/-- The block of `W`, at a column that lies in the array. -/
theorem wb_at (d : Vec Ideal S2048x1024 .f32) (k : Fin 2048) (l : Fin 1024) (h : 1024 * (grid0.coords t 0).val + l.val < 100000) :
    wb V c t d (ix2 k l) = V c main_arg1 (ix2 k ⟨1024 * (grid0.coords t 0).val + l.val, h⟩) := by
  have e := (idx0 t).2.1
  have hs := size0 t
  have hm : win0_1.moved (grid0.coords t) (ix2 k l) = true := (win0_1.moved_iff _ _).mpr (Fin.forall_fin_two.mpr
    ⟨lt_of_lt_of_eq k.isLt hs.1.symm, lt_of_lt_of_eq (show l.val < min 1024 (100000 - 1024 * (grid0.coords t 0).val) from lt_min l.isLt (by omega)) hs.2.1.symm⟩)
  refine (dif_pos hm).trans ((show _ = (V c main_arg1) ((win0_1.blk t).view.emb fun a => ⟨(ix2 k l a).val, (win0_1.moved_iff _ _).mp hm a⟩) from rfl).trans
    (congrArg (V c main_arg1) ?_))
  blk_ext [e]
/-- The block of `b`, at a column that lies in the array. -/
theorem bb_at (d : Vec Ideal S1x1024 .f32) (l : Fin 1024) (h : 1024 * (grid0.coords t 0).val + l.val < 100000) :
    bb V c t d (ix2 0 l) = V c main_v0 (ix2 0 ⟨1024 * (grid0.coords t 0).val + l.val, h⟩) := by
  have e := (idx0 t).2.2.1
  have hs := size0 t
  have hm : win0_2.moved (grid0.coords t) (ix2 0 l) = true := (win0_2.moved_iff _ _).mpr (Fin.forall_fin_two.mpr
    ⟨lt_of_lt_of_eq (Nat.one_pos) hs.2.2.1.symm, lt_of_lt_of_eq (show l.val < min 1024 (100000 - 1024 * (grid0.coords t 0).val) from lt_min l.isLt (by omega)) hs.2.2.2.symm⟩)
  refine (dif_pos hm).trans ((show _ = (V c main_v0) ((win0_2.blk t).view.emb fun a => ⟨(ix2 (0 : Fin 1) l a).val, (win0_2.moved_iff _ _).mp hm a⟩) from rfl).trans
    (congrArg (V c main_v0) ?_))
  blk_ext [e]

end

/-- Every tile has its point. -/
theorem point_of : ∀ t : Fin 98, ∃ u : Fin cfg0.N, (grid0.coords u 0).val = t.val :=
  (by decide +kernel : ∀ t : Fin 98, ∃ u : Fin grid0.N, (grid0.coords u 0).val = t.val)

/-- A point is known by its coordinate. -/
theorem point_inj : ∀ t t' : Fin cfg0.N, (grid0.coords t 0).val = (grid0.coords t' 0).val → t = t' :=
  (by decide +kernel : ∀ t t' : Fin grid0.N, (grid0.coords t 0).val = (grid0.coords t' 0).val → t = t')

/-- Different points write back different blocks. -/
theorem disj3 : ∀ t t' : Fin cfg0.N, (cfg0.win 3).flush t = true → (cfg0.win 3).flush t' = true → t ≠ t' →
    Disjoint ((cfg0.win 3).blk t).view.set ((cfg0.win 3).blk t').view.set :=
  Window.hdisj_of_index_inj win0_3 fun t t' _ _ e => by
    rw [(idx0 t).2.2.2.1, (idx0 t').2.2.2.1] at e
    exact point_inj t t' (congrFun e 0)
/-- The blocks the tile kernel flushes through its last window do not overlap. -/
theorem disj4 : ∀ t t' : Fin cfg0.N, (cfg0.win 4).flush t = true → (cfg0.win 4).flush t' = true → t ≠ t' →
    Disjoint ((cfg0.win 4).blk t).view.set ((cfg0.win 4).blk t').view.set :=
  Window.hdisj_of_index_inj win0_4 fun t t' _ _ e => by
    rw [(idx0 t).2.2.2.2, (idx0 t').2.2.2.2] at e
    exact point_inj t t' (congrFun e 0)

/-- What the tile call leaves: at every point, for some words past the blocks' edges, the tile's maxima, -/
theorem tmax_read {c : Dev nD} {V V' : Valuation τ sig (Elt Ideal)} (h : CallStep (F := Ideal) 0 c V V') (u : Fin cfg0.N) :
    ∃ d1 d2, ∀ r : Fin 512, V' (Proc.devRef .tc main_v1_0) (ix3 (grid0.coords u 0 : Fin 98) r 0)
      = tmaxP (F := Ideal) (grid0.coords u) (xb (byRef fun _ => V) c u) (wb (byRef fun _ => V) c u d1) (bb (byRef fun _ => V) c u d2) (ix3 0 r 0) := by
  obtain ⟨after, hL, hE⟩ := RDat.ArrAt.exists_exact_all h.1
  obtain ⟨d1, d2, hd⟩ := Dat.toRRel_leaves (fgt := fgt0) (w := 3) _ rfl (hL 3 u u.isLt (flush0_3 u))
  refine ⟨d1, d2, fun r => ?_⟩
  have e := (congrFun (hE 3) (((cfg0.win 3).blk u).view.emb (ix3 0 r 0))).trans (Dat.arrAt_emb_eq_flushed _ 3 disj3 u (flush0_3 u) (ix3 0 r 0))
  have e3 := (idx0 u).2.2.2.1
  have hp : (win0_3.blk u).view.emb (ix3 0 r 0) = (ix3 (grid0.coords u 0 : Fin 98) r 0 : S98x512x1.Idx) := by blk_ext [e3]
  refine (congrArg (V' (Proc.devRef .tc main_v1_0)) hp.symm).trans (e.trans ?_)
  exact congrFun hd (ix3 0 r 0)

/-- and the first columns that attain them. -/
theorem targ_read {c : Dev nD} {V V' : Valuation τ sig (Elt Ideal)} (h : CallStep (F := Ideal) 0 c V V') (u : Fin cfg0.N) :
    ∃ d1 d2, ∀ r : Fin 512, V' (Proc.devRef .tc main_v1_1) (ix3 (grid0.coords u 0 : Fin 98) r 0)
      = targP (F := Ideal) (grid0.coords u) (xb (byRef fun _ => V) c u) (wb (byRef fun _ => V) c u d1) (bb (byRef fun _ => V) c u d2) (ix3 0 r 0) := by
  obtain ⟨after, hL, hE⟩ := RDat.ArrAt.exists_exact_all h.1
  obtain ⟨d1, d2, hd⟩ := Dat.toRRel_leaves (fgt := fgt0) (w := 4) _ rfl (hL 4 u u.isLt (flush0_4 u))
  refine ⟨d1, d2, fun r => ?_⟩
  have e := (congrFun (hE 4) (((cfg0.win 4).blk u).view.emb (ix3 0 r 0))).trans (Dat.arrAt_emb_eq_flushed _ 4 disj4 u (flush0_4 u) (ix3 0 r 0))
  have e4 := (idx0 u).2.2.2.2
  have hp : (win0_4.blk u).view.emb (ix3 0 r 0) = (ix3 (grid0.coords u 0 : Fin 98) r 0 : S98x512x1.Idx) := by blk_ext [e4]
  refine (congrArg (V' (Proc.devRef .tc main_v1_1)) hp.symm).trans (e.trans ?_)
  exact congrFun hd (ix3 0 r 0)

/-! ## The three calls together -/

/-- The score of a row and a column: product plus bias plus noise. -/
def total (x : S512x2048.Idx → EReal) (W : S2048x100000.Idx → EReal) (b : S1x100000.Idx → EReal) (r : Fin 512) (q : Fin 100000) : EReal :=
  ((∑ k : Fin 2048, x (ix2 r k) * W (ix2 k q)) + b (ix2 0 q)) + (Word.noise (Word.word (BitVec.ofNat 32 (r.val * 100000 + q.val))) : EReal)

/-- The score of a tile's row and column, minus infinity past the last column. -/
def tiled (x : S512x2048.Idx → EReal) (W : S2048x100000.Idx → EReal) (b : S1x100000.Idx → EReal) (r : Fin 512) (t : Fin 98) (l : Fin 1024) : EReal :=
  if h : 1024 * t.val + l.val < 100000 then total x W b r ⟨1024 * t.val + l.val, h⟩ else ⊥

/-- The tile kernel's score at a point is the tile's score, whatever lies past the blocks' edges. -/
theorem score_tiled (V : (c : Dev nD) → (b : Ref sig .tc) → Buf (Elt Ideal) ((c : Thread nD τ).loc b)) (c : Dev nD) (u : Fin cfg0.N) (t : Fin 98)
    (ht : (grid0.coords u 0).val = t.val) (d1 : Vec Ideal S2048x1024 .f32) (d2 : Vec Ideal S1x1024 .f32) (r : Fin 512) (l : Fin 1024) :
    (score (F := Ideal) (grid0.coords u) (xb V c u) (wb V c u d1) (bb V c u d2) (ix2 r l) : EReal)
      = tiled (V c main_arg0) (V c main_arg1) (V c main_v0) r t l := by
  rw [score_at, ht]
  unfold tiled
  by_cases h : 1024 * t.val + l.val < 100000
  · rw [if_pos h, dif_pos h]
    have h' : 1024 * (grid0.coords u 0).val + l.val < 100000 := by rw [ht]; exact h
    unfold scoreAt total
    rw [bb_at V c u d2 l h', Finset.sum_congr rfl fun k _ => by rw [xb_at V c u r k, wb_at V c u d1 k l h']]
    simp only [ht]
  · rw [if_neg h, dif_neg h]

/-- What the tile call leaves, tile by tile: the maximum, -/
theorem tmax_tiled {c : Dev nD} {V V' : Valuation τ sig (Elt Ideal)} (h : CallStep (F := Ideal) 0 c V V') (t : Fin 98) (r : Fin 512) :
    V' (Proc.devRef .tc main_v1_0) (ix3 t r 0)
      = First.tileMax (tiled (V (Proc.devRef .tc main_arg0)) (V (Proc.devRef .tc main_arg1)) (V (Proc.devRef .tc main_v0)) r) t := by
  obtain ⟨u, hu⟩ := point_of t
  obtain ⟨d1, d2, hd⟩ := tmax_read h u
  have ht : (grid0.coords u 0 : Fin 98) = t := Fin.ext hu
  rw [ht] at hd
  refine (hd r).trans ((tmax_at _ _ _ _ r).trans ?_)
  exact congrArg (fun f => Finset.fold max ⊥ f Finset.univ) (funext fun l => score_tiled (byRef fun _ => V) c u t hu d1 d2 r l)

/-- and the first column that attains it. -/
theorem targ_tiled {c : Dev nD} {V V' : Valuation τ sig (Elt Ideal)} (h : CallStep (F := Ideal) 0 c V V') (t : Fin 98) (r : Fin 512) :
    V' (Proc.devRef .tc main_v1_1) (ix3 t r 0)
      = First.tileArg (tiled (V (Proc.devRef .tc main_arg0)) (V (Proc.devRef .tc main_arg1)) (V (Proc.devRef .tc main_v0)) r) t := by
  obtain ⟨u, hu⟩ := point_of t
  obtain ⟨d1, d2, hd⟩ := targ_read h u
  have ht : (grid0.coords u 0 : Fin 98) = t := Fin.ext hu
  rw [ht] at hd
  refine (hd r).trans ((targ_at _ _ _ _ r).trans ?_)
  have hs := fun l => score_tiled (byRef fun _ => V) c u t hu d1 d2 r l
  simp only [hs, hu]
  rfl

/-- After the three calls the result's element is one in the first column that attains its row's maximum, zero elsewhere. -/
theorem hot_total {c : Dev nD} {V0 V1 V2 V3 : Valuation τ sig (Elt Ideal)} (h0 : CallStep (F := Ideal) 0 c V0 V1) (h1 : CallStep (F := Ideal) 1 c V1 V2)
    (h2 : CallStep (F := Ideal) 2 c V2 V3) (r : Fin 512) (q : Fin 100000)
    (hs : ∀ p, total (V0 (Proc.devRef .tc main_arg0)) (V0 (Proc.devRef .tc main_arg1)) (V0 (Proc.devRef .tc main_v0)) r p ≠ ⊥) (f : Fin 100000)
    (hf : First.IsFirst (total (V0 (Proc.devRef .tc main_arg0)) (V0 (Proc.devRef .tc main_arg1)) (V0 (Proc.devRef .tc main_v0)) r) f) :
    V3 (Proc.devRef .tc main_v3) (ix2 r q) = if q = f then (1 : EReal) else 0 := by
  rw [hot_read h2, first_read h1]
  have e : firstG (V1 (Proc.devRef .tc main_v1_0)) (V1 (Proc.devRef .tc main_v1_1)) (ix2 r 0) = BitVec.ofNat 32 f.val := by
    refine Eq.trans ?_ (First.rowArg_eq _ (tiled (V0 (Proc.devRef .tc main_arg0)) (V0 (Proc.devRef .tc main_arg1)) (V0 (Proc.devRef .tc main_v0)) r)
      (fun t l => rfl) hs f hf)
    have ha := fun t => tmax_tiled h0 t r
    have hb := fun t => targ_tiled h0 t r
    show (Finset.univ.fold IntOp.minsi 2147483647#32 fun t : Fin 98 => _) = _
    simp only [ha, hb, ix2_0]
    rfl
  unfold hotG
  have e' : firstG (V1 (Proc.devRef .tc main_v1_0)) (V1 (Proc.devRef .tc main_v1_1)) (ix2 (ix2 r q 0) 0) = BitVec.ofNat 32 f.val := e
  rw [e']
  have hiff : (BitVec.ofNat 32 (ix2 r q 1 : Fin 100000).val = BitVec.ofNat 32 f.val) ↔ q = f := by
    constructor
    · intro hq
      have hq' := congrArg BitVec.toNat hq
      rw [BitVec.toNat_ofNat, BitVec.toNat_ofNat] at hq'
      have h1 := q.isLt
      have h2 := f.isLt
      have h3 : (ix2 r q 1 : Fin 100000).val = q.val := rfl
      apply Fin.ext
      omega
    · rintro rfl
      rfl
  by_cases hq : q = f
  · rw [if_pos hq]
    exact if_pos (hiff.mpr hq)
  · rw [if_neg hq]
    exact if_neg fun h => hq (hiff.mp h)

end Cert.KernelIdeal.KerRead
-- ==== Proof.RefEqs.lean ====
/-
  The reference's equations: what each buffer of its straight line holds at the end, from what the operation that writes it reads. The
  threefry rounds and injections are read nine and seven operations at a time.
-/
module

public import proofs.«01_k».proof.Proof.RefOps
public import proofs.«01_k».proof.Proof.Word

@[expose] public section

set_option maxRecDepth 65536

noncomputable section

namespace Cert.ReferenceIdeal.Eqs

open Cert.ReferenceIdeal Cert.ReferenceIdeal.Line Cert.Line Cert.Word
open Idealize.ShloMosaic Idealize.ShloMosaic.StableHlo Idealize.SL.Sem

variable {F : FTy → Type} [FloatOps F] [Facts]
open Facts₀ Facts

/-- What a buffer holds after the line. -/
@[irreducible] def val (W : Valuation τ sig (Elt F)) {T : BufTy} (t : TRef sig T) : T.Contents (Elt F) := rd (after ops W) t

variable (W : Valuation τ sig (Elt F))

/-! ## Rounds and injections -/

/-- An operation of a stretch of the line is an operation of the line. -/
theorem get_of {k n : ℕ} {s : List (HloOp τ sig (Elt F))} (h : ((ops (F := F)).drop k).take n = s) (hn : s.length = n) (j : ℕ) {x : HloOp τ sig (Elt F)}
    (hj : s[j]? = some x) : (ops (F := F))[k + j]? = some x :=
  getElem?_of_stretch (by rw [hn]; exact h) hj

/-- Nine operations that make a round: the sum, the two shifts of the second word joined, and the sum mixed in. -/
theorem round_at (k r : ℕ) {a b a' cb s cb' s' o b' : TRef sig ⟨S512x100000, .i32⟩} {c c' : TRef sig ⟨S_, .i32⟩}
    (h : ((ops (F := F)).drop k).take 9 = [TRef.binary a b a' addi, TRef.nullary c (constantI S_ 32 (BitVec.ofNat 32 r)),
      TRef.unary c cb (broadcastInDim S512x100000 ![] bcast_S_S512x100000), TRef.binary b cb s Host.shli,
      TRef.nullary c' (constantI S_ 32 (BitVec.ofNat 32 (32 - r))), TRef.unary c' cb' (broadcastInDim S512x100000 ![] bcast_S_S512x100000),
      TRef.binary b cb' s' Host.shrui, TRef.binary s s' o ori, TRef.binary a' o b' xori])
    (hn : num a.ref < 3 + k ∧ num b.ref < 3 + k ∧ num a'.ref = 3 + k ∧ num c.ref = 3 + (k + 1) ∧ num cb.ref = 3 + (k + 2) ∧ num s.ref = 3 + (k + 3)
      ∧ num c'.ref = 3 + (k + 4) ∧ num cb'.ref = 3 + (k + 5) ∧ num s'.ref = 3 + (k + 6) ∧ num o.ref = 3 + (k + 7) ∧ num b'.ref = 3 + (k + 8))
    (h0 : 0 < r) (h32 : r < 32) (i : S512x100000.Idx) :
    ((val W a' i, val W b' i) : BitVec 32 × BitVec 32) = mix r (val W a i, val W b i) := by
  obtain ⟨ha, hb, h₀, h₁, h₂, h₃, h₄, h₅, h₆, h₇, h₈⟩ := hn
  have g := fun j x => get_of h rfl j (x := x)
  have e0 := binary_at ops_inOrder W k (g 0 _ rfl) h₀ ha hb
  have e1 := nullary_at ops_inOrder W (k + 1) (g 1 _ rfl) h₁
  have e2 := unary_at ops_inOrder W (k + 2) (g 2 _ rfl) h₂ (by omega)
  have e3 := binary_at ops_inOrder W (k + 3) (g 3 _ rfl) h₃ (by omega) (by omega)
  have e4 := nullary_at ops_inOrder W (k + 4) (g 4 _ rfl) h₄
  have e5 := unary_at ops_inOrder W (k + 5) (g 5 _ rfl) h₅ (by omega)
  have e6 := binary_at ops_inOrder W (k + 6) (g 6 _ rfl) h₆ (by omega) (by omega)
  have e7 := binary_at ops_inOrder W (k + 7) (g 7 _ rfl) h₇ (by omega) (by omega)
  have e8 := binary_at ops_inOrder W (k + 8) (g 8 _ rfl) h₈ (by omega) (by omega)
  unfold val
  rw [e8, e7, e6, e5, e4, e3, e2, e1, e0]
  generalize rd (after ops W) a = x
  generalize rd (after ops W) b = y
  refine Prod.ext rfl ?_
  have hr := rot_eq .host (y i) r h0 h32
  show (x i + y i) ^^^ IntOp.ori (IntOp.shli .host (y i) (BitVec.ofNat 32 r)) (IntOp.shrui .host (y i) (BitVec.ofNat 32 (32 - r))) = rot r (y i) ^^^ (x i + y i)
  rw [hr, BitVec.xor_comm]

/-- Seven operations that inject two words of the key and a group's number. -/
theorem inj_at (k n : ℕ) {p q : BitVec 32} {a b kb a' lb b' nb b'' : TRef sig ⟨S512x100000, .i32⟩} {key key' c : TRef sig ⟨S_, .i32⟩}
    (h : ((ops (F := F)).drop k).take 7 = [TRef.unary key kb (broadcastInDim S512x100000 ![] bcast_S_S512x100000), TRef.binary a kb a' addi,
      TRef.unary key' lb (broadcastInDim S512x100000 ![] bcast_S_S512x100000), TRef.binary b lb b' addi,
      TRef.nullary c (constantI S_ 32 (BitVec.ofNat 32 n)), TRef.unary c nb (broadcastInDim S512x100000 ![] bcast_S_S512x100000),
      TRef.binary b' nb b'' addi])
    (hn : num a.ref < 3 + k ∧ num b.ref < 3 + k ∧ num key.ref < 3 + k ∧ num key'.ref < 3 + k ∧ num kb.ref = 3 + k ∧ num a'.ref = 3 + (k + 1)
      ∧ num lb.ref = 3 + (k + 2) ∧ num b'.ref = 3 + (k + 3) ∧ num c.ref = 3 + (k + 4) ∧ num nb.ref = 3 + (k + 5) ∧ num b''.ref = 3 + (k + 6))
    (hp : val W key = constantI S_ 32 p) (hq : val W key' = constantI S_ 32 q) (i : S512x100000.Idx) :
    ((val W a' i, val W b'' i) : BitVec 32 × BitVec 32) = inj p q (BitVec.ofNat 32 n) (val W a i, val W b i) := by
  obtain ⟨ha, hb, hk, hk', h₀, h₁, h₂, h₃, h₄, h₅, h₆⟩ := hn
  have g := fun j x => get_of h rfl j (x := x)
  have e0 := unary_at ops_inOrder W k (g 0 _ rfl) h₀ hk
  have e1 := binary_at ops_inOrder W (k + 1) (g 1 _ rfl) h₁ (by omega) (by omega)
  have e2 := unary_at ops_inOrder W (k + 2) (g 2 _ rfl) h₂ (by omega)
  have e3 := binary_at ops_inOrder W (k + 3) (g 3 _ rfl) h₃ (by omega) (by omega)
  have e4 := nullary_at ops_inOrder W (k + 4) (g 4 _ rfl) h₄
  have e5 := unary_at ops_inOrder W (k + 5) (g 5 _ rfl) h₅ (by omega)
  have e6 := binary_at ops_inOrder W (k + 6) (g 6 _ rfl) h₆ (by omega) (by omega)
  unfold val at hp hq ⊢
  rw [e6, e5, e4, e3, e2, e1, e0, hp, hq]
  rfl

/-! ## The other operations -/

/-- What `m_v0` holds. -/
theorem at_m_v0 : val W m_v0 = (fun l r => Host.dotGeneral dot_S512x2048_S2048x100000_S512x100000_1_0_0_1_n_n none l r) (val W m_arg0) (val W m_arg1) := by
  unfold val
  exact binary_at ops_inOrder W 0 rfl rfl (by decide) (by decide)

/-- What `m_v1` holds. -/
theorem at_m_v1 : val W m_v1 = (broadcastInDim S1x100000 ![1] bcast_S100000_S1x100000_1) (val W m_arg2) := by
  unfold val
  exact unary_at ops_inOrder W 1 rfl rfl (by decide)

/-- What `m_v2` holds. -/
theorem at_m_v2 : val W m_v2 = (broadcastInDim S512x100000 ![0, 1] bcast_S1x100000_S512x100000_0_1) (val W m_v1) := by
  unfold val
  exact unary_at ops_inOrder W 2 rfl rfl (by decide)

/-- What `m_v3` holds. -/
theorem at_m_v3 : val W m_v3 = addf (val W m_v0) (val W m_v2) := by
  unfold val
  exact binary_at ops_inOrder W 3 rfl rfl (by decide) (by decide)

/-- What `m_c` holds. -/
theorem at_m_c : val W m_c = (constantI S_ 32 1234#32) := by
  unfold val
  exact nullary_at ops_inOrder W 4 rfl rfl

/-- What `m_c_0` holds. -/
theorem at_m_c_0 : val W m_c_0 = (constantI S_ 32 32#32) := by
  unfold val
  exact nullary_at ops_inOrder W 5 rfl rfl

/-- What `m_v4` holds. -/
theorem at_m_v4 : val W m_v4 = Host.shrui (val W m_c) (val W m_c_0) := by
  unfold val
  exact binary_at ops_inOrder W 6 rfl rfl (by decide) (by decide)

/-- What `m_v5` holds. -/
theorem at_m_v5 : val W m_v5 = id (val W m_v4) := by
  unfold val
  exact unary_at ops_inOrder W 7 rfl rfl (by decide)

/-- What `m_v6` holds. -/
theorem at_m_v6 : val W m_v6 = (broadcastInDim S1 ![] bcast_S_S1) (val W m_v5) := by
  unfold val
  exact unary_at ops_inOrder W 8 rfl rfl (by decide)

/-- What `m_c_1` holds. -/
theorem at_m_c_1 : val W m_c_1 = (constantI S_ 32 4294967295#32) := by
  unfold val
  exact nullary_at ops_inOrder W 9 rfl rfl

/-- What `m_v7` holds. -/
theorem at_m_v7 : val W m_v7 = andi (val W m_c) (val W m_c_1) := by
  unfold val
  exact binary_at ops_inOrder W 10 rfl rfl (by decide) (by decide)

/-- What `m_v8` holds. -/
theorem at_m_v8 : val W m_v8 = id (val W m_v7) := by
  unfold val
  exact unary_at ops_inOrder W 11 rfl rfl (by decide)

/-- What `m_v9` holds. -/
theorem at_m_v9 : val W m_v9 = (broadcastInDim S1 ![] bcast_S_S1) (val W m_v8) := by
  unfold val
  exact unary_at ops_inOrder W 12 rfl rfl (by decide)

/-- What `m_v10` holds. -/
theorem at_m_v10 : val W m_v10 = (fun a b => concatenate S2 0 [⟨S1, a⟩, ⟨S1, b⟩] concatenates_S1_S1_S2_d0) (val W m_v6) (val W m_v9) := by
  unfold val
  exact binary_at ops_inOrder W 13 rfl rfl (by decide) (by decide)

/-- What `m_cst` holds. -/
theorem at_m_cst : val W m_cst = (constant S_ .f32 0x00000000#32) := by
  unfold val
  exact nullary_at ops_inOrder W 14 rfl rfl

/-- What `m_cst_2` holds. -/
theorem at_m_cst_2 : val W m_cst_2 = (constant S_ .f32 0x3F800000#32) := by
  unfold val
  exact nullary_at ops_inOrder W 15 rfl rfl

/-- What `u_v0` holds. -/
theorem at_u_v0 : val W u_v0 = id (val W m_cst) := by
  unfold val
  exact unary_at ops_inOrder W 16 rfl rfl (by decide)

/-- What `u_v1` holds. -/
theorem at_u_v1 : val W u_v1 = id (val W m_cst_2) := by
  unfold val
  exact unary_at ops_inOrder W 17 rfl rfl (by decide)

/-- What `u_v2` holds. -/
theorem at_u_v2 : val W u_v2 = (broadcastInDim S1x1 ![] bcast_S_S1x1) (val W u_v0) := by
  unfold val
  exact unary_at ops_inOrder W 18 rfl rfl (by decide)

/-- What `u_v3` holds. -/
theorem at_u_v3 : val W u_v3 = (broadcastInDim S1x1 ![] bcast_S_S1x1) (val W u_v1) := by
  unfold val
  exact unary_at ops_inOrder W 19 rfl rfl (by decide)

/-- What `u_v4` holds. -/
theorem at_u_v4 : val W u_v4 = (extractStridedSlice S1 ![0] · slices_S2_S1_0) (val W m_v10) := by
  unfold val
  exact unary_at ops_inOrder W 20 rfl rfl (by decide)

/-- What `u_v5` holds. -/
theorem at_u_v5 : val W u_v5 = shapeCast S_ (val W u_v4) shapeCasts_S1_S_ := by
  unfold val
  exact reshape_at ops_inOrder W 21 rfl rfl (by decide)

/-- What `u_v6` holds. -/
theorem at_u_v6 : val W u_v6 = (extractStridedSlice S1 ![1] · slices_S2_S1_1) (val W m_v10) := by
  unfold val
  exact unary_at ops_inOrder W 22 rfl rfl (by decide)

/-- What `u_v7` holds. -/
theorem at_u_v7 : val W u_v7 = shapeCast S_ (val W u_v6) shapeCasts_S1_S_ := by
  unfold val
  exact reshape_at ops_inOrder W 23 rfl rfl (by decide)

/-- What `u_v8` holds. -/
theorem at_u_v8 : val W u_v8 = (iotaInDim S512x100000 64 0) := by
  unfold val
  exact nullary_at ops_inOrder W 24 rfl rfl

/-- What `u_v9` holds. -/
theorem at_u_v9 : val W u_v9 = (iotaInDim S512x100000 64 1) := by
  unfold val
  exact nullary_at ops_inOrder W 25 rfl rfl

/-- What `u_c` holds. -/
theorem at_u_c : val W u_c = (constantI S_ 64 100000#64) := by
  unfold val
  exact nullary_at ops_inOrder W 26 rfl rfl

/-- What `u_v10` holds. -/
theorem at_u_v10 : val W u_v10 = (broadcastInDim S512x100000 ![] bcast_S_S512x100000) (val W u_c) := by
  unfold val
  exact unary_at ops_inOrder W 27 rfl rfl (by decide)

/-- What `u_v11` holds. -/
theorem at_u_v11 : val W u_v11 = muli (val W u_v10) (val W u_v8) := by
  unfold val
  exact binary_at ops_inOrder W 28 rfl rfl (by decide) (by decide)

/-- What `u_c_0` holds. -/
theorem at_u_c_0 : val W u_c_0 = (constantI S_ 64 1#64) := by
  unfold val
  exact nullary_at ops_inOrder W 29 rfl rfl

/-- What `u_v12` holds. -/
theorem at_u_v12 : val W u_v12 = (broadcastInDim S512x100000 ![] bcast_S_S512x100000) (val W u_c_0) := by
  unfold val
  exact unary_at ops_inOrder W 30 rfl rfl (by decide)

/-- What `u_v13` holds. -/
theorem at_u_v13 : val W u_v13 = muli (val W u_v12) (val W u_v9) := by
  unfold val
  exact binary_at ops_inOrder W 31 rfl rfl (by decide) (by decide)

/-- What `u_v14` holds. -/
theorem at_u_v14 : val W u_v14 = addi (val W u_v11) (val W u_v13) := by
  unfold val
  exact binary_at ops_inOrder W 32 rfl rfl (by decide) (by decide)

/-- What `u_c_1` holds. -/
theorem at_u_c_1 : val W u_c_1 = (constantI S_ 64 32#64) := by
  unfold val
  exact nullary_at ops_inOrder W 33 rfl rfl

/-- What `u_v15` holds. -/
theorem at_u_v15 : val W u_v15 = (broadcastInDim S512x100000 ![] bcast_S_S512x100000) (val W u_c_1) := by
  unfold val
  exact unary_at ops_inOrder W 34 rfl rfl (by decide)

/-- What `u_v16` holds. -/
theorem at_u_v16 : val W u_v16 = Host.shrui (val W u_v14) (val W u_v15) := by
  unfold val
  exact binary_at ops_inOrder W 35 rfl rfl (by decide) (by decide)

/-- What `u_v17` holds. -/
theorem at_u_v17 : val W u_v17 = (trunci 32 · natLt_32_64) (val W u_v14) := by
  unfold val
  exact unary_at ops_inOrder W 36 rfl rfl (by decide)

/-- What `u_v18` holds. -/
theorem at_u_v18 : val W u_v18 = (trunci 32 · natLt_32_64) (val W u_v16) := by
  unfold val
  exact unary_at ops_inOrder W 37 rfl rfl (by decide)

/-- What `t_v0` holds. -/
theorem at_t_v0 : val W t_v0 = xori (val W u_v5) (val W u_v7) := by
  unfold val
  exact binary_at ops_inOrder W 38 rfl rfl (by decide) (by decide)

/-- What `t_c` holds. -/
theorem at_t_c : val W t_c = (constantI S_ 32 466688986#32) := by
  unfold val
  exact nullary_at ops_inOrder W 39 rfl rfl

/-- What `t_v1` holds. -/
theorem at_t_v1 : val W t_v1 = xori (val W t_v0) (val W t_c) := by
  unfold val
  exact binary_at ops_inOrder W 40 rfl rfl (by decide) (by decide)

/-- What `t_v2` holds. -/
theorem at_t_v2 : val W t_v2 = (broadcastInDim S512x100000 ![] bcast_S_S512x100000) (val W u_v5) := by
  unfold val
  exact unary_at ops_inOrder W 41 rfl rfl (by decide)

/-- What `t_v3` holds. -/
theorem at_t_v3 : val W t_v3 = addi (val W u_v18) (val W t_v2) := by
  unfold val
  exact binary_at ops_inOrder W 42 rfl rfl (by decide) (by decide)

/-- What `t_v4` holds. -/
theorem at_t_v4 : val W t_v4 = (broadcastInDim S512x100000 ![] bcast_S_S512x100000) (val W u_v7) := by
  unfold val
  exact unary_at ops_inOrder W 43 rfl rfl (by decide)

/-- What `t_v5` holds. -/
theorem at_t_v5 : val W t_v5 = addi (val W u_v17) (val W t_v4) := by
  unfold val
  exact binary_at ops_inOrder W 44 rfl rfl (by decide) (by decide)

/-- What `u_v20` holds. -/
theorem at_u_v20 : val W u_v20 = xori (val W u_v19_0) (val W u_v19_1) := by
  unfold val
  exact binary_at ops_inOrder W 260 rfl rfl (by decide) (by decide)

/-- What `u_c_2` holds. -/
theorem at_u_c_2 : val W u_c_2 = (constantI S_ 32 9#32) := by
  unfold val
  exact nullary_at ops_inOrder W 261 rfl rfl

/-- What `u_v21` holds. -/
theorem at_u_v21 : val W u_v21 = (broadcastInDim S512x100000 ![] bcast_S_S512x100000) (val W u_c_2) := by
  unfold val
  exact unary_at ops_inOrder W 262 rfl rfl (by decide)

/-- What `u_v22` holds. -/
theorem at_u_v22 : val W u_v22 = Host.shrui (val W u_v20) (val W u_v21) := by
  unfold val
  exact binary_at ops_inOrder W 263 rfl rfl (by decide) (by decide)

/-- What `u_c_3` holds. -/
theorem at_u_c_3 : val W u_c_3 = (constantI S_ 32 1065353216#32) := by
  unfold val
  exact nullary_at ops_inOrder W 264 rfl rfl

/-- What `u_v23` holds. -/
theorem at_u_v23 : val W u_v23 = (broadcastInDim S512x100000 ![] bcast_S_S512x100000) (val W u_c_3) := by
  unfold val
  exact unary_at ops_inOrder W 265 rfl rfl (by decide)

/-- What `u_v24` holds. -/
theorem at_u_v24 : val W u_v24 = ori (val W u_v22) (val W u_v23) := by
  unfold val
  exact binary_at ops_inOrder W 266 rfl rfl (by decide) (by decide)

/-- What `u_v25` holds. -/
theorem at_u_v25 : val W u_v25 = (bitcastToFloat .f32) (val W u_v24) := by
  unfold val
  exact unary_at ops_inOrder W 267 rfl rfl (by decide)

/-- What `u_cst` holds. -/
theorem at_u_cst : val W u_cst = (constant S_ .f32 0x3F800000#32) := by
  unfold val
  exact nullary_at ops_inOrder W 268 rfl rfl

/-- What `u_v26` holds. -/
theorem at_u_v26 : val W u_v26 = (broadcastInDim S512x100000 ![] bcast_S_S512x100000) (val W u_cst) := by
  unfold val
  exact unary_at ops_inOrder W 269 rfl rfl (by decide)

/-- What `u_v27` holds. -/
theorem at_u_v27 : val W u_v27 = subf (val W u_v25) (val W u_v26) := by
  unfold val
  exact binary_at ops_inOrder W 270 rfl rfl (by decide) (by decide)

/-- What `u_v28` holds. -/
theorem at_u_v28 : val W u_v28 = subf (val W u_v3) (val W u_v2) := by
  unfold val
  exact binary_at ops_inOrder W 271 rfl rfl (by decide) (by decide)

/-- What `u_v29` holds. -/
theorem at_u_v29 : val W u_v29 = (broadcastInDim S512x100000 ![0, 1] bcast_S1x1_S512x100000_0_1) (val W u_v28) := by
  unfold val
  exact unary_at ops_inOrder W 272 rfl rfl (by decide)

/-- What `u_v30` holds. -/
theorem at_u_v30 : val W u_v30 = mulf (val W u_v27) (val W u_v29) := by
  unfold val
  exact binary_at ops_inOrder W 273 rfl rfl (by decide) (by decide)

/-- What `u_v31` holds. -/
theorem at_u_v31 : val W u_v31 = (broadcastInDim S512x100000 ![0, 1] bcast_S1x1_S512x100000_0_1) (val W u_v2) := by
  unfold val
  exact unary_at ops_inOrder W 274 rfl rfl (by decide)

/-- What `u_v32` holds. -/
theorem at_u_v32 : val W u_v32 = addf (val W u_v30) (val W u_v31) := by
  unfold val
  exact binary_at ops_inOrder W 275 rfl rfl (by decide) (by decide)

/-- What `u_v33` holds. -/
theorem at_u_v33 : val W u_v33 = (broadcastInDim S512x100000 ![0, 1] bcast_S1x1_S512x100000_0_1) (val W u_v2) := by
  unfold val
  exact unary_at ops_inOrder W 276 rfl rfl (by decide)

/-- What `m_v11` holds. -/
theorem at_m_v11 : val W m_v11 = maximumf (val W u_v33) (val W u_v32) := by
  unfold val
  exact binary_at ops_inOrder W 277 rfl rfl (by decide) (by decide)

/-- What `m_cst_3` holds. -/
theorem at_m_cst_3 : val W m_cst_3 = (constant S_ .f32 0x00800000#32) := by
  unfold val
  exact nullary_at ops_inOrder W 278 rfl rfl

/-- What `m_v12` holds. -/
theorem at_m_v12 : val W m_v12 = (broadcastInDim S512x100000 ![] bcast_S_S512x100000) (val W m_cst_3) := by
  unfold val
  exact unary_at ops_inOrder W 279 rfl rfl (by decide)

/-- What `m_v13` holds. -/
theorem at_m_v13 : val W m_v13 = addf (val W m_v11) (val W m_v12) := by
  unfold val
  exact binary_at ops_inOrder W 280 rfl rfl (by decide) (by decide)

/-- What `m_cst_4` holds. -/
theorem at_m_cst_4 : val W m_cst_4 = (constant S_ .f32 0x00800000#32) := by
  unfold val
  exact nullary_at ops_inOrder W 281 rfl rfl

/-- What `m_v14` holds. -/
theorem at_m_v14 : val W m_v14 = (broadcastInDim S512x100000 ![] bcast_S_S512x100000) (val W m_cst_4) := by
  unfold val
  exact unary_at ops_inOrder W 282 rfl rfl (by decide)

/-- What `m_v15` holds. -/
theorem at_m_v15 : val W m_v15 = maximumf (val W m_v14) (val W m_v13) := by
  unfold val
  exact binary_at ops_inOrder W 283 rfl rfl (by decide) (by decide)

/-- What `m_v16` holds. -/
theorem at_m_v16 : val W m_v16 = Host.log (val W m_v15) := by
  unfold val
  exact unary_at ops_inOrder W 284 rfl rfl (by decide)

/-- What `m_v17` holds. -/
theorem at_m_v17 : val W m_v17 = Host.negf (val W m_v16) := by
  unfold val
  exact unary_at ops_inOrder W 285 rfl rfl (by decide)

/-- What `m_v18` holds. -/
theorem at_m_v18 : val W m_v18 = Host.log (val W m_v17) := by
  unfold val
  exact unary_at ops_inOrder W 286 rfl rfl (by decide)

/-- What `m_v19` holds. -/
theorem at_m_v19 : val W m_v19 = Host.negf (val W m_v18) := by
  unfold val
  exact unary_at ops_inOrder W 287 rfl rfl (by decide)

/-- What `l_cst` holds. -/
theorem at_l_cst : val W l_cst = (constant S_ .f32 0xFF800000#32) := by
  unfold val
  exact nullary_at ops_inOrder W 288 rfl rfl

/-- What `l_v0` holds. -/
theorem at_l_v0 : val W l_v0 = (fun x v => Host.reduce FloatOps.maximumf x v reducesTo_S512x100000_S512_d1 h_S_) (val W m_v3) (val W l_cst) := by
  unfold val
  exact binary_at ops_inOrder W 289 rfl rfl (by decide) (by decide)

/-- What `l_cst_0` holds. -/
theorem at_l_cst_0 : val W l_cst_0 = (constant S_ .f32 0xFF800000#32) := by
  unfold val
  exact nullary_at ops_inOrder W 290 rfl rfl

/-- What `l_v1` holds. -/
theorem at_l_v1 : val W l_v1 = (broadcastInDim S512 ![] bcast_S_S512) (val W l_cst_0) := by
  unfold val
  exact unary_at ops_inOrder W 291 rfl rfl (by decide)

/-- What `l_v2` holds. -/
theorem at_l_v2 : val W l_v2 = maximumf (val W l_v1) (val W l_v0) := by
  unfold val
  exact binary_at ops_inOrder W 292 rfl rfl (by decide) (by decide)

/-- What `l_v3` holds. -/
theorem at_l_v3 : val W l_v3 = (broadcastInDim S512x1 ![0] bcast_S512_S512x1_0) (val W l_v2) := by
  unfold val
  exact unary_at ops_inOrder W 293 rfl rfl (by decide)

/-- What `l_v4` holds. -/
theorem at_l_v4 : val W l_v4 = (broadcastInDim S512x100000 ![0, 1] bcast_S512x1_S512x100000_0_1) (val W l_v3) := by
  unfold val
  exact unary_at ops_inOrder W 294 rfl rfl (by decide)

/-- What `l_v5` holds. -/
theorem at_l_v5 : val W l_v5 = subf (val W m_v3) (val W l_v4) := by
  unfold val
  exact binary_at ops_inOrder W 295 rfl rfl (by decide) (by decide)

/-- What `l_v6` holds. -/
theorem at_l_v6 : val W l_v6 = Host.exp (val W l_v5) := by
  unfold val
  exact unary_at ops_inOrder W 296 rfl rfl (by decide)

/-- What `l_cst_1` holds. -/
theorem at_l_cst_1 : val W l_cst_1 = (constant S_ .f32 0x00000000#32) := by
  unfold val
  exact nullary_at ops_inOrder W 297 rfl rfl

/-- What `l_v7` holds. -/
theorem at_l_v7 : val W l_v7 = (fun x v => Host.reduceAdd x v reducesTo_S512x100000_S512_d1 h_S_) (val W l_v6) (val W l_cst_1) := by
  unfold val
  exact binary_at ops_inOrder W 298 rfl rfl (by decide) (by decide)

/-- What `l_v8` holds. -/
theorem at_l_v8 : val W l_v8 = (broadcastInDim S512x1 ![0] bcast_S512_S512x1_0) (val W l_v7) := by
  unfold val
  exact unary_at ops_inOrder W 299 rfl rfl (by decide)

/-- What `l_v9` holds. -/
theorem at_l_v9 : val W l_v9 = Host.log (val W l_v8) := by
  unfold val
  exact unary_at ops_inOrder W 300 rfl rfl (by decide)

/-- What `l_v10` holds. -/
theorem at_l_v10 : val W l_v10 = (broadcastInDim S512x100000 ![0, 1] bcast_S512x1_S512x100000_0_1) (val W l_v9) := by
  unfold val
  exact unary_at ops_inOrder W 301 rfl rfl (by decide)

/-- What `m_v20` holds. -/
theorem at_m_v20 : val W m_v20 = subf (val W l_v5) (val W l_v10) := by
  unfold val
  exact binary_at ops_inOrder W 302 rfl rfl (by decide) (by decide)

/-- What `m_v21` holds. -/
theorem at_m_v21 : val W m_v21 = addf (val W m_v20) (val W m_v19) := by
  unfold val
  exact binary_at ops_inOrder W 303 rfl rfl (by decide) (by decide)

/-- What `m_cst_5` holds. -/
theorem at_m_cst_5 : val W m_cst_5 = (constant S_ .f32 0x3F800000#32) := by
  unfold val
  exact nullary_at ops_inOrder W 304 rfl rfl

/-- What `m_v22` holds. -/
theorem at_m_v22 : val W m_v22 = (broadcastInDim S512x100000 ![] bcast_S_S512x100000) (val W m_cst_5) := by
  unfold val
  exact unary_at ops_inOrder W 305 rfl rfl (by decide)

/-- What `m_v23` holds. -/
theorem at_m_v23 : val W m_v23 = Host.divf (val W m_v21) (val W m_v22) := by
  unfold val
  exact binary_at ops_inOrder W 306 rfl rfl (by decide) (by decide)

/-- What `m_cst_6` holds. -/
theorem at_m_cst_6 : val W m_cst_6 = (constant S_ .f32 0xFF800000#32) := by
  unfold val
  exact nullary_at ops_inOrder W 307 rfl rfl

/-- What `m_v24` holds. -/
theorem at_m_v24 : val W m_v24 = (fun x v => Host.reduce FloatOps.maximumf x v reducesTo_S512x100000_S512_d1 h_S_) (val W m_v23) (val W m_cst_6) := by
  unfold val
  exact binary_at ops_inOrder W 308 rfl rfl (by decide) (by decide)

/-- What `m_cst_7` holds. -/
theorem at_m_cst_7 : val W m_cst_7 = (constant S_ .f32 0xFF800000#32) := by
  unfold val
  exact nullary_at ops_inOrder W 309 rfl rfl

/-- What `m_v25` holds. -/
theorem at_m_v25 : val W m_v25 = (broadcastInDim S512 ![] bcast_S_S512) (val W m_cst_7) := by
  unfold val
  exact unary_at ops_inOrder W 310 rfl rfl (by decide)

/-- What `m_v26` holds. -/
theorem at_m_v26 : val W m_v26 = maximumf (val W m_v25) (val W m_v24) := by
  unfold val
  exact binary_at ops_inOrder W 311 rfl rfl (by decide) (by decide)

/-- What `m_v27` holds. -/
theorem at_m_v27 : val W m_v27 = (broadcastInDim S512x1 ![0] bcast_S512_S512x1_0) (val W m_v26) := by
  unfold val
  exact unary_at ops_inOrder W 312 rfl rfl (by decide)

/-- What `m_v28` holds. -/
theorem at_m_v28 : val W m_v28 = (broadcastInDim S512x100000 ![0, 1] bcast_S512x1_S512x100000_0_1) (val W m_v27) := by
  unfold val
  exact unary_at ops_inOrder W 313 rfl rfl (by decide)

/-- What `m_v29` holds. -/
theorem at_m_v29 : val W m_v29 = subf (val W m_v23) (val W m_v28) := by
  unfold val
  exact binary_at ops_inOrder W 314 rfl rfl (by decide) (by decide)

/-- What `m_v30` holds. -/
theorem at_m_v30 : val W m_v30 = Host.exp (val W m_v29) := by
  unfold val
  exact unary_at ops_inOrder W 315 rfl rfl (by decide)

/-- What `m_cst_8` holds. -/
theorem at_m_cst_8 : val W m_cst_8 = (constant S_ .f32 0x00000000#32) := by
  unfold val
  exact nullary_at ops_inOrder W 316 rfl rfl

/-- What `m_v31` holds. -/
theorem at_m_v31 : val W m_v31 = (fun x v => Host.reduceAdd x v reducesTo_S512x100000_S512_d1 h_S_) (val W m_v30) (val W m_cst_8) := by
  unfold val
  exact binary_at ops_inOrder W 317 rfl rfl (by decide) (by decide)

/-- What `m_v32` holds. -/
theorem at_m_v32 : val W m_v32 = (broadcastInDim S512x1 ![0] bcast_S512_S512x1_0) (val W m_v31) := by
  unfold val
  exact unary_at ops_inOrder W 318 rfl rfl (by decide)

/-- What `m_v33` holds. -/
theorem at_m_v33 : val W m_v33 = (broadcastInDim S512x100000 ![0, 1] bcast_S512x1_S512x100000_0_1) (val W m_v32) := by
  unfold val
  exact unary_at ops_inOrder W 319 rfl rfl (by decide)

/-- What `m_v34` holds. -/
theorem at_m_v34 : val W m_v34 = Host.divf (val W m_v30) (val W m_v33) := by
  unfold val
  exact binary_at ops_inOrder W 320 rfl rfl (by decide) (by decide)

/-- What `a_v0` holds. -/
theorem at_a_v0 : val W a_v0 = (iotaInDim S512x100000 32 1) := by
  unfold val
  exact nullary_at ops_inOrder W 321 rfl rfl

/-- What `a_cst` holds. -/
theorem at_a_cst : val W a_cst = (constant S_ .f32 0xFF800000#32) := by
  unfold val
  exact nullary_at ops_inOrder W 322 rfl rfl

/-- What `a_c` holds. -/
theorem at_a_c : val W a_c = (constantI S_ 32 0#32) := by
  unfold val
  exact nullary_at ops_inOrder W 323 rfl rfl

/-- What `a_v1_0` holds. -/
theorem at_a_v1_0 : val W a_v1_0 = (fun x y u v j => (Host.argReduce reducer_argmax_f32_i32 x y u v reducesTo_S512x100000_S512_d1 h_S_ j).1) (val W m_v34) (val W a_v0) (val W a_cst) (val W a_c) := by
  unfold val
  exact quaternary_at ops_inOrder W 324 rfl rfl (by decide) (by decide) (by decide) (by decide)

/-- What `m_v35` holds. -/
theorem at_m_v35 : val W m_v35 = (fun x y u v j => (Host.argReduce reducer_argmax_f32_i32 x y u v reducesTo_S512x100000_S512_d1 h_S_ j).2) (val W m_v34) (val W a_v0) (val W a_cst) (val W a_c) := by
  unfold val
  exact quaternary_at ops_inOrder W 325 rfl rfl (by decide) (by decide) (by decide) (by decide)

/-- What `o_v0` holds. -/
theorem at_o_v0 : val W o_v0 = (broadcastInDim S512x1 ![0] bcast_S512_S512x1_0) (val W m_v35) := by
  unfold val
  exact unary_at ops_inOrder W 326 rfl rfl (by decide)

/-- What `o_v1` holds. -/
theorem at_o_v1 : val W o_v1 = (iotaInDim S1x100000 32 1) := by
  unfold val
  exact nullary_at ops_inOrder W 327 rfl rfl

/-- What `o_v2` holds. -/
theorem at_o_v2 : val W o_v2 = (broadcastInDim S512x100000 ![0, 1] bcast_S512x1_S512x100000_0_1) (val W o_v0) := by
  unfold val
  exact unary_at ops_inOrder W 328 rfl rfl (by decide)

/-- What `o_v3` holds. -/
theorem at_o_v3 : val W o_v3 = (broadcastInDim S512x100000 ![0, 1] bcast_S1x100000_S512x100000_0_1) (val W o_v1) := by
  unfold val
  exact unary_at ops_inOrder W 329 rfl rfl (by decide)

/-- What `o_v4` holds. -/
theorem at_o_v4 : val W o_v4 = (cmpi .eq) (val W o_v2) (val W o_v3) := by
  unfold val
  exact binary_at ops_inOrder W 330 rfl rfl (by decide) (by decide)

/-- What `m_v36` holds. -/
theorem at_m_v36 : val W m_v36 = (uitofp .f32) (val W o_v4) := by
  unfold val
  exact unary_at ops_inOrder W 331 rfl rfl (by decide)

/-- What `m_v37` holds. -/
theorem at_m_v37 : val W m_v37 = subf (val W m_v36) (val W m_v34) := by
  unfold val
  exact binary_at ops_inOrder W 332 rfl rfl (by decide) (by decide)

/-- What `m_v38` holds. -/
theorem at_m_v38 : val W m_v38 = addf (val W m_v34) (val W m_v37) := by
  unfold val
  exact binary_at ops_inOrder W 333 rfl rfl (by decide) (by decide)

end Cert.ReferenceIdeal.Eqs

end
-- ==== Proof.RefWord.lean ====
/-
  The reference's random words, element by element: the threefry word of the element's number in the whole array.
-/
module

public import proofs.«01_k».proof.Proof.RefEqs
public import Idealize.ShloMosaic.Lib.Pointwise

@[expose] public section

set_option maxRecDepth 65536

noncomputable section

namespace Cert.ReferenceIdeal.RefWord

open Cert.ReferenceIdeal Cert.ReferenceIdeal.Line Cert.ReferenceIdeal.Eqs Cert.Line Cert.Word
open Idealize.ShloMosaic Idealize.ShloMosaic.StableHlo Idealize.SL.Sem

variable {F : FTy → Type} [FloatOps F] [Facts]
open Facts₀ Facts

variable (W : Valuation τ sig (Elt F))

/-! ## The key -/

/-- The seed's high word is zero, -/
theorem key_hi : val W m_v6 = constantI S1 32 0#32 := by
  rw [at_m_v6, at_m_v5, at_m_v4, at_m_c, at_m_c_0]
  exact funext fun _ => (by decide : IntOp.shrui .host 1234#32 32#32 = 0#32)
/-- and its low word the seed. -/
theorem key_lo : val W m_v9 = constantI S1 32 1234#32 := by
  rw [at_m_v9, at_m_v8, at_m_v7, at_m_c, at_m_c_1]
  exact funext fun _ => (by decide : IntOp.andi 1234#32 4294967295#32 = 1234#32)
/-- Two words joined, at an index. -/
theorem join_at (p q : BitVec 32) (h : Shape.Concatenates [S1, S1] S2 0) (j : Fin 2) :
    concatenate S2 0 [⟨S1, constantI S1 32 p⟩, ⟨S1, constantI S1 32 q⟩] h (ix1 j) = if j.val = 0 then p else q := by
  pointwise
  by_cases hj : j.val = 0
  · rw [dif_pos (by omega), if_pos hj]
  · rw [dif_neg (by omega), if_neg hj]
/-- The two words joined are the key. -/
theorem key_at (j : Fin 2) : val W m_v10 (ix1 j) = if j.val = 0 then 0#32 else 1234#32 := by
  rw [at_m_v10, key_hi, key_lo]
  exact join_at 0#32 1234#32 _ j
/-- The key's first word, -/
theorem key0 : val W u_v5 = constantI S_ 32 0#32 := by
  rw [at_u_v5, at_u_v4]
  have h := key_at W 0
  generalize val W m_v10 = x at h
  refine funext fun i => ?_
  pointwise
  exact h
/-- its second word, -/
theorem key1 : val W u_v7 = constantI S_ 32 1234#32 := by
  rw [at_u_v7, at_u_v6]
  have h := key_at W 1
  generalize val W m_v10 = x at h
  refine funext fun i => ?_
  pointwise
  exact h
/-- and the third, made of both. -/
theorem key2 : val W t_v1 = constantI S_ 32 466689800#32 := by
  rw [at_t_v1, at_t_v0, at_t_c, key0, key1]
  exact funext fun _ => (by decide : IntOp.xori (IntOp.xori 0#32 1234#32) 466688986#32 = 466689800#32)

/-! ## The counter -/

/-- The element's number, as a word of 64 bits. -/
theorem count_at (i : S512x100000.Idx) : val W u_v14 i = BitVec.ofNat 64 ((i 0).val * 100000 + (i 1).val) := by
  rw [at_u_v14, at_u_v13, at_u_v12, at_u_c_0, at_u_v11, at_u_v10, at_u_c, at_u_v8, at_u_v9]
  show 100000#64 * BitVec.ofNat 64 (i 0).val + 1#64 * BitVec.ofNat 64 (i 1).val = _
  apply BitVec.eq_of_toNat_eq
  have h0 : (i 0).val < 512 := (i 0).isLt
  have h1 : (i 1).val < 100000 := (i 1).isLt
  simp only [BitVec.toNat_add, BitVec.toNat_mul, BitVec.toNat_ofNat]
  omega
/-- The counter's high word is zero, plus the key's first word; -/
theorem hi_at (i : S512x100000.Idx) : val W t_v3 i = 0#32 := by
  rw [at_t_v3, at_t_v2, key0, at_u_v18, at_u_v16, at_u_v15, at_u_c_1]
  show BitVec.truncate 32 (IntOp.shrui .host (val W u_v14 i) 32#64) + 0#32 = 0#32
  rw [count_at]
  have h0 : (i 0).val < 512 := (i 0).isLt
  have h1 : (i 1).val < 100000 := (i 1).isLt
  have hn : (i 0).val * 100000 + (i 1).val < 4294967296 := by omega
  generalize (i 0).val * 100000 + (i 1).val = n at hn
  apply BitVec.eq_of_toNat_eq
  unfold IntOp.shrui
  rw [if_pos (by decide)]
  simp only [BitVec.toNat_add, BitVec.truncate_eq_setWidth, BitVec.toNat_setWidth, BitVec.ushiftRight_eq', BitVec.toNat_ushiftRight, BitVec.toNat_ofNat, Nat.shiftRight_eq_div_pow, Nat.reduceMod, Nat.reducePow]
  rw [Nat.mod_eq_of_lt (by omega : n < 18446744073709551616), Nat.div_eq_of_lt hn]
/-- its low word is the element's number, plus the key's second word. -/
theorem lo_at (i : S512x100000.Idx) : val W t_v5 i = BitVec.ofNat 32 ((i 0).val * 100000 + (i 1).val) + 1234#32 := by
  rw [at_t_v5, at_t_v4, key1, at_u_v17]
  show BitVec.truncate 32 (val W u_v14 i) + 1234#32 = _
  rw [count_at]
  have h0 : (i 0).val < 512 := (i 0).isLt
  have h1 : (i 1).val < 100000 := (i 1).isLt
  congr 1
  apply BitVec.eq_of_toNat_eq
  simp only [BitVec.truncate_eq_setWidth, BitVec.toNat_setWidth, BitVec.toNat_ofNat]
  omega

/-! ## The rounds -/

/-- First group of rounds. -/
theorem group1 (i : S512x100000.Idx) : ((val W t_v35 i, val W t_v39 i) : BitVec 32 × BitVec 32)
    = inj 1234#32 466689800#32 1#32 (four 13 15 26 6 (val W t_v3 i, val W t_v5 i)) := by
  have h1 := round_at W 45 13 (a := t_v3) (b := t_v5) (a' := t_v6) (b' := t_v12) rfl (by decide) (by decide) (by decide) i
  have h2 := round_at W 54 15 (a := t_v6) (b := t_v12) (a' := t_v13) (b' := t_v19) rfl (by decide) (by decide) (by decide) i
  have h3 := round_at W 63 26 (a := t_v13) (b := t_v19) (a' := t_v20) (b' := t_v26) rfl (by decide) (by decide) (by decide) i
  have h4 := round_at W 72 6 (a := t_v20) (b := t_v26) (a' := t_v27) (b' := t_v33) rfl (by decide) (by decide) (by decide) i
  have h5 := inj_at W 81 1 (a := t_v27) (b := t_v33) (a' := t_v35) (b'' := t_v39) rfl (by decide) (key1 W) (key2 W) i
  rw [h5, h4, h3, h2, h1]
  rfl

/-- Second group of rounds. -/
theorem group2 (i : S512x100000.Idx) : ((val W t_v69 i, val W t_v73 i) : BitVec 32 × BitVec 32)
    = inj 466689800#32 0#32 2#32 (four 17 29 16 24 (val W t_v35 i, val W t_v39 i)) := by
  have h1 := round_at W 88 17 (a := t_v35) (b := t_v39) (a' := t_v40) (b' := t_v46) rfl (by decide) (by decide) (by decide) i
  have h2 := round_at W 97 29 (a := t_v40) (b := t_v46) (a' := t_v47) (b' := t_v53) rfl (by decide) (by decide) (by decide) i
  have h3 := round_at W 106 16 (a := t_v47) (b := t_v53) (a' := t_v54) (b' := t_v60) rfl (by decide) (by decide) (by decide) i
  have h4 := round_at W 115 24 (a := t_v54) (b := t_v60) (a' := t_v61) (b' := t_v67) rfl (by decide) (by decide) (by decide) i
  have h5 := inj_at W 124 2 (a := t_v61) (b := t_v67) (a' := t_v69) (b'' := t_v73) rfl (by decide) (key2 W) (key0 W) i
  rw [h5, h4, h3, h2, h1]
  rfl

/-- Third group of rounds. -/
theorem group3 (i : S512x100000.Idx) : ((val W t_v103 i, val W t_v107 i) : BitVec 32 × BitVec 32)
    = inj 0#32 1234#32 3#32 (four 13 15 26 6 (val W t_v69 i, val W t_v73 i)) := by
  have h1 := round_at W 131 13 (a := t_v69) (b := t_v73) (a' := t_v74) (b' := t_v80) rfl (by decide) (by decide) (by decide) i
  have h2 := round_at W 140 15 (a := t_v74) (b := t_v80) (a' := t_v81) (b' := t_v87) rfl (by decide) (by decide) (by decide) i
  have h3 := round_at W 149 26 (a := t_v81) (b := t_v87) (a' := t_v88) (b' := t_v94) rfl (by decide) (by decide) (by decide) i
  have h4 := round_at W 158 6 (a := t_v88) (b := t_v94) (a' := t_v95) (b' := t_v101) rfl (by decide) (by decide) (by decide) i
  have h5 := inj_at W 167 3 (a := t_v95) (b := t_v101) (a' := t_v103) (b'' := t_v107) rfl (by decide) (key0 W) (key1 W) i
  rw [h5, h4, h3, h2, h1]
  rfl

/-- Fourth group of rounds. -/
theorem group4 (i : S512x100000.Idx) : ((val W t_v137 i, val W t_v141 i) : BitVec 32 × BitVec 32)
    = inj 1234#32 466689800#32 4#32 (four 17 29 16 24 (val W t_v103 i, val W t_v107 i)) := by
  have h1 := round_at W 174 17 (a := t_v103) (b := t_v107) (a' := t_v108) (b' := t_v114) rfl (by decide) (by decide) (by decide) i
  have h2 := round_at W 183 29 (a := t_v108) (b := t_v114) (a' := t_v115) (b' := t_v121) rfl (by decide) (by decide) (by decide) i
  have h3 := round_at W 192 16 (a := t_v115) (b := t_v121) (a' := t_v122) (b' := t_v128) rfl (by decide) (by decide) (by decide) i
  have h4 := round_at W 201 24 (a := t_v122) (b := t_v128) (a' := t_v129) (b' := t_v135) rfl (by decide) (by decide) (by decide) i
  have h5 := inj_at W 210 4 (a := t_v129) (b := t_v135) (a' := t_v137) (b'' := t_v141) rfl (by decide) (key1 W) (key2 W) i
  rw [h5, h4, h3, h2, h1]
  rfl

/-- Fifth group of rounds. -/
theorem group5 (i : S512x100000.Idx) : ((val W u_v19_0 i, val W u_v19_1 i) : BitVec 32 × BitVec 32)
    = inj 466689800#32 0#32 5#32 (four 13 15 26 6 (val W t_v137 i, val W t_v141 i)) := by
  have h1 := round_at W 217 13 (a := t_v137) (b := t_v141) (a' := t_v142) (b' := t_v148) rfl (by decide) (by decide) (by decide) i
  have h2 := round_at W 226 15 (a := t_v142) (b := t_v148) (a' := t_v149) (b' := t_v155) rfl (by decide) (by decide) (by decide) i
  have h3 := round_at W 235 26 (a := t_v149) (b := t_v155) (a' := t_v156) (b' := t_v162) rfl (by decide) (by decide) (by decide) i
  have h4 := round_at W 244 6 (a := t_v156) (b := t_v162) (a' := t_v163) (b' := t_v169) rfl (by decide) (by decide) (by decide) i
  have h5 := inj_at W 253 5 (a := t_v163) (b := t_v169) (a' := u_v19_0) (b'' := u_v19_1) rfl (by decide) (key2 W) (key0 W) i
  rw [h5, h4, h3, h2, h1]
  rfl

/-- The reference's word of an element. -/
theorem word_at (i : S512x100000.Idx) : val W u_v20 i = word (BitVec.ofNat 32 ((i 0).val * 100000 + (i 1).val)) := by
  have h : ((val W u_v19_0 i, val W u_v19_1 i) : BitVec 32 × BitVec 32) = threefry (0#32, BitVec.ofNat 32 ((i 0).val * 100000 + (i 1).val) + 1234#32) := by
    rw [group5, group4, group3, group2, group1, hi_at, lo_at, threefry]
  rw [at_u_v20]
  show val W u_v19_0 i ^^^ val W u_v19_1 i = _
  have h1 := congrArg Prod.fst h
  have h2 := congrArg Prod.snd h
  dsimp only at h1 h2
  rw [h1, h2, word]

end Cert.ReferenceIdeal.RefWord

end
-- ==== Proof.RefNoise.lean ====
/-
  The reference's noise, element by element: the Gumbel noise of the element's word.
-/
module

public import proofs.«01_k».proof.Proof.RefWord

@[expose] public section

noncomputable section

namespace Cert.ReferenceIdeal.RefNoise

open Cert.ReferenceIdeal Cert.ReferenceIdeal.Line Cert.ReferenceIdeal.Eqs Cert.ReferenceIdeal.RefWord Cert.Line Cert.Word
open Idealize.ShloMosaic Idealize.ShloMosaic.StableHlo Idealize.SL.Sem

variable [Facts]
open Facts₀ Facts

/-- The word's pattern of bits, as the reference computes it. -/
theorem bits_eq (w : BitVec 32) : IntOp.ori (IntOp.shrui .host w 9#32) 1065353216#32 = bits w := by
  have e : (9#32).toNat = 9 := rfl
  unfold IntOp.shrui IntOp.ori bits
  rw [e, if_pos (by decide), BitVec.ushiftRight_eq', e]

variable (V : Valuation τ sig (Elt Ideal))

/-- The uniform draw's float with the word as its fraction. -/
theorem frac_at (i : S512x100000.Idx) :
    (val V u_v25 i : EReal) = Ideal.ofBits .f32 (bits (word (BitVec.ofNat 32 ((i 0).val * 100000 + (i 1).val)))) := by
  have e : val V u_v24 i = bits (val V u_v20 i) := by
    rw [at_u_v24, at_u_v23, at_u_c_3, at_u_v22, at_u_v21, at_u_c_2, ← bits_eq]
    rfl
  rw [at_u_v25, ← word_at V i, ← e]
  rfl
/-- The interval's lower end is zero, -/
theorem lower_at (i : S1x1.Idx) : (val V u_v2 i : EReal) = 0 := by
  rw [at_u_v2, at_u_v0, at_m_cst, ← Ideal.ofBits_zero_f32]
  rfl
/-- and its upper end is one. -/
theorem upper_at (i : S1x1.Idx) : (val V u_v3 i : EReal) = 1 := by
  rw [at_u_v3, at_u_v1, at_m_cst_2, ← Ideal.ofBits_one_f32]
  rfl
/-! ### The operations on floats at an index -/

section Ops

variable {s : Shape} (x y : FVec Ideal s .f32) (i : s.Idx)

/-- A difference at an index. -/
theorem subf_at : (subf x y i : EReal) = (x i : EReal) - (y i : EReal) := rfl
/-- A sum at an index. -/
theorem addf_at : (addf x y i : EReal) = (x i : EReal) + (y i : EReal) := rfl
/-- A product at an index. -/
theorem mulf_at : (mulf x y i : EReal) = (x i : EReal) * (y i : EReal) := rfl
/-- A maximum at an index. -/
theorem maxf_at : (maximumf x y i : EReal) = max (x i : EReal) (y i : EReal) := rfl
/-- A quotient at an index. -/
theorem divf_at : (Host.divf x y i : EReal) = Ideal.div (x i : EReal) (y i : EReal) := rfl
/-- A logarithm at an index. -/
theorem log_at : (Host.log x i : EReal) = Ideal.log (x i : EReal) := rfl
/-- An exponential at an index. -/
theorem exp_at : (Host.exp x i : EReal) = Ideal.exp (x i : EReal) := rfl
/-- A negation at an index. -/
theorem neg_at : (Host.negf x i : EReal) = -(x i : EReal) := rfl
/-- A constant at an index. -/
theorem const_at (p : BitVec 32) : (constant (F := Ideal) s .f32 p i : EReal) = Ideal.ofBits .f32 p := rfl

end Ops

/-- A scalar repeated over the array, at an index. -/
theorem fill_at (p : BitVec 32) (i : S512x100000.Idx) :
    (broadcastInDim S512x100000 ![] bcast_S_S512x100000 (constant (F := Ideal) S_ .f32 p) i : EReal) = Ideal.ofBits .f32 p := rfl
/-- An array of one element repeated, at an index. -/
theorem spread_at (x : FVec Ideal S1x1 .f32) (z : EReal) (h : ∀ j, (x j : EReal) = z) (i : S512x100000.Idx) :
    (broadcastInDim S512x100000 ![0, 1] bcast_S1x1_S512x100000_0_1 x i : EReal) = z := h _

/-! ### The noise -/

/-- The uniform draw. -/
theorem uniform_at (i : S512x100000.Idx) : (val V m_v11 i : EReal) = max 0 (((val V u_v25 i : EReal) - 1) * (1 - 0) + 0) := by
  have h28 : ∀ j, (val V u_v28 j : EReal) = 1 - 0 := fun j => by
    rw [at_u_v28]
    exact (subf_at _ _ j).trans (congrArg₂ (· - ·) (upper_at V j) (lower_at V j))
  have h29 : (val V u_v29 i : EReal) = 1 - 0 := by
    rw [at_u_v29]
    exact spread_at _ _ h28 i
  have h31 : (val V u_v31 i : EReal) = 0 := by
    rw [at_u_v31]
    exact spread_at _ _ (lower_at V) i
  have h33 : (val V u_v33 i : EReal) = 0 := by
    rw [at_u_v33]
    exact spread_at _ _ (lower_at V) i
  have h27 : (val V u_v27 i : EReal) = (val V u_v25 i : EReal) - 1 := by
    rw [at_u_v27, at_u_v26, at_u_cst]
    exact (subf_at _ _ i).trans (congrArg (_ - ·) ((fill_at _ i).trans Ideal.ofBits_one_f32))
  have h30 : (val V u_v30 i : EReal) = ((val V u_v25 i : EReal) - 1) * (1 - 0) := by
    rw [at_u_v30]
    exact (mulf_at _ _ i).trans (congrArg₂ (· * ·) h27 h29)
  have h32 : (val V u_v32 i : EReal) = ((val V u_v25 i : EReal) - 1) * (1 - 0) + 0 := by
    rw [at_u_v32]
    exact (addf_at _ _ i).trans (congrArg₂ (· + ·) h30 h31)
  rw [at_m_v11]
  exact (maxf_at _ _ i).trans (congrArg₂ max h33 h32)
/-- The draw kept off zero. -/
theorem kept_at (i : S512x100000.Idx) :
    (val V m_v15 i : EReal) = max (Ideal.ofBits .f32 0x00800000#32) ((val V m_v11 i : EReal) + Ideal.ofBits .f32 0x00800000#32) := by
  have h13 : (val V m_v13 i : EReal) = (val V m_v11 i : EReal) + Ideal.ofBits .f32 0x00800000#32 := by
    rw [at_m_v13, at_m_v12, at_m_cst_3]
    exact (addf_at _ _ i).trans (congrArg (_ + ·) (fill_at _ i))
  rw [at_m_v15, at_m_v14, at_m_cst_4]
  exact (maxf_at _ _ i).trans (congrArg₂ max (fill_at _ i) h13)
/-- The noise is the negated logarithm of the negated logarithm. -/
theorem gumbel_at (i : S512x100000.Idx) : (val V m_v19 i : EReal) = -Ideal.log (-Ideal.log (val V m_v15 i : EReal)) := by
  rw [at_m_v19, at_m_v18, at_m_v17, at_m_v16]
  exact (neg_at _ i).trans (congrArg (-·) ((log_at _ i).trans (congrArg Ideal.log ((neg_at _ i).trans (congrArg (-·) (log_at _ i))))))

/-- The reference's noise of an element. -/
theorem noise_at (i : S512x100000.Idx) :
    (val V m_v19 i : EReal) = (noise (word (BitVec.ofNat 32 ((i 0).val * 100000 + (i 1).val))) : EReal) := by
  rw [gumbel_at, kept_at, uniform_at, frac_at]
  exact reference_noise _

end Cert.ReferenceIdeal.RefNoise

end
-- ==== Proof.RefRow.lean ====
/-
  The reference's operations on rows, at an index: the matrix product, the row maximum, the row sum, and a row's number spread over the row.
-/
module

public import proofs.«01_k».proof.Proof.RefNoise
public import proofs.«01_k».proof.Proof.First
public import Idealize.ShloMosaic.Lib.Pointwise

@[expose] public section

set_option maxRecDepth 16384

noncomputable section

namespace Cert.ReferenceIdeal.RefRow

open Cert.ReferenceIdeal Cert.ReferenceIdeal.Line Cert.ReferenceIdeal.Eqs Cert.ReferenceIdeal.RefNoise
open Idealize.ShloMosaic Idealize.ShloMosaic.StableHlo Idealize.SL.Sem

variable [Facts]
open Facts₀ Facts

/-- The pattern of minus infinity. -/
theorem ofBits_bot : Ideal.ofBits .f32 0xFF800000#32 = (⊥ : EReal) := by
  simp [Ideal.ofBits, Ideal.ieee]
/-- The matrix product at an index. -/
theorem dot_at (x : FVec Ideal S512x2048 .f32) (y : FVec Ideal S2048x100000 .f32) (r : Fin 512) (q : Fin 100000) :
    (Host.dotGeneral dot_S512x2048_S2048x100000_S512x100000_1_0_0_1_n_n none x y (ix2 r q) : EReal)
      = ∑ k : Fin 2048, (x (ix2 r k) : EReal) * (y (ix2 k q) : EReal) := by
  pointwise
/-- The bias spread over the rows. -/
theorem bias_at (b : FVec Ideal S100000 .f32) (r : Fin 512) (q : Fin 100000) :
    broadcastInDim S512x100000 ![0, 1] bcast_S1x100000_S512x100000_0_1 (broadcastInDim S1x100000 ![1] bcast_S100000_S1x100000_1 b) (ix2 r q) = b (ix1 q) := by
  pointwise
/-- A row's maximum. -/
theorem rmax_at (x : FVec Ideal S512x100000 .f32) (p : BitVec 32) (r : Fin 512) :
    (Host.reduce (FloatOps.maximumf : Ideal .f32 → Ideal .f32 → Ideal .f32) x (constant (F := Ideal) S_ .f32 p) reducesTo_S512x100000_S512_d1 h_S_ (ix1 r) : EReal)
      = Finset.univ.fold max (Ideal.ofBits .f32 p) fun q => (x (ix2 r q) : EReal) := by
  pointwise
/-- A row's sum. -/
theorem rsum_at (x : FVec Ideal S512x100000 .f32) (p : BitVec 32) (r : Fin 512) :
    (Host.reduceAdd x (constant (F := Ideal) S_ .f32 p) reducesTo_S512x100000_S512_d1 h_S_ (ix1 r) : EReal)
      = Ideal.ofBits .f32 p + ∑ q, (x (ix2 r q) : EReal) := by
  pointwise
/-- A scalar repeated over the rows. -/
theorem col_at (p : BitVec 32) (i : S512.Idx) :
    (broadcastInDim S512 ![] bcast_S_S512 (constant (F := Ideal) S_ .f32 p) i : EReal) = Ideal.ofBits .f32 p := rfl
/-- A row's number as a column of one entry. -/
theorem stand_at {e : EltTy} (x : S512.Idx → Elt Ideal e) (r : Fin 512) (j : Fin 1) :
    broadcastInDim S512x1 ![0] bcast_S512_S512x1_0 x (ix2 r j) = x (ix1 r) := by
  pointwise
/-- A column of one entry spread over the row. -/
theorem across_at {e : EltTy} (x : S512x1.Idx → Elt Ideal e) (r : Fin 512) (q : Fin 100000) :
    broadcastInDim S512x100000 ![0, 1] bcast_S512x1_S512x100000_0_1 x (ix2 r q) = x (ix2 r 0) := by
  pointwise

/-! ## The argmax -/

/-- The argmax's body keeps one of its two pairs, one that neither beats. -/
theorem reducer_best (a b : EReal × BitVec 32) :
    (reducer_argmax_f32_i32 (F := Ideal) a b = a ∨ reducer_argmax_f32_i32 (F := Ideal) a b = b)
      ∧ First.Beats (reducer_argmax_f32_i32 (F := Ideal) a b) a ∧ First.Beats (reducer_argmax_f32_i32 (F := Ideal) a b) b := by
  obtain ⟨x, k⟩ := a
  obtain ⟨y, l⟩ := b
  have e : reducer_argmax_f32_i32 (F := Ideal) (x, k) (y, l) = if y < x ∨ (x = y ∧ k.toInt < l.toInt) then (x, k) else (y, l) := by
    unfold reducer_argmax_f32_i32
    simp only [Ideal.cmpf_def, Ideal.cmp]
    have hk : IntOp.cmpi .slt k l = BitVec.ofBool (decide (k.toInt < l.toInt)) := rfl
    rw [hk]
    by_cases h1 : y < x
    · simp [h1, ne_of_gt h1, IntOp.ori, Scalar.select, IntOp.andi]
    · by_cases h2 : x = y
      · by_cases h3 : k.toInt < l.toInt
        · simp [h2, h3, IntOp.ori, Scalar.select, IntOp.andi]
        · simp [h2, h3, IntOp.ori, Scalar.select, IntOp.andi]
      · simp [h1, h2, IntOp.ori, Scalar.select, IntOp.andi]
  rw [e]
  split_ifs with h
  · refine ⟨.inl rfl, First.Beats.refl _, ?_⟩
    rcases h with h | ⟨h, h'⟩
    · exact .inl h
    · exact .inr ⟨h.symm, h'.le⟩
  · rw [not_or, not_lt, not_and, not_lt] at h
    refine ⟨.inr rfl, ?_, First.Beats.refl _⟩
    rcases lt_or_eq_of_le h.1 with h' | h'
    · exact .inl h'
    · exact .inr ⟨h', h.2 h'⟩

/-- The pairs the argmax of a row folds: the row's numbers with their columns. -/
theorem fiber_at (x : FVec Ideal S512x100000 .f32) (r : Fin 512) (p : EReal × BitVec 32) :
    p ∈ Host.argReduceFiber x (iotaInDim S512x100000 32 1) reducesTo_S512x100000_S512_d1 (ix1 r)
      ↔ ∃ d : Fin 100000, p = ((x (ix2 r d) : EReal), BitVec.ofNat 32 d.val) := by
  unfold Host.argReduceFiber
  rw [List.mem_map]
  constructor
  · rintro ⟨n, hn, rfl⟩
    rw [List.mem_filter] at hn
    have hd := of_decide_eq_true hn.2
    generalize S512x100000.rowMajor.symm n = i at hd ⊢
    have hi : (i 0 : Fin 512) = r := by
      have h0 := Shape.ReducesTo.drop_apply_val reducesTo_S512x100000_S512_d1 i 0
      rw [hd] at h0
      exact Fin.ext h0.symm
    obtain ⟨d, rfl⟩ : ∃ d : Fin 100000, i = ix2 r d :=
      ⟨i 1, funext fun b => match b with | ⟨0, _⟩ => hi | ⟨1, _⟩ => rfl⟩
    exact ⟨d, rfl⟩
  · rintro ⟨d, rfl⟩
    refine ⟨S512x100000.rowMajor (ix2 r d), ?_, ?_⟩
    · rw [List.mem_filter]
      refine ⟨List.mem_finRange _, decide_eq_true ?_⟩
      rw [Equiv.symm_apply_apply]
      funext b
      have h0 := Shape.ReducesTo.drop_apply_val reducesTo_S512x100000_S512_d1 (ix2 r d) 0
      obtain rfl : b = 0 := Subsingleton.elim _ _
      exact Fin.ext h0
    · rw [Equiv.symm_apply_apply]
      rfl

/-- The argmax of a row with no minus infinity is the first column that attains the row's maximum. -/
theorem argmax_at (x : FVec Ideal S512x100000 .f32) (z : BitVec 32) (r : Fin 512) (hx : ∀ d, (x (ix2 r d) : EReal) ≠ ⊥) (c : Fin 100000)
    (hc : First.IsFirst (fun d => (x (ix2 r d) : EReal)) c) :
    (Host.argReduce reducer_argmax_f32_i32 x (iotaInDim S512x100000 32 1) (constant (F := Ideal) S_ .f32 0xFF800000#32) (constantI S_ 32 z)
      reducesTo_S512x100000_S512_d1 h_S_ (ix1 r)).2 = BitVec.ofNat 32 c.val := by
  rw [Ideal.argReduce_eq_reduce2, Host.reduce2_eq_foldl_fiber]
  have h0 : (constant (F := Ideal) S_ .f32 0xFF800000#32 (Shape.Idx.first h_S_) : EReal) = ⊥ := ofBits_bot
  have h1 : constantI S_ 32 z (Shape.Idx.first h_S_) = z := rfl
  rw [h0, h1]
  exact First.foldl_first _ reducer_best _ z _ hx (fiber_at x r) c hc

end Cert.ReferenceIdeal.RefRow

end
-- ==== Proof.Soft.lean ====
/-
  The row mathematics: the maximum of a row of reals, and the softmax of a row of reals as reals, in the order of the row.
-/
module

public import proofs.«01_k».proof.Proof.First
public import Idealize.ShloMosaic.PureOps.Ideal.Laws

@[expose] public section

noncomputable section

namespace Cert.Soft

open Idealize.ShloMosaic

variable {n : ℕ}

/-- The maximum of a row of reals is a real. -/
theorem exists_max (hn : 0 < n) (f : Fin n → EReal) (u : Fin n → ℝ) (hf : ∀ q, f q = (u q : EReal)) :
    ∃ M : ℝ, max ⊥ (Finset.univ.fold max ⊥ f) = (M : EReal) := by
  haveI : Nonempty (Fin n) := ⟨⟨0, hn⟩⟩
  obtain ⟨m, hm⟩ := Finite.exists_max u
  refine ⟨u m, ?_⟩
  rw [max_eq_right bot_le, ← hf m]
  refine le_antisymm (First.fold_max_le f bot_le fun k => ?_) (First.le_fold_max ⊥ f m)
  rw [hf, hf]
  exact EReal.coe_le_coe_iff.mpr (hm k)

/-- The sum of a row of reals is the real sum. -/
theorem sum_coe (f : Fin n → EReal) (u : Fin n → ℝ) (hf : ∀ q, f q = (u q : EReal)) : (∑ q, f q) = ((∑ q, u q : ℝ) : EReal) := by
  rw [Finset.sum_congr rfl fun q _ => hf q]
  induction (Finset.univ : Finset (Fin n)) using Finset.induction with
  | empty => simp
  | insert a s ha ih => rw [Finset.sum_insert ha, Finset.sum_insert ha, ih, EReal.coe_add]

/-- The log-softmax of a row of reals takes one real from every number of the row. -/
theorem logsoftmax (hn : 0 < n) (f : Fin n → EReal) (z : Fin n → ℝ) (hf : ∀ q, f q = (z q : EReal)) :
    ∃ K : ℝ, ∀ q, (f q - max ⊥ (Finset.univ.fold max ⊥ f))
      - Ideal.log (0 + ∑ d, Ideal.exp (f d - max ⊥ (Finset.univ.fold max ⊥ f))) = ((z q - K : ℝ) : EReal) := by
  obtain ⟨M, hM⟩ := exists_max hn f z hf
  haveI : Nonempty (Fin n) := ⟨⟨0, hn⟩⟩
  have he : ∀ d, Ideal.exp (f d - max ⊥ (Finset.univ.fold max ⊥ f)) = ((Real.exp (z d - M) : ℝ) : EReal) := fun d => by
    rw [hM, hf, ← EReal.coe_sub, Ideal.exp_coe]
  have hpos : 0 < ∑ d, Real.exp (z d - M) := Finset.sum_pos (fun d _ => Real.exp_pos _) Finset.univ_nonempty
  refine ⟨M + Real.log (∑ d, Real.exp (z d - M)), fun q => ?_⟩
  rw [zero_add, sum_coe _ _ he, Ideal.log_coe, if_neg (not_le.mpr hpos), hM, hf, ← EReal.coe_sub, ← EReal.coe_sub]
  congr 1
  ring

/-- The softmax of a row of reals is a row of reals in the same order. -/
theorem softmax (hn : 0 < n) (f : Fin n → EReal) (s : Fin n → ℝ) (hf : ∀ q, f q = (s q : EReal)) :
    ∃ y : Fin n → ℝ, (∀ q, Ideal.div (Ideal.exp (f q - max ⊥ (Finset.univ.fold max ⊥ f)))
      (0 + ∑ d, Ideal.exp (f d - max ⊥ (Finset.univ.fold max ⊥ f))) = (y q : EReal)) ∧ ∀ a b, y a ≤ y b ↔ s a ≤ s b := by
  obtain ⟨M, hM⟩ := exists_max hn f s hf
  haveI : Nonempty (Fin n) := ⟨⟨0, hn⟩⟩
  have he : ∀ d, Ideal.exp (f d - max ⊥ (Finset.univ.fold max ⊥ f)) = ((Real.exp (s d - M) : ℝ) : EReal) := fun d => by
    rw [hM, hf, ← EReal.coe_sub, Ideal.exp_coe]
  have hpos : 0 < ∑ d, Real.exp (s d - M) := Finset.sum_pos (fun d _ => Real.exp_pos _) Finset.univ_nonempty
  refine ⟨fun q => Real.exp (s q - M) * (1 / ∑ d, Real.exp (s d - M)), fun q => ?_, fun a b => ?_⟩
  · rw [zero_add, sum_coe _ _ he, he, Ideal.div_coe hpos.ne', ← EReal.coe_mul]
  · have h1 : 0 < 1 / ∑ d, Real.exp (s d - M) := by positivity
    rw [mul_le_mul_iff_left₀ h1, Real.exp_le_exp, sub_le_sub_iff_right]

/-- A real and what another number lacks of it make that number. -/
theorem straight (y : ℝ) (h : EReal) : (y : EReal) + (h - (y : EReal)) = h := by
  induction h using EReal.rec with
  | bot => simp
  | top => simp
  | coe r => rw [← EReal.coe_sub, ← EReal.coe_add]; congr 1; ring

end Cert.Soft

end
-- ==== Proof.RefVal.lean ====
/-
  The reference's result at an index: with real logits, one in the first column where logit plus noise is greatest, zero elsewhere.
-/
module

public import proofs.«01_k».proof.Proof.RefRow
public import proofs.«01_k».proof.Proof.Soft

@[expose] public section

noncomputable section

namespace Cert.ReferenceIdeal.RefVal

open Cert.ReferenceIdeal Cert.ReferenceIdeal.Line Cert.ReferenceIdeal.Eqs Cert.ReferenceIdeal.RefNoise Cert.ReferenceIdeal.RefRow Cert.Word
open Idealize.ShloMosaic Idealize.ShloMosaic.StableHlo Idealize.SL.Sem

variable [Facts]
open Facts₀ Facts

variable (V : Valuation τ sig (Elt Ideal)) (r : Fin 512) (q : Fin 100000)

/-! ## The logits -/

/-- A logit: the product's entry plus the column's bias. -/
theorem logit_at : (val V m_v3 (ix2 r q) : EReal)
    = (∑ k : Fin 2048, (val V m_arg0 (ix2 r k) : EReal) * (val V m_arg1 (ix2 k q) : EReal)) + (val V m_arg2 (ix1 q) : EReal) := by
  rw [at_m_v3, at_m_v0, at_m_v2, at_m_v1]
  exact (addf_at _ _ _).trans (congrArg₂ (· + ·) (dot_at _ _ r q) (bias_at _ r q))

/-! ## The log-softmax -/

/-- The row's maximum, spread over the row. -/
theorem lmax_at : (val V l_v4 (ix2 r q) : EReal) = max ⊥ (Finset.univ.fold max ⊥ fun d => (val V m_v3 (ix2 r d) : EReal)) := by
  rw [at_l_v4]
  refine (across_at _ r q).trans ?_
  rw [at_l_v3]
  refine (stand_at _ r 0).trans ?_
  rw [at_l_v2, at_l_v1, at_l_cst_0, at_l_v0, at_l_cst, ← ofBits_bot]
  exact (maxf_at _ _ _).trans (congrArg₂ max (col_at _ _) (rmax_at _ _ r))
/-- The logit less the maximum. -/
theorem lsub_at : (val V l_v5 (ix2 r q) : EReal)
    = (val V m_v3 (ix2 r q) : EReal) - max ⊥ (Finset.univ.fold max ⊥ fun d => (val V m_v3 (ix2 r d) : EReal)) := by
  rw [at_l_v5]
  exact (subf_at _ _ _).trans (congrArg (_ - ·) (lmax_at V r q))
/-- The row's sum of exponentials. -/
theorem lsum_at : (val V l_v7 (ix1 r) : EReal) = 0 + ∑ d, Ideal.exp ((val V m_v3 (ix2 r d) : EReal)
    - max ⊥ (Finset.univ.fold max ⊥ fun d => (val V m_v3 (ix2 r d) : EReal))) := by
  have h6 : ∀ d, (val V l_v6 (ix2 r d) : EReal) = Ideal.exp ((val V m_v3 (ix2 r d) : EReal)
      - max ⊥ (Finset.univ.fold max ⊥ fun d => (val V m_v3 (ix2 r d) : EReal))) := fun d => by
    rw [at_l_v6]
    exact (exp_at _ _).trans (congrArg Ideal.exp (lsub_at V r d))
  rw [at_l_v7, at_l_cst_1]
  exact (rsum_at _ _ r).trans (congrArg₂ (· + ·) Ideal.ofBits_zero_f32 (Finset.sum_congr rfl fun d _ => h6 d))
/-- The logarithm of that sum, spread over the row. -/
theorem llog_at : (val V l_v10 (ix2 r q) : EReal) = Ideal.log (val V l_v7 (ix1 r) : EReal) := by
  rw [at_l_v10]
  refine (across_at _ r q).trans ?_
  rw [at_l_v9]
  refine (log_at _ _).trans (congrArg Ideal.log ?_)
  rw [at_l_v8]
  exact stand_at _ r 0
/-- The log-softmax of a row of real logits takes one real from every logit. -/
theorem logsoftmax_at (z : Fin 100000 → ℝ) (hz : ∀ q, (val V m_v3 (ix2 r q) : EReal) = (z q : EReal)) :
    ∃ K : ℝ, ∀ q, (val V m_v20 (ix2 r q) : EReal) = ((z q - K : ℝ) : EReal) := by
  obtain ⟨K, hK⟩ := Soft.logsoftmax (by decide) (fun d => (val V m_v3 (ix2 r d) : EReal)) z hz
  refine ⟨K, fun q => ?_⟩
  rw [← hK q, at_m_v20]
  exact (subf_at _ _ _).trans (congrArg₂ (· - ·) (lsub_at V r q) ((llog_at V r q).trans (congrArg Ideal.log (lsum_at V r))))

/-! ## The softmax of the noisy log-probabilities -/

/-- The row's maximum, spread over the row. -/
theorem smax_at : (val V m_v28 (ix2 r q) : EReal) = max ⊥ (Finset.univ.fold max ⊥ fun d => (val V m_v23 (ix2 r d) : EReal)) := by
  rw [at_m_v28]
  refine (across_at _ r q).trans ?_
  rw [at_m_v27]
  refine (stand_at _ r 0).trans ?_
  rw [at_m_v26, at_m_v25, at_m_cst_7, at_m_v24, at_m_cst_6, ← ofBits_bot]
  exact (maxf_at _ _ _).trans (congrArg₂ max (col_at _ _) (rmax_at _ _ r))
/-- The exponential of a number less the maximum. -/
theorem sexp_at : (val V m_v30 (ix2 r q) : EReal) = Ideal.exp ((val V m_v23 (ix2 r q) : EReal)
    - max ⊥ (Finset.univ.fold max ⊥ fun d => (val V m_v23 (ix2 r d) : EReal))) := by
  rw [at_m_v30]
  refine (exp_at _ _).trans (congrArg Ideal.exp ?_)
  rw [at_m_v29]
  exact (subf_at _ _ _).trans (congrArg (_ - ·) (smax_at V r q))
/-- The row's sum of exponentials, spread over the row. -/
theorem ssum_at : (val V m_v33 (ix2 r q) : EReal) = 0 + ∑ d, Ideal.exp ((val V m_v23 (ix2 r d) : EReal)
    - max ⊥ (Finset.univ.fold max ⊥ fun d => (val V m_v23 (ix2 r d) : EReal))) := by
  rw [at_m_v33]
  refine (across_at _ r q).trans ?_
  rw [at_m_v32]
  refine (stand_at _ r 0).trans ?_
  rw [at_m_v31, at_m_cst_8]
  exact (rsum_at _ _ r).trans (congrArg₂ (· + ·) Ideal.ofBits_zero_f32 (Finset.sum_congr rfl fun d _ => sexp_at V r d))
/-- The noisy log-probability, divided by the temperature one. -/
theorem noisy_at (a : ℝ) (h : (val V m_v20 (ix2 r q) : EReal) = (a : EReal)) :
    (val V m_v23 (ix2 r q) : EReal) = ((a + noise (word (BitVec.ofNat 32 (r.val * 100000 + q.val))) : ℝ) : EReal) := by
  have h21 : (val V m_v21 (ix2 r q) : EReal) = ((a + noise (word (BitVec.ofNat 32 (r.val * 100000 + q.val))) : ℝ) : EReal) := by
    rw [at_m_v21, EReal.coe_add]
    exact (addf_at _ _ _).trans (congrArg₂ (· + ·) h (noise_at V (ix2 r q)))
  rw [at_m_v23, at_m_v22, at_m_cst_5]
  refine (divf_at _ _ _).trans ((congrArg₂ Ideal.div h21 ((fill_at _ _).trans Ideal.ofBits_one_f32)).trans ?_)
  rw [← EReal.coe_one, Ideal.div_coe one_ne_zero, ← EReal.coe_mul]
  congr 1
  ring

/-- The softmax of a row of real logits: a row of reals, in the order of logit plus noise. -/
theorem softmax_at (z : Fin 100000 → ℝ) (hz : ∀ q, (val V m_v3 (ix2 r q) : EReal) = (z q : EReal)) :
    ∃ y : Fin 100000 → ℝ, (∀ q, (val V m_v34 (ix2 r q) : EReal) = (y q : EReal)) ∧
      ∀ a b, y a ≤ y b ↔ z a + noise (word (BitVec.ofNat 32 (r.val * 100000 + a.val))) ≤ z b + noise (word (BitVec.ofNat 32 (r.val * 100000 + b.val))) := by
  obtain ⟨K, hK⟩ := logsoftmax_at V r z hz
  obtain ⟨y, hy, ho⟩ := Soft.softmax (by decide) (fun d => (val V m_v23 (ix2 r d) : EReal)) _ fun d => noisy_at V r d _ (hK d)
  refine ⟨y, fun q => ?_, fun a b => (ho a b).trans ?_⟩
  · rw [← hy q, at_m_v34]
    exact (divf_at _ _ _).trans (congrArg₂ Ideal.div (sexp_at V r q) (ssum_at V r q))
  · constructor <;> intro h <;> linarith

/-! ## The one-hot row and the straight-through sum -/

/-- The one-hot row at an index. -/
theorem hot_at (c : Fin 100000) (h : val V m_v35 (ix1 r) = BitVec.ofNat 32 c.val) : (val V m_v36 (ix2 r q) : EReal) = if q = c then 1 else 0 := by
  have h2 : val V o_v2 (ix2 r q) = BitVec.ofNat 32 c.val := by
    rw [at_o_v2, at_o_v0]
    exact (across_at (e := .i32) _ r q).trans ((stand_at (e := .i32) _ r 0).trans h)
  have h3 : val V o_v3 (ix2 r q) = BitVec.ofNat 32 q.val := by
    rw [at_o_v3, at_o_v1]
    rfl
  have h4 : val V o_v4 (ix2 r q) = IntOp.cmpi .eq (BitVec.ofNat 32 c.val) (BitVec.ofNat 32 q.val) := by
    rw [at_o_v4, ← h2, ← h3]
    generalize val V o_v2 = a
    generalize val V o_v3 = b
    rfl
  have h5 : (val V m_v36 (ix2 r q) : EReal) = (((val V o_v4 (ix2 r q)).toNat : ℝ) : EReal) := by
    rw [at_m_v36]
    generalize val V o_v4 = a
    rfl
  rw [h5, h4]
  have hq := q.isLt
  have hc := c.isLt
  by_cases e : q = c
  · rw [if_pos e, e]
    simp [IntOp.cmpi]
  · have hne : BitVec.ofNat 32 c.val ≠ BitVec.ofNat 32 q.val := fun h => by
      have h' := congrArg BitVec.toNat h
      rw [BitVec.toNat_ofNat, BitVec.toNat_ofNat] at h'
      exact e (Fin.ext (by omega))
    rw [if_neg e]
    simp [IntOp.cmpi, hne]

/-- The reference's result: with real logits, one in the first column where logit plus noise is greatest, zero elsewhere. -/
theorem result_at (z : Fin 100000 → ℝ) (hz : ∀ q, (val V m_v3 (ix2 r q) : EReal) = (z q : EReal)) (c : Fin 100000)
    (hc : First.IsFirst (fun d => ((z d + noise (word (BitVec.ofNat 32 (r.val * 100000 + d.val))) : ℝ) : EReal)) c) :
    (val V m_v38 (ix2 r q) : EReal) = if q = c then 1 else 0 := by
  obtain ⟨y, hy, ho⟩ := softmax_at V r z hz
  have hfun : (fun d => (val V m_v34 (ix2 r d) : EReal)) = fun d => (y d : EReal) := funext hy
  have hcy : First.IsFirst (fun d => (val V m_v34 (ix2 r d) : EReal)) c := by
    rw [hfun]
    refine hc.of_le_iff fun a b => ?_
    rw [EReal.coe_le_coe_iff, EReal.coe_le_coe_iff]
    exact ho a b
  have h35 : val V m_v35 (ix1 r) = BitVec.ofNat 32 c.val := by
    rw [at_m_v35, at_a_v0, at_a_cst, at_a_c]
    exact argmax_at _ _ r (fun d => by rw [hy d]; exact EReal.coe_ne_bot _) c hcy
  have h37 : (val V m_v37 (ix2 r q) : EReal) = (if q = c then 1 else 0) - (y q : EReal) := by
    rw [at_m_v37]
    exact (subf_at _ _ _).trans (congrArg₂ (· - ·) (hot_at V r q c h35) (hy q))
  rw [at_m_v38]
  exact (addf_at _ _ _).trans ((congrArg₂ (· + ·) (hy q) h37).trans (Soft.straight _ _))

end Cert.ReferenceIdeal.RefVal

end
-- ==== Proof.Agree.lean ====
/-
  The two programs' results are one array: where the arguments are real, the kernel's result and the reference's are both one in each
  row's first column of greatest logit plus noise and zero elsewhere.
-/
module

public import proofs.«01_k».proof.Proof.Run
public import proofs.«01_k».proof.Proof.KerRead
public import proofs.«01_k».proof.Proof.RefVal
public import proofs.«01_k».proof.Proof.Gen.ReferenceIdeal

@[expose] public section

noncomputable section

/-! ## The kernel's result -/

namespace Cert.KernelIdeal.Agree

open Cert.KernelIdeal Cert.KernelIdeal.Gen Cert.KernelIdeal.Calls Cert.KernelIdeal.KerRead
open Idealize.ShloMosaic Idealize.SL.Sem

variable (m : (ℓ : Loc nD τ sig) → Buf (Elt Ideal) ℓ) (c : Dev nD)

/-- The first argument as launched, -/
def argX : S512x2048.Idx → EReal := m ((c.tc : Thread nD τ).loc main_arg0)
/-- the second, -/
def argW : S2048x100000.Idx → EReal := m ((c.tc : Thread nD τ).loc main_arg1)
/-- and the third. -/
def argB : S100000.Idx → EReal := m ((c.tc : Thread nD τ).loc main_arg2)

/-- The bias as the tile call reads it: the argument as one row. -/
theorem bias_row (q : Fin 100000) : (V1 (F := Ideal) m c (Proc.devRef .tc main_v0) : S1x100000.Idx → EReal) (ix2 0 q) = argB m c (ix1 q) := by
  have e : (V1 (F := Ideal) m c (Proc.devRef .tc main_v0) : S1x100000.Idx → EReal) = shapeCast (s := S100000) S1x100000 (argB m c) shapeCasts_S100000_S1x100000 := by
    show StableHlo.after hostOps0 (V0 m c) (Proc.devRef .tc main_v0) = _
    rw [StableHlo.after_cons, StableHlo.after_nil]
    refine (StableHlo.reshape_result main_arg2 main_v0 rfl shapeCasts_S100000_S1x100000 _ _ (V0 m c)).trans ?_
    rfl
  rw [e]
  pointwise

/-- The kernel's result: one in the first column of the row where the total is greatest, zero elsewhere. -/
theorem result_at {V : Valuation τ sig (Elt Ideal)} (h : At3 (F := Ideal) m c V) (r : Fin 512) (q : Fin 100000) (s : Fin 100000 → ℝ)
    (hs : ∀ p, (∑ k : Fin 2048, argX m c (ix2 r k) * argW m c (ix2 k p))
      + argB m c (ix1 p) = (s p : EReal)) (f : Fin 100000)
    (hf : First.IsFirst (fun p => ((s p + Word.noise (Word.word (BitVec.ofNat 32 (r.val * 100000 + p.val))) : ℝ) : EReal)) f) :
    (V (Proc.devRef .tc main_v3) : S512x100000.Idx → EReal) (ix2 r q) = if q = f then (1 : EReal) else 0 := by
  obtain ⟨V2, ⟨V1', ⟨V0', rfl, h0⟩, h1⟩, h2⟩ := h
  have e0 : V1 (F := Ideal) m c (Proc.devRef .tc main_arg0) = argX m c := V1_of m c main_arg0 (by decide)
  have e1 : V1 (F := Ideal) m c (Proc.devRef .tc main_arg1) = argW m c := V1_of m c main_arg1 (by decide)
  have ht : ∀ p, total (V1 (F := Ideal) m c (Proc.devRef .tc main_arg0)) (V1 (F := Ideal) m c (Proc.devRef .tc main_arg1)) (V1 (F := Ideal) m c (Proc.devRef .tc main_v0)) r p
      = ((s p + Word.noise (Word.word (BitVec.ofNat 32 (r.val * 100000 + p.val))) : ℝ) : EReal) := fun p => by
    rw [EReal.coe_add, ← hs p, e0, e1]
    exact congrArg (fun z => (_ + z) + _) (bias_row m c p)
  refine hot_total h0 h1 h2 r q (fun p => by rw [ht p]; exact EReal.coe_ne_bot _) f ?_
  rw [funext ht]
  exact hf

end Cert.KernelIdeal.Agree

/-! ## The reference's result, and the two together -/

namespace Cert.Agree

open Idealize.ShloMosaic Idealize.SL.Sem
open Cert.KernelIdeal.Agree

/-- A memory of the kernel. -/
abbrev KMem : Type := (ℓ : Loc Cert.KernelIdeal.nD Cert.KernelIdeal.τ Cert.KernelIdeal.sig) → Buf (Elt Ideal) ℓ
/-- A memory of the reference. -/
abbrev RMem : Type := (ℓ : Loc Cert.ReferenceIdeal.nD Cert.ReferenceIdeal.τ Cert.ReferenceIdeal.sig) → Buf (Elt Ideal) ℓ

/-- A product's entry plus a bias, all of reals, is real. -/
theorem real_entry {n : ℕ} (f g : Fin n → EReal) (b : EReal) (hf : ∀ k, ∃ u : ℝ, f k = (u : EReal)) (hg : ∀ k, ∃ u : ℝ, g k = (u : EReal))
    (hb : ∃ u : ℝ, b = (u : EReal)) : ∃ z : ℝ, (∑ k, f k * g k) + b = (z : EReal) := by
  choose u hu using hf
  choose v hv using hg
  obtain ⟨w, rfl⟩ := hb
  refine ⟨(∑ k, u k * v k) + w, ?_⟩
  rw [EReal.coe_add, Soft.sum_coe _ (fun k => u k * v k) fun k => by rw [hu, hv, EReal.coe_mul]]

/-- What the reference's line leaves in its result, as a function of indices. -/
def refOut (m' : RMem) (c : Dev Cert.ReferenceIdeal.nD) : Cert.ReferenceIdeal.S512x100000.Idx → EReal :=
  Cert.ReferenceIdeal.Line.fin (F := Ideal) m' c (Proc.devRef .tc Cert.ReferenceIdeal.main_v38)

/-- From the same real arguments the kernel's result is the reference's. -/
theorem results_eq (m : KMem) (m' : RMem) (c : Dev Cert.KernelIdeal.nD)
    (h0 : m' ((c.tc : Thread Cert.ReferenceIdeal.nD Cert.ReferenceIdeal.τ).loc Cert.ReferenceIdeal.main_arg0) = argX m c)
    (h1 : m' ((c.tc : Thread Cert.ReferenceIdeal.nD Cert.ReferenceIdeal.τ).loc Cert.ReferenceIdeal.main_arg1) = argW m c)
    (h2 : m' ((c.tc : Thread Cert.ReferenceIdeal.nD Cert.ReferenceIdeal.τ).loc Cert.ReferenceIdeal.main_arg2) = argB m c)
    (hx : ∀ i, ∃ u : ℝ, argX m c i = (u : EReal)) (hw : ∀ i, ∃ u : ℝ, argW m c i = (u : EReal)) (hb : ∀ i, ∃ u : ℝ, argB m c i = (u : EReal))
    {V : Valuation Cert.KernelIdeal.τ Cert.KernelIdeal.sig (Elt Ideal)} (h : Cert.KernelIdeal.Calls.At3 (F := Ideal) m c V) :
    (V (Proc.devRef .tc Cert.KernelIdeal.main_v3) : Cert.KernelIdeal.S512x100000.Idx → EReal) = refOut m' c := by
  funext i
  obtain ⟨r, q, rfl⟩ : ∃ (r : Fin 512) (q : Fin 100000), i = ix2 r q :=
    ⟨i 0, i 1, funext fun b => match b with | ⟨0, _⟩ => rfl | ⟨1, _⟩ => rfl⟩
  have hz := fun p : Fin 100000 => real_entry (fun k : Fin 2048 => argX m c (ix2 r k)) (fun k => argW m c (ix2 k p)) (argB m c (ix1 p))
    (fun k => hx _) (fun k => hw _) (hb _)
  choose z hz using hz
  obtain ⟨f, hf⟩ := First.exists_isFirst (by decide)
    fun p : Fin 100000 => ((z p + Word.noise (Word.word (BitVec.ofNat 32 (r.val * 100000 + p.val))) : ℝ) : EReal)
  rw [Cert.KernelIdeal.Agree.result_at m c h r q z hz f hf]
  generalize hW : StableHlo.launchContents m' c = W
  have e0 : Cert.ReferenceIdeal.Eqs.val (F := Ideal) W Cert.ReferenceIdeal.Line.m_arg0 = argX m c := by
    rw [← h0, ← Cert.ReferenceIdeal.Line.fin_arg m' c (b := Cert.ReferenceIdeal.main_arg0) (by decide), ← hW]
    unfold Cert.ReferenceIdeal.Eqs.val
    rfl
  have e1 : Cert.ReferenceIdeal.Eqs.val (F := Ideal) W Cert.ReferenceIdeal.Line.m_arg1 = argW m c := by
    rw [← h1, ← Cert.ReferenceIdeal.Line.fin_arg m' c (b := Cert.ReferenceIdeal.main_arg1) (by decide), ← hW]
    unfold Cert.ReferenceIdeal.Eqs.val
    rfl
  have e2 : Cert.ReferenceIdeal.Eqs.val (F := Ideal) W Cert.ReferenceIdeal.Line.m_arg2 = argB m c := by
    rw [← h2, ← Cert.ReferenceIdeal.Line.fin_arg m' c (b := Cert.ReferenceIdeal.main_arg2) (by decide), ← hW]
    unfold Cert.ReferenceIdeal.Eqs.val
    rfl
  have hl : ∀ p, (Cert.ReferenceIdeal.Eqs.val (F := Ideal) W Cert.ReferenceIdeal.Line.m_v3 (ix2 r p) : EReal) = (z p : EReal) := fun p => by
    rw [Cert.ReferenceIdeal.RefVal.logit_at, e0, e1, e2]
    exact hz p
  have hr := Cert.ReferenceIdeal.RefVal.result_at W r q z hl f hf
  have e : refOut m' c = Cert.ReferenceIdeal.Eqs.val (F := Ideal) W Cert.ReferenceIdeal.Line.m_v38 := by
    rw [← hW]
    unfold Cert.ReferenceIdeal.Eqs.val
    rfl
  rw [e]
  exact hr.symm

end Cert.Agree

end
-- ==== Proof.lean ====
/-
  The proof of `Cert.Claim`: every execution of the kernel and of the reference terminates with the arguments as launched and every
  counter at zero, and from the same real arguments the kernel's result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Run
public import proofs.«01_k».proof.Proof.KRun
public import proofs.«01_k».proof.Proof.RefOps
public import proofs.«01_k».proof.Proof.Finite
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts
  Cert.Pre_finite.Gen.facts

/-- The kernel terminates with its arguments as launched and every counter at zero. -/
theorem kernel_frame : Cert.quiescent_Kernel := fun m g _ =>
  (θ_run _ _ _).mono (fun _ h => h) (Cert.Kernel.Calls.frame m g)

/-- So does the idealized kernel. -/
theorem kernelIdeal_frame : Cert.quiescent_KernelIdeal := fun m g _ =>
  (θ_run _ _ _).mono (fun _ h => h) (Cert.KernelIdeal.Calls.frame m g)

/-- So does the idealized reference. -/
theorem referenceIdeal_frame : Cert.quiescent_ReferenceIdeal := fun m g _ =>
  (θ_run _ _ _).mono
    (fun r h => ⟨fun c => ⟨(h c _).trans (Cert.ReferenceIdeal.Line.fin_arg m c (by decide)),
      (h c _).trans (Cert.ReferenceIdeal.Line.fin_arg m c (by decide)),
      (h c _).trans (Cert.ReferenceIdeal.Line.fin_arg m c (by decide))⟩, sem_eq_zero_of_no_sems (by decide) _⟩)
    (Cert.ReferenceIdeal.Line.run m g)

/-- From the same real arguments the kernel and the reference end with the same result, their arguments as launched. -/
theorem same_result : Cert.algebraic_KernelIdeal_ReferenceIdeal_pre_finite := fun m g m' g' hpre hargs => by
  refine ⟨fun c => Cert.Agree.refOut m' c, ?_, ?_⟩
  · refine (θ_run _ _ _).mono (fun r h c => ?_) (Cert.KernelIdeal.Calls.run m g)
    obtain ⟨V, hV, hb⟩ := h.1 c
    obtain ⟨hx, hw, hbias⟩ := Cert.Finite.reals _ _ _ (hpre c)
    obtain ⟨h0, h1, h2⟩ := hargs c
    refine ⟨(hb _ (Finset.mem_filter.mpr ⟨StableHlo.devRef_mem_tcRefs Cert.KernelIdeal.main_v3, by decide⟩)).trans
        (Cert.Agree.results_eq m m' c h0 h1 h2 hx hw hbias hV),
      (hb _ (Finset.mem_filter.mpr ⟨StableHlo.devRef_mem_tcRefs Cert.KernelIdeal.main_arg0, by decide⟩)).trans (hV.arg m _ (by decide) (by decide)),
      (hb _ (Finset.mem_filter.mpr ⟨StableHlo.devRef_mem_tcRefs Cert.KernelIdeal.main_arg1, by decide⟩)).trans (hV.arg m _ (by decide) (by decide)),
      (hb _ (Finset.mem_filter.mpr ⟨StableHlo.devRef_mem_tcRefs Cert.KernelIdeal.main_arg2, by decide⟩)).trans (hV.arg m _ (by decide) (by decide))⟩
  · refine (θ_run _ _ _).mono (fun r h c => ?_) (Cert.ReferenceIdeal.Line.run m' g')
    exact ⟨h c _, (h c _).trans (Cert.ReferenceIdeal.Line.fin_arg m' c (by decide)),
      (h c _).trans (Cert.ReferenceIdeal.Line.fin_arg m' c (by decide)),
      (h c _).trans (Cert.ReferenceIdeal.Line.fin_arg m' c (by decide))⟩

/-- All the claims together, with the facts the printed programs ask for. -/
theorem claim : Cert.Claim := ⟨Cert.Kernel.Gen.facts, Cert.KernelIdeal.Gen.facts, Cert.ReferenceIdeal.Gen.facts, Cert.Pre_finite.Gen.facts,
  kernel_frame, kernelIdeal_frame, fun m g _ => kernelIdeal_frame m g trivial, referenceIdeal_frame, fun m g _ => referenceIdeal_frame m g trivial,
  trivial, same_result⟩

end Cert.Proof

end
